-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_layer [hPre_finite_layer : Cert.Pre_finite_layer.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_layer.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_layer [hPre_finite_layer : Cert.Pre_finite_layer.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_layer.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_first [hPre_finite_first : Cert.Pre_finite_first.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_first [hPre_finite_first : Cert.Pre_finite_first.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_layer [hKernel2Ideal : Cert.Kernel2Ideal.Facts] [hPre_finite_layer : Cert.Pre_finite_layer.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_layer m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_layer [hReference2Ideal : Cert.Reference2Ideal.Facts] [hPre_finite_layer : Cert.Pre_finite_layer.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_layer m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_first [hKernel3Ideal : Cert.Kernel3Ideal.Facts] [hPre_finite_first : Cert.Pre_finite_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_first m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_first [hReference3Ideal : Cert.Reference3Ideal.Facts] [hPre_finite_first : Cert.Pre_finite_first.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_first m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_layer [hKernel2Ideal : Cert.Kernel2Ideal.Facts] [hReference2Ideal : Cert.Reference2Ideal.Facts] [hPre_finite_layer : Cert.Pre_finite_layer.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_layer m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_first [hKernel3Ideal : Cert.Kernel3Ideal.Facts] [hReference3Ideal : Cert.Reference3Ideal.Facts] [hPre_finite_first : Cert.Pre_finite_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_first m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_logits : Cert.Pre_finite_logits.Facts) (hPre_finite_layer : Cert.Pre_finite_layer.Facts) (hPre_finite_first : Cert.Pre_finite_first.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Kernel2Ideal_pre_finite_layer (hKernel2Ideal := hKernel2Ideal) (hPre_finite_layer := hPre_finite_layer)
    ∧ quiescent_Reference2Ideal (hReference2Ideal := hReference2Ideal)
    ∧ quiescent_Reference2Ideal_pre_finite_layer (hReference2Ideal := hReference2Ideal) (hPre_finite_layer := hPre_finite_layer)
    ∧ quiescent_Kernel3 (hKernel3 := hKernel3)
    ∧ quiescent_Kernel3Ideal (hKernel3Ideal := hKernel3Ideal)
    ∧ quiescent_Kernel3Ideal_pre_finite_first (hKernel3Ideal := hKernel3Ideal) (hPre_finite_first := hPre_finite_first)
    ∧ quiescent_Reference3Ideal (hReference3Ideal := hReference3Ideal)
    ∧ quiescent_Reference3Ideal_pre_finite_first (hReference3Ideal := hReference3Ideal) (hPre_finite_first := hPre_finite_first)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal_pre_finite_layer (hKernel2Ideal := hKernel2Ideal) (hReference2Ideal := hReference2Ideal) (hPre_finite_layer := hPre_finite_layer)
    ∧ preserves_Kernel3_Kernel3Ideal
    ∧ algebraic_Kernel3Ideal_Reference3Ideal_pre_finite_first (hKernel3Ideal := hKernel3Ideal) (hReference3Ideal := hReference3Ideal) (hPre_finite_first := hPre_finite_first)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_first.lean ====
abbrev S16384x2048 : Shape := ⟨2, ![16384, 2048]⟩
abbrev S2x4x12288 : Shape := ⟨3, ![2, 4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x4x6144 : Shape := ⟨3, ![1, 4, 6144]⟩
abbrev S4x6144 : Shape := ⟨2, ![4, 6144]⟩
abbrev S_ : Shape := ⟨0, ![]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

class Facts : Prop where
  slices_S2x4x12288_S1x4x6144_0_0_6144 : S2x4x12288.Slices ![0, 0, 6144] S1x4x6144
  shapeCasts_S1x4x6144_S4x6144 : S1x4x6144.ShapeCasts S4x6144
  bcast_S_S4x6144 : S_.BroadcastsInDim S4x6144 (![] : Fin 0 → Fin S4x6144.rank)
  reducesTo_S4x6144_S_d0_1 : S4x6144.ReducesTo [0, 1] S_
  h_S_ : 0 < S_.numel
  slices_S2x2048_S1x2048_0_0 : S2x2048.Slices ![0, 0] S1x2048
  shapeCasts_S1x2048_S2048 : S1x2048.ShapeCasts S2048
  bcast_S_S2048 : S_.BroadcastsInDim S2048 (![] : Fin 0 → Fin S2048.rank)
  reducesTo_S2048_S_d0 : S2048.ReducesTo [0] S_
  slices_S2x2048x8192_S1x2048x8192_0_0_0 : S2x2048x8192.Slices ![0, 0, 0] S1x2048x8192
  shapeCasts_S1x2048x8192_S2048x8192 : S1x2048x8192.ShapeCasts S2048x8192
  bitsLt_bf16_f32 : FTy.bits .bf16 < FTy.bits .f32
  bcast_S_S2048x8192 : S_.BroadcastsInDim S2048x8192 (![] : Fin 0 → Fin S2048x8192.rank)
  reducesTo_S2048x8192_S_d0_1 : S2048x8192.ReducesTo [0, 1] S_
  slices_S2x8192x2048_S1x8192x2048_0_0_0 : S2x8192x2048.Slices ![0, 0, 0] S1x8192x2048
  shapeCasts_S1x8192x2048_S8192x2048 : S1x8192x2048.ShapeCasts S8192x2048
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S2x8192x2048 .bf16) (main_v12 : IVec S_ 1) (main_v18 : IVec S2048x8192 1) : IVec S_ 1 :=
  let main_c_3 : IVec S_ 1 := constantI S_ 1 1#1
  let main_v19 : IVec S_ 1 := (fun x v => Host.reduce IntOp.andi x v reducesTo_S2048x8192_S_d0_1 h_S_) main_v18 main_c_3
  let main_v20 : IVec S_ 1 := andi main_v12 main_v19
  let main_v21 : FVec F S1x8192x2048 .bf16 := (extractStridedSlice S1x8192x2048 ![0, 0, 0] · slices_S2x8192x2048_S1x8192x2048_0_0_0) main_arg4
  let main_v22 : FVec F S8192x2048 .bf16 := shapeCast S8192x2048 main_v21 shapeCasts_S1x8192x2048_S8192x2048
  let main_v23 : FVec F S8192x2048 .f32 := (extf .f32 · bitsLt_bf16_f32) main_v22
  let main_v24 : FVec F S8192x2048 .f32 := Host.absf main_v23
  let main_cst_4 : FVec F S_ .f32 := constant S_ .f32 0x7F800000#32
  let main_v25 : FVec F S8192x2048 .f32 := broadcastInDim S8192x2048 ![] bcast_S_S8192x2048 main_cst_4
  let main_v26 : IVec S8192x2048 1 := cmpf .olt main_v24 main_v25
  let main_c_5 : IVec S_ 1 := constantI S_ 1 1#1
  let main_v27 : IVec S_ 1 := (fun x v => Host.reduce IntOp.andi x v reducesTo_S8192x2048_S_d0_1 h_S_) main_v26 main_c_5
  let main_v28 : IVec S_ 1 := andi main_v20 main_v27
  main_v28

def fn {F : FTy → Type} [FloatOps F] (main_arg0 : FVec F S16384x2048 .f32) (main_arg1 : FVec F S2x4x12288 .f32) (main_arg2 : FVec F S2x2048 .f32) (main_arg3 : FVec F S2x2048x8192 .bf16) (main_arg4 : FVec F S2x8192x2048 .bf16) (main_arg5 : FVec F S2048 .f32) : IVec S_ 1 :=
  let main_v0 : FVec F S1x4x6144 .f32 := (extractStridedSlice S1x4x6144 ![0, 0, 6144] · slices_S2x4x12288_S1x4x6144_0_0_6144) main_arg1
  let main_v1 : FVec F S4x6144 .f32 := shapeCast S4x6144 main_v0 shapeCasts_S1x4x6144_S4x6144
  let main_v2 : FVec F S4x6144 .f32 := Host.absf main_v1
  let main_cst : FVec F S_ .f32 := constant S_ .f32 0x7F800000#32
  let main_v3 : FVec F S4x6144 .f32 := broadcastInDim S4x6144 ![] bcast_S_S4x6144 main_cst
  let main_v4 : IVec S4x6144 1 := cmpf .olt main_v2 main_v3
  let main_c : IVec S_ 1 := constantI S_ 1 1#1
  let main_v5 : IVec S_ 1 := (fun x v => Host.reduce IntOp.andi x v reducesTo_S4x6144_S_d0_1 h_S_) main_v4 main_c
  let main_v6 : FVec F S1x2048 .f32 := (extractStridedSlice S1x2048 ![0, 0] · slices_S2x2048_S1x2048_0_0) main_arg2
  let main_v7 : FVec F S2048 .f32 := shapeCast S2048 main_v6 shapeCasts_S1x2048_S2048
  let main_v8 : FVec F S2048 .f32 := Host.absf main_v7
  let main_cst_0 : FVec F S_ .f32 := constant S_ .f32 0x7F800000#32
  let main_v9 : FVec F S2048 .f32 := broadcastInDim S2048 ![] bcast_S_S2048 main_cst_0
  let main_v10 : IVec S2048 1 := cmpf .olt main_v8 main_v9
  let main_c_1 : IVec S_ 1 := constantI S_ 1 1#1
  let main_v11 : IVec S_ 1 := (fun x v => Host.reduce IntOp.andi x v reducesTo_S2048_S_d0 h_S_) main_v10 main_c_1
  let main_v12 : IVec S_ 1 := andi main_v5 main_v11
  let main_v13 : FVec F S1x2048x8192 .bf16 := (extractStridedSlice S1x2048x8192 ![0, 0, 0] · slices_S2x2048x8192_S1x2048x8192_0_0_0) main_arg3
  let main_v14 : FVec F S2048x8192 .bf16 := shapeCast S2048x8192 main_v13 shapeCasts_S1x2048x8192_S2048x8192
  let main_v15 : FVec F S2048x8192 .f32 := (extf .f32 · bitsLt_bf16_f32) main_v14
  let main_v16 : FVec F S2048x8192 .f32 := Host.absf main_v15
  let main_cst_2 : FVec F S_ .f32 := constant S_ .f32 0x7F800000#32
  let main_v17 : FVec F S2048x8192 .f32 := broadcastInDim S2048x8192 ![] bcast_S_S2048x8192 main_cst_2
  let main_v18 : IVec S2048x8192 1 := cmpf .olt main_v16 main_v17
  fn_part1 (F := F) main_arg4 main_v12 main_v18
-- ==== Pre_finite_layer.lean ====
abbrev S16384x2048 : Shape := ⟨2, ![16384, 2048]⟩
abbrev S2x4x12288 : Shape := ⟨3, ![2, 4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x4x6144 : Shape := ⟨3, ![1, 4, 6144]⟩
abbrev S4x6144 : Shape := ⟨2, ![4, 6144]⟩
abbrev S_ : Shape := ⟨0, ![]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

class Facts : Prop where
  slices_S2x4x12288_S1x4x6144_1_0_6144 : S2x4x12288.Slices ![1, 0, 6144] S1x4x6144
  shapeCasts_S1x4x6144_S4x6144 : S1x4x6144.ShapeCasts S4x6144
  bcast_S_S4x6144 : S_.BroadcastsInDim S4x6144 (![] : Fin 0 → Fin S4x6144.rank)
  reducesTo_S4x6144_S_d0_1 : S4x6144.ReducesTo [0, 1] S_
  h_S_ : 0 < S_.numel
  slices_S2x2048_S1x2048_1_0 : S2x2048.Slices ![1, 0] S1x2048
  shapeCasts_S1x2048_S2048 : S1x2048.ShapeCasts S2048
  bcast_S_S2048 : S_.BroadcastsInDim S2048 (![] : Fin 0 → Fin S2048.rank)
  reducesTo_S2048_S_d0 : S2048.ReducesTo [0] S_
  slices_S2x2048x8192_S1x2048x8192_1_0_0 : S2x2048x8192.Slices ![1, 0, 0] S1x2048x8192
  shapeCasts_S1x2048x8192_S2048x8192 : S1x2048x8192.ShapeCasts S2048x8192
  bitsLt_bf16_f32 : FTy.bits .bf16 < FTy.bits .f32
  bcast_S_S2048x8192 : S_.BroadcastsInDim S2048x8192 (![] : Fin 0 → Fin S2048x8192.rank)
  reducesTo_S2048x8192_S_d0_1 : S2048x8192.ReducesTo [0, 1] S_
  slices_S2x8192x2048_S1x8192x2048_1_0_0 : S2x8192x2048.Slices ![1, 0, 0] S1x8192x2048
  shapeCasts_S1x8192x2048_S8192x2048 : S1x8192x2048.ShapeCasts S8192x2048
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S2x8192x2048 .bf16) (main_v12 : IVec S_ 1) (main_v18 : IVec S2048x8192 1) : IVec S_ 1 :=
  let main_c_3 : IVec S_ 1 := constantI S_ 1 1#1
  let main_v19 : IVec S_ 1 := (fun x v => Host.reduce IntOp.andi x v reducesTo_S2048x8192_S_d0_1 h_S_) main_v18 main_c_3
  let main_v20 : IVec S_ 1 := andi main_v12 main_v19
  let main_v21 : FVec F S1x8192x2048 .bf16 := (extractStridedSlice S1x8192x2048 ![1, 0, 0] · slices_S2x8192x2048_S1x8192x2048_1_0_0) main_arg4
  let main_v22 : FVec F S8192x2048 .bf16 := shapeCast S8192x2048 main_v21 shapeCasts_S1x8192x2048_S8192x2048
  let main_v23 : FVec F S8192x2048 .f32 := (extf .f32 · bitsLt_bf16_f32) main_v22
  let main_v24 : FVec F S8192x2048 .f32 := Host.absf main_v23
  let main_cst_4 : FVec F S_ .f32 := constant S_ .f32 0x7F800000#32
  let main_v25 : FVec F S8192x2048 .f32 := broadcastInDim S8192x2048 ![] bcast_S_S8192x2048 main_cst_4
  let main_v26 : IVec S8192x2048 1 := cmpf .olt main_v24 main_v25
  let main_c_5 : IVec S_ 1 := constantI S_ 1 1#1
  let main_v27 : IVec S_ 1 := (fun x v => Host.reduce IntOp.andi x v reducesTo_S8192x2048_S_d0_1 h_S_) main_v26 main_c_5
  let main_v28 : IVec S_ 1 := andi main_v20 main_v27
  main_v28

def fn {F : FTy → Type} [FloatOps F] (main_arg0 : FVec F S16384x2048 .f32) (main_arg1 : FVec F S2x4x12288 .f32) (main_arg2 : FVec F S2x2048 .f32) (main_arg3 : FVec F S2x2048x8192 .bf16) (main_arg4 : FVec F S2x8192x2048 .bf16) (main_arg5 : FVec F S2048 .f32) : IVec S_ 1 :=
  let main_v0 : FVec F S1x4x6144 .f32 := (extractStridedSlice S1x4x6144 ![1, 0, 6144] · slices_S2x4x12288_S1x4x6144_1_0_6144) main_arg1
  let main_v1 : FVec F S4x6144 .f32 := shapeCast S4x6144 main_v0 shapeCasts_S1x4x6144_S4x6144
  let main_v2 : FVec F S4x6144 .f32 := Host.absf main_v1
  let main_cst : FVec F S_ .f32 := constant S_ .f32 0x7F800000#32
  let main_v3 : FVec F S4x6144 .f32 := broadcastInDim S4x6144 ![] bcast_S_S4x6144 main_cst
  let main_v4 : IVec S4x6144 1 := cmpf .olt main_v2 main_v3
  let main_c : IVec S_ 1 := constantI S_ 1 1#1
  let main_v5 : IVec S_ 1 := (fun x v => Host.reduce IntOp.andi x v reducesTo_S4x6144_S_d0_1 h_S_) main_v4 main_c
  let main_v6 : FVec F S1x2048 .f32 := (extractStridedSlice S1x2048 ![1, 0] · slices_S2x2048_S1x2048_1_0) main_arg2
  let main_v7 : FVec F S2048 .f32 := shapeCast S2048 main_v6 shapeCasts_S1x2048_S2048
  let main_v8 : FVec F S2048 .f32 := Host.absf main_v7
  let main_cst_0 : FVec F S_ .f32 := constant S_ .f32 0x7F800000#32
  let main_v9 : FVec F S2048 .f32 := broadcastInDim S2048 ![] bcast_S_S2048 main_cst_0
  let main_v10 : IVec S2048 1 := cmpf .olt main_v8 main_v9
  let main_c_1 : IVec S_ 1 := constantI S_ 1 1#1
  let main_v11 : IVec S_ 1 := (fun x v => Host.reduce IntOp.andi x v reducesTo_S2048_S_d0 h_S_) main_v10 main_c_1
  let main_v12 : IVec S_ 1 := andi main_v5 main_v11
  let main_v13 : FVec F S1x2048x8192 .bf16 := (extractStridedSlice S1x2048x8192 ![1, 0, 0] · slices_S2x2048x8192_S1x2048x8192_1_0_0) main_arg3
  let main_v14 : FVec F S2048x8192 .bf16 := shapeCast S2048x8192 main_v13 shapeCasts_S1x2048x8192_S2048x8192
  let main_v15 : FVec F S2048x8192 .f32 := (extf .f32 · bitsLt_bf16_f32) main_v14
  let main_v16 : FVec F S2048x8192 .f32 := Host.absf main_v15
  let main_cst_2 : FVec F S_ .f32 := constant S_ .f32 0x7F800000#32
  let main_v17 : FVec F S2048x8192 .f32 := broadcastInDim S2048x8192 ![] bcast_S_S2048x8192 main_cst_2
  let main_v18 : IVec S2048x8192 1 := cmpf .olt main_v16 main_v17
  fn_part1 (F := F) main_arg4 main_v12 main_v18
-- ==== Pre_finite_logits.lean ====
abbrev S16384x6144 : Shape := ⟨2, ![16384, 6144]⟩
abbrev S4x3x16x4096 : Shape := ⟨4, ![4, 3, 16, 4096]⟩
abbrev S2x2048x8192 : Shape := ⟨3, ![2, 2048, 8192]⟩
abbrev S2x8192x2048 : Shape := ⟨3, ![2, 8192, 2048]⟩
abbrev S4x2048 : Shape := ⟨2, ![4, 2048]⟩
abbrev S2x2048x12288 : Shape := ⟨3, ![2, 2048, 12288]⟩
abbrev S2x12288 : Shape := ⟨2, ![2, 12288]⟩
abbrev S16384x4096 : Shape := ⟨2, ![16384, 4096]⟩
abbrev S_ : Shape := ⟨0, ![]⟩

class Facts : Prop where
  slices_S16384x6144_S16384x4096_0_0 : S16384x6144.Slices ![0, 0] S16384x4096
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4x3x16x4096 : S_.BroadcastsInDim S4x3x16x4096 (![] : Fin 0 → Fin S4x3x16x4096.rank)
  reducesTo_S4x3x16x4096_S_d0_1_2_3 : S4x3x16x4096.ReducesTo [0, 1, 2, 3] S_

variable [Facts]

def fn {F : FTy → Type} [FloatOps F] (main_arg0 : FVec F S16384x6144 .bf16) (main_arg1 : FVec F S4x3x16x4096 .f32) (main_arg2 : FVec F S2x2048x8192 .f32) (main_arg3 : FVec F S2x8192x2048 .f32) (main_arg4 : FVec F S4x2048 .f32) (main_arg5 : FVec F S2x2048x12288 .f32) (main_arg6 : FVec F S2x12288 .f32) : IVec S_ 1 :=
  let main_v0 : FVec F S16384x4096 .bf16 := (extractStridedSlice S16384x4096 ![0, 0] · slices_S16384x6144_S16384x4096_0_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_c : IVec S_ 1 := constantI S_ 1 1#1
  let main_v5 : IVec S_ 1 := (fun x v => Host.reduce IntOp.andi x v reducesTo_S16384x4096_S_d0_1 h_S_) main_v4 main_c
  let main_v6 : FVec F S4x3x16x4096 .f32 := Host.absf main_arg1
  let main_cst_0 : FVec F S_ .f32 := constant S_ .f32 0x7F800000#32
  let main_v7 : FVec F S4x3x16x4096 .f32 := broadcastInDim S4x3x16x4096 ![] bcast_S_S4x3x16x4096 main_cst_0
  let main_v8 : IVec S4x3x16x4096 1 := cmpf .olt main_v6 main_v7
  let main_c_1 : IVec S_ 1 := constantI S_ 1 1#1
  let main_v9 : IVec S_ 1 := (fun x v => Host.reduce IntOp.andi x v reducesTo_S4x3x16x4096_S_d0_1_2_3 h_S_) main_v8 main_c_1
  let main_v10 : IVec S_ 1 := andi main_v5 main_v9
  main_v10
-- ==== Kernel.lean ====
abbrev S16384x6144 : Shape := ⟨2, ![16384, 6144]⟩
abbrev S4x3x16x4096 : Shape := ⟨4, ![4, 3, 16, 4096]⟩
abbrev S2x2048x8192 : Shape := ⟨3, ![2, 2048, 8192]⟩
abbrev S2x8192x2048 : Shape := ⟨3, ![2, 8192, 2048]⟩
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S16x2048 : Shape := ⟨2, ![16, 2048]⟩
abbrev S2x1x12288 : Shape := ⟨3, ![2, 1, 12288]⟩
abbrev S4x4096x6144 : Shape := ⟨3, ![4, 4096, 6144]⟩
abbrev S4096x8192 : Shape := ⟨2, ![4096, 8192]⟩
abbrev S16384x2048 : Shape := ⟨2, ![16384, 2048]⟩
abbrev S4x4096x2048 : Shape := ⟨3, ![4, 4096, 2048]⟩
abbrev S16x12288 : Shape := ⟨2, ![16, 12288]⟩
abbrev S1x4096x128 : Shape := ⟨3, ![1, 4096, 128]⟩
abbrev S1x3x16x4096 : Shape := ⟨4, ![1, 3, 16, 4096]⟩
abbrev S64x8192 : Shape := ⟨2, ![64, 8192]⟩
abbrev S256x2048 : Shape := ⟨2, ![256, 2048]⟩
abbrev S1x2048x256 : Shape := ⟨3, ![1, 2048, 256]⟩
abbrev S1x1x256 : Shape := ⟨3, ![1, 1, 256]⟩
abbrev S16x256 : Shape := ⟨2, ![16, 256]⟩
abbrev S4096x256 : Shape := ⟨2, ![4096, 256]⟩
abbrev S144x4096 : Shape := ⟨2, ![144, 4096]⟩
abbrev S256x4096 : Shape := ⟨2, ![256, 4096]⟩
abbrev S2048x256 : Shape := ⟨2, ![2048, 256]⟩
abbrev S1x256 : Shape := ⟨2, ![1, 256]⟩
abbrev S8x1 : Shape := ⟨2, ![8, 1]⟩
abbrev S1x1x1x512 : Shape := ⟨4, ![1, 1, 1, 512]⟩
abbrev S1x512 : Shape := ⟨2, ![1, 512]⟩
abbrev S8x512 : Shape := ⟨2, ![8, 512]⟩
abbrev S120x512 : Shape := ⟨2, ![120, 512]⟩
abbrev S128x512 : Shape := ⟨2, ![128, 512]⟩
abbrev S512x128 : Shape := ⟨2, ![512, 128]⟩
abbrev S1x512x128 : Shape := ⟨3, ![1, 512, 128]⟩
abbrev S16x1 : Shape := ⟨2, ![16, 1]⟩
abbrev S16x4096 : Shape := ⟨2, ![16, 4096]⟩
abbrev S128x1 : Shape := ⟨2, ![128, 1]⟩
abbrev S128x4096 : Shape := ⟨2, ![128, 4096]⟩
abbrev S512x512 : Shape := ⟨2, ![512, 512]⟩
abbrev S512x256 : Shape := ⟨2, ![512, 256]⟩
abbrev S256x512 : Shape := ⟨2, ![256, 512]⟩
abbrev S144x512 : Shape := ⟨2, ![144, 512]⟩
abbrev S512 : Shape := ⟨1, ![512]⟩

abbrev nBuf : Space → Nat
  | .hbm => 18
  | .vmem => 28
  | .smem => 0
  | _ => 0

abbrev bufTy : (tb : Table) → Fin (tcTables nBuf tb) → BufTy
  | .hbm, ⟨0, _⟩ => ⟨S16384x6144, .bf16⟩
  | .hbm, ⟨1, _⟩ => ⟨S4x3x16x4096, .f32⟩
  | .hbm, ⟨2, _⟩ => ⟨S2x2048x8192, .f32⟩
  | .hbm, ⟨3, _⟩ => ⟨S2x8192x2048, .f32⟩
  | .hbm, ⟨4, _⟩ => ⟨S4x2048, .f32⟩
  | .hbm, ⟨5, _⟩ => ⟨S2x2048x12288, .f32⟩
  | .hbm, ⟨6, _⟩ => ⟨S2x12288, .f32⟩
  | .hbm, ⟨7, _⟩ => ⟨S_, .i32⟩
  | .hbm, ⟨8, _⟩ => ⟨S_, .f32⟩
  | .hbm, ⟨9, _⟩ => ⟨S16x2048, .f32⟩
  | .hbm, ⟨10, _⟩ => ⟨S2x1x12288, .f32⟩
  | .hbm, ⟨11, _⟩ => ⟨S4x4096x6144, .bf16⟩
  | .hbm, ⟨12, _⟩ => ⟨S4096x8192, .f32⟩
  | .hbm, ⟨13, _⟩ => ⟨S16384x2048, .f32⟩
  | .hbm, ⟨14, _⟩ => ⟨S4x4096x2048, .bf16⟩
  | .hbm, ⟨15, _⟩ => ⟨S4096x8192, .bf16⟩
  | .hbm, ⟨16, _⟩ => ⟨S16384x2048, .bf16⟩
  | .hbm, ⟨17, _⟩ => ⟨S16x12288, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x3x16x4096, .f32⟩
  | .local _ .vmem, ⟨7, _⟩ => ⟨S1x3x16x4096, .f32⟩
  | .local _ .vmem, ⟨8, _⟩ => ⟨S64x8192, .f32⟩
  | .local _ .vmem, ⟨9, _⟩ => ⟨S64x8192, .f32⟩
  | .local _ .vmem, ⟨10, _⟩ => ⟨S256x2048, .f32⟩
  | .local _ .vmem, ⟨11, _⟩ => ⟨S256x2048, .f32⟩
  | .local _ .vmem, ⟨12, _⟩ => ⟨S16x2048, .f32⟩
  | .local _ .vmem, ⟨13, _⟩ => ⟨S1x2048x256, .f32⟩
  | .local _ .vmem, ⟨14, _⟩ => ⟨S1x2048x256, .f32⟩
  | .local _ .vmem, ⟨15, _⟩ => ⟨S1x1x256, .f32⟩
  | .local _ .vmem, ⟨16, _⟩ => ⟨S1x1x256, .f32⟩
  | .local _ .vmem, ⟨17, _⟩ => ⟨S1x4096x128, .bf16⟩
  | .local _ .vmem, ⟨18, _⟩ => ⟨S1x4096x128, .bf16⟩
  | .local _ .vmem, ⟨19, _⟩ => ⟨S64x8192, .bf16⟩
  | .local _ .vmem, ⟨20, _⟩ => ⟨S64x8192, .bf16⟩
  | .local _ .vmem, ⟨21, _⟩ => ⟨S256x2048, .bf16⟩
  | .local _ .vmem, ⟨22, _⟩ => ⟨S256x2048, .bf16⟩
  | .local _ .vmem, ⟨23, _⟩ => ⟨S16x256, .f32⟩
  | .local _ .vmem, ⟨24, _⟩ => ⟨S16x256, .f32⟩
  | .local _ .vmem, ⟨25, _⟩ => ⟨S4096x256, .bf16⟩
  | .local _ .vmem, ⟨26, _⟩ => ⟨S144x4096, .bf16⟩
  | .local _ .vmem, ⟨27, _⟩ => ⟨S256x4096, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 16], ![false, false]⟩

def k0_off1 (i : grid0.Coords) : Fin 4 → Nat :=
  let c0_17 : Index := 0#32
  let c0_18 : Index := 0#32
  let arg1 : BitVec 32 := BitVec.ofNat 32 (i 1).val
  let v25 : Index := Scalar.indexCast arg1
  let c0_19 : Index := 0#32
  ![0, 0, v25.toNat, 0]
def k0_off2 (i : grid0.Coords) : Fin 4 → Nat :=
  let c0_20 : Index := 0#32
  let c1 : Index := 1#32
  let arg1 : BitVec 32 := BitVec.ofNat 32 (i 1).val
  let v30 : Index := Scalar.indexCast arg1
  let c0_21 : Index := 0#32
  ![0, 1, v30.toNat, 0]
def k0_off3 (i : grid0.Coords) : Fin 4 → Nat :=
  let c0_22 : Index := 0#32
  let c2 : Index := 2#32
  let arg1 : BitVec 32 := BitVec.ofNat 32 (i 1).val
  let v35 : Index := Scalar.indexCast arg1
  let c0_23 : Index := 0#32
  ![0, 2, v35.toNat, 0]
def k0_off4 (i : grid0.Coords) : Fin 4 → Nat :=
  let c0_43 : Index := 0#32
  let c0_44 : Index := 0#32
  let arg1 : BitVec 32 := BitVec.ofNat 32 (i 1).val
  let v80 : Index := Scalar.indexCast arg1
  let c512 : Index := 512#32
  ![0, 0, v80.toNat, 512]
def k0_off5 (i : grid0.Coords) : Fin 4 → Nat :=
  let c0_46 : Index := 0#32
  let c1_47 : Index := 1#32
  let arg1 : BitVec 32 := BitVec.ofNat 32 (i 1).val
  let v85 : Index := Scalar.indexCast arg1
  let c512_48 : Index := 512#32
  ![0, 1, v85.toNat, 512]
def k0_off6 (i : grid0.Coords) : Fin 4 → Nat :=
  let c0_50 : Index := 0#32
  let c2_51 : Index := 2#32
  let arg1 : BitVec 32 := BitVec.ofNat 32 (i 1).val
  let v90 : Index := Scalar.indexCast arg1
  let c512_52 : Index := 512#32
  ![0, 2, v90.toNat, 512]
def k0_off7 (i : grid0.Coords) : Fin 4 → Nat :=
  let c0_73 : Index := 0#32
  let c0_74 : Index := 0#32
  let arg1 : BitVec 32 := BitVec.ofNat 32 (i 1).val
  let v135 : Index := Scalar.indexCast arg1
  let c1024 : Index := 1024#32
  ![0, 0, v135.toNat, 1024]
def k0_off8 (i : grid0.Coords) : Fin 4 → Nat :=
  let c0_76 : Index := 0#32
  let c1_77 : Index := 1#32
  let arg1 : BitVec 32 := BitVec.ofNat 32 (i 1).val
  let v140 : Index := Scalar.indexCast arg1
  let c1024_78 : Index := 1024#32
  ![0, 1, v140.toNat, 1024]
def k0_off9 (i : grid0.Coords) : Fin 4 → Nat :=
  let c0_80 : Index := 0#32
  let c2_81 : Index := 2#32
  let arg1 : BitVec 32 := BitVec.ofNat 32 (i 1).val
  let v145 : Index := Scalar.indexCast arg1
  let c1024_82 : Index := 1024#32
  ![0, 2, v145.toNat, 1024]
def k0_off10 (i : grid0.Coords) : Fin 4 → Nat :=
  let c0_103 : Index := 0#32
  let c0_104 : Index := 0#32
  let arg1 : BitVec 32 := BitVec.ofNat 32 (i 1).val
  let v190 : Index := Scalar.indexCast arg1
  let c1536 : Index := 1536#32
  ![0, 0, v190.toNat, 1536]
def k0_off11 (i : grid0.Coords) : Fin 4 → Nat :=
  let c0_106 : Index := 0#32
  let c1_107 : Index := 1#32
  let arg1 : BitVec 32 := BitVec.ofNat 32 (i 1).val
  let v195 : Index := Scalar.indexCast arg1
  let c1536_108 : Index := 1536#32
  ![0, 1, v195.toNat, 1536]
def k0_off12 (i : grid0.Coords) : Fin 4 → Nat :=
  let c0_110 : Index := 0#32
  let c2_111 : Index := 2#32
  let arg1 : BitVec 32 := BitVec.ofNat 32 (i 1).val
  let v200 : Index := Scalar.indexCast arg1
  let c1536_112 : Index := 1536#32
  ![0, 2, v200.toNat, 1536]
def k0_off13 (i : grid0.Coords) : Fin 4 → Nat :=
  let c0_133 : Index := 0#32
  let c0_134 : Index := 0#32
  let arg1 : BitVec 32 := BitVec.ofNat 32 (i 1).val
  let v245 : Index := Scalar.indexCast arg1
  let c2048 : Index := 2048#32
  ![0, 0, v245.toNat, 2048]
def k0_off14 (i : grid0.Coords) : Fin 4 → Nat :=
  let c0_136 : Index := 0#32
  let c1_137 : Index := 1#32
  let arg1 : BitVec 32 := BitVec.ofNat 32 (i 1).val
  let v250 : Index := Scalar.indexCast arg1
  let c2048_138 : Index := 2048#32
  ![0, 1, v250.toNat, 2048]
def k0_off15 (i : grid0.Coords) : Fin 4 → Nat :=
  let c0_140 : Index := 0#32
  let c2_141 : Index := 2#32
  let arg1 : BitVec 32 := BitVec.ofNat 32 (i 1).val
  let v255 : Index := Scalar.indexCast arg1
  let c2048_142 : Index := 2048#32
  ![0, 2, v255.toNat, 2048]
def k0_off16 (i : grid0.Coords) : Fin 4 → Nat :=
  let c0_163 : Index := 0#32
  let c0_164 : Index := 0#32
  let arg1 : BitVec 32 := BitVec.ofNat 32 (i 1).val
  let v300 : Index := Scalar.indexCast arg1
  let c2560 : Index := 2560#32
  ![0, 0, v300.toNat, 2560]
def k0_off17 (i : grid0.Coords) : Fin 4 → Nat :=
  let c0_166 : Index := 0#32
  let c1_167 : Index := 1#32
  let arg1 : BitVec 32 := BitVec.ofNat 32 (i 1).val
  let v305 : Index := Scalar.indexCast arg1
  let c2560_168 : Index := 2560#32
  ![0, 1, v305.toNat, 2560]
def k0_off18 (i : grid0.Coords) : Fin 4 → Nat :=
  let c0_170 : Index := 0#32
  let c2_171 : Index := 2#32
  let arg1 : BitVec 32 := BitVec.ofNat 32 (i 1).val
  let v310 : Index := Scalar.indexCast arg1
  let c2560_172 : Index := 2560#32
  ![0, 2, v310.toNat, 2560]
def k0_off19 (i : grid0.Coords) : Fin 4 → Nat :=
  let c0_193 : Index := 0#32
  let c0_194 : Index := 0#32
  let arg1 : BitVec 32 := BitVec.ofNat 32 (i 1).val
  let v355 : Index := Scalar.indexCast arg1
  let c3072 : Index := 3072#32
  ![0, 0, v355.toNat, 3072]
def k0_off20 (i : grid0.Coords) : Fin 4 → Nat :=
  let c0_196 : Index := 0#32
  let c1_197 : Index := 1#32
  let arg1 : BitVec 32 := BitVec.ofNat 32 (i 1).val
  let v360 : Index := Scalar.indexCast arg1
  let c3072_198 : Index := 3072#32
  ![0, 1, v360.toNat, 3072]
def k0_off21 (i : grid0.Coords) : Fin 4 → Nat :=
  let c0_200 : Index := 0#32
  let c2_201 : Index := 2#32
  let arg1 : BitVec 32 := BitVec.ofNat 32 (i 1).val
  let v365 : Index := Scalar.indexCast arg1
  let c3072_202 : Index := 3072#32
  ![0, 2, v365.toNat, 3072]
def k0_off22 (i : grid0.Coords) : Fin 4 → Nat :=
  let c0_223 : Index := 0#32
  let c0_224 : Index := 0#32
  let arg1 : BitVec 32 := BitVec.ofNat 32 (i 1).val
  let v410 : Index := Scalar.indexCast arg1
  let c3584 : Index := 3584#32
  ![0, 0, v410.toNat, 3584]
def k0_off23 (i : grid0.Coords) : Fin 4 → Nat :=
  let c0_226 : Index := 0#32
  let c1_227 : Index := 1#32
  let arg1 : BitVec 32 := BitVec.ofNat 32 (i 1).val
  let v415 : Index := Scalar.indexCast arg1
  let c3584_228 : Index := 3584#32
  ![0, 1, v415.toNat, 3584]
def k0_off24 (i : grid0.Coords) : Fin 4 → Nat :=
  let c0_230 : Index := 0#32
  let c2_231 : Index := 2#32
  let arg1 : BitVec 32 := BitVec.ofNat 32 (i 1).val
  let v420 : Index := Scalar.indexCast arg1
  let c3584_232 : Index := 3584#32
  ![0, 2, v420.toNat, 3584]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c47_i32 : BitVec 32 := 47#32
  let v2 : BitVec 32 := Scalar.minsi v1 c47_i32
  let c48_i32 : BitVec 32 := 48#32
  let v3 : BitVec 32 := Scalar.divsi v2 c48_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c48_i32 c0_i32_1
  let v10 : BitVec 32 := Scalar.extui v9
  let c0_i32_2 : BitVec 32 := 0#32
  let v11 : BitVec 1 := Scalar.cmpi .slt c48_i32 c0_i32_2
  let v12 : BitVec 32 := Scalar.extui v11
  let v13 : BitVec 32 := Scalar.subi v10 v12
  let v14 : BitVec 1 := Scalar.cmpi .ne v8 v13
  let v15 : BitVec 32 := Scalar.remsi v2 c48_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi c1_i32_4 v19
  let c16_i32_5 : BitVec 32 := 16#32
  let v21 : BitVec 32 := Scalar.muli arg0 c16_i32_5
  let v22 : BitVec 32 := Scalar.addi v21 arg1
  let c47_i32_6 : BitVec 32 := 47#32
  let v23 : BitVec 32 := Scalar.minsi v22 c47_i32_6
  let c48_i32_7 : BitVec 32 := 48#32
  let c0_i32_8 : BitVec 32 := 0#32
  let v24 : BitVec 1 := Scalar.cmpi .eq c48_i32_7 c0_i32_8
  let c1_i32_9 : BitVec 32 := 1#32
  let v25 : BitVec 32 := Scalar.select v24 c1_i32_9 c48_i32_7
  let v26 : BitVec 32 := Scalar.remsi v23 v25
  let c0_i32_10 : BitVec 32 := 0#32
  let v27 : BitVec 1 := Scalar.cmpi .ne v26 c0_i32_10
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let v31 : BitVec 1 := Scalar.andi v30 v27
  let v32 : BitVec 32 := Scalar.addi v26 v25
  let v33 : BitVec 32 := Scalar.select v31 v32 v26
  let c0_i32_13 : BitVec 32 := 0#32
  let c0_i32_14 : BitVec 32 := 0#32
  ![v20.toNat, c0_i32_13.toNat, v33.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c47_i32 : BitVec 32 := 47#32
  let v2 : BitVec 32 := Scalar.minsi v1 c47_i32
  let c48_i32 : BitVec 32 := 48#32
  let v3 : BitVec 32 := Scalar.divsi v2 c48_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c48_i32 c0_i32_1
  let v10 : BitVec 32 := Scalar.extui v9
  let c0_i32_2 : BitVec 32 := 0#32
  let v11 : BitVec 1 := Scalar.cmpi .slt c48_i32 c0_i32_2
  let v12 : BitVec 32 := Scalar.extui v11
  let v13 : BitVec 32 := Scalar.subi v10 v12
  let v14 : BitVec 1 := Scalar.cmpi .ne v8 v13
  let v15 : BitVec 32 := Scalar.remsi v2 c48_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi c1_i32_4 v19
  let c16_i32_5 : BitVec 32 := 16#32
  let v21 : BitVec 32 := Scalar.muli arg0 c16_i32_5
  let v22 : BitVec 32 := Scalar.addi v21 arg1
  let c47_i32_6 : BitVec 32 := 47#32
  let v23 : BitVec 32 := Scalar.minsi v22 c47_i32_6
  let c48_i32_7 : BitVec 32 := 48#32
  let c0_i32_8 : BitVec 32 := 0#32
  let v24 : BitVec 1 := Scalar.cmpi .eq c48_i32_7 c0_i32_8
  let c1_i32_9 : BitVec 32 := 1#32
  let v25 : BitVec 32 := Scalar.select v24 c1_i32_9 c48_i32_7
  let v26 : BitVec 32 := Scalar.remsi v23 v25
  let c0_i32_10 : BitVec 32 := 0#32
  let v27 : BitVec 1 := Scalar.cmpi .ne v26 c0_i32_10
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let v31 : BitVec 1 := Scalar.andi v30 v27
  let v32 : BitVec 32 := Scalar.addi v26 v25
  let v33 : BitVec 32 := Scalar.select v31 v32 v26
  let c0_i32_13 : BitVec 32 := 0#32
  let c0_i32_14 : BitVec 32 := 0#32
  ![v20.toNat, c0_i32_13.toNat, v33.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c47_i32 : BitVec 32 := 47#32
  let v2 : BitVec 32 := Scalar.minsi v1 c47_i32
  let c0_i32 : BitVec 32 := 0#32
  let c0_i32_0 : BitVec 32 := 0#32
  ![c0_i32.toNat, v2.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x6144 : Shape := ⟨2, ![16384, 6144]⟩
abbrev S4x3x16x4096 : Shape := ⟨4, ![4, 3, 16, 4096]⟩
abbrev S2x2048x8192 : Shape := ⟨3, ![2, 2048, 8192]⟩
abbrev S2x8192x2048 : Shape := ⟨3, ![2, 8192, 2048]⟩
abbrev S4x2048 : Shape := ⟨2, ![4, 2048]⟩
abbrev S2x2048x12288 : Shape := ⟨3, ![2, 2048, 12288]⟩
abbrev S2x12288 : Shape := ⟨2, ![2, 12288]⟩
abbrev S4x4096x6144 : Shape := ⟨3, ![4, 4096, 6144]⟩
abbrev S4x4096x2048 : Shape := ⟨3, ![4, 4096, 2048]⟩
abbrev S4x4096x16x128 : Shape := ⟨4, ![4, 4096, 16, 128]⟩
abbrev S4x16x4096x128 : Shape := ⟨4, ![4, 16, 4096, 128]⟩
abbrev S_ : Shape := ⟨0, ![]⟩
abbrev S4x16x4096 : Shape := ⟨3, ![4, 16, 4096]⟩
abbrev S4x16x4096x4096 : Shape := ⟨4, ![4, 16, 4096, 4096]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096x1 : Shape := ⟨4, ![4, 16, 4096, 1]⟩
abbrev S16x2048 : Shape := ⟨2, ![16, 2048]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S4096x8192 : Shape := ⟨2, ![4096, 8192]⟩
abbrev S16384x2048 : Shape := ⟨2, ![16384, 2048]⟩

abbrev nBuf : Space → Nat
  | .hbm => 81
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x3x16x4096, .f32⟩
  | .hbm, ⟨2, _⟩ => ⟨S2x2048x8192, .f32⟩
  | .hbm, ⟨3, _⟩ => ⟨S2x8192x2048, .f32⟩
  | .hbm, ⟨4, _⟩ => ⟨S4x2048, .f32⟩
  | .hbm, ⟨5, _⟩ => ⟨S2x2048x12288, .f32⟩
  | .hbm, ⟨6, _⟩ => ⟨S2x12288, .f32⟩
  | .hbm, ⟨7, _⟩ => ⟨S16384x6144, .f32⟩
  | .hbm, ⟨8, _⟩ => ⟨S4x4096x6144, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x16x128, .f32⟩
  | .hbm, ⟨13, _⟩ => ⟨S4x16x4096x128, .f32⟩
  | .hbm, ⟨14, _⟩ => ⟨S4x4096x16x128, .f32⟩
  | .hbm, ⟨15, _⟩ => ⟨S4x16x4096x128, .f32⟩
  | .hbm, ⟨16, _⟩ => ⟨S4x4096x16x128, .f32⟩
  | .hbm, ⟨17, _⟩ => ⟨S4x16x4096x128, .f32⟩
  | .hbm, ⟨18, _⟩ => ⟨S_, .f32⟩
  | .hbm, ⟨19, _⟩ => ⟨S4x16x4096, .f32⟩
  | .hbm, ⟨20, _⟩ => ⟨S4x16x4096x4096, .f32⟩
  | .hbm, ⟨21, _⟩ => ⟨S4x16x1x4096, .f32⟩
  | .hbm, ⟨22, _⟩ => ⟨S4x16x4096x4096, .f32⟩
  | .hbm, ⟨23, _⟩ => ⟨S4x16x4096x4096, .f32⟩
  | .hbm, ⟨24, _⟩ => ⟨S_, .f32⟩
  | .hbm, ⟨25, _⟩ => ⟨S_, .f32⟩
  | .hbm, ⟨26, _⟩ => ⟨S4x16x4096x4096, .f32⟩
  | .hbm, ⟨27, _⟩ => ⟨S4x16x4096x4096, .f32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S4x16x4096x4096, .i1⟩
  | .hbm, ⟨37, _⟩ => ⟨S4x16x4096x4096, .f32⟩
  | .hbm, ⟨38, _⟩ => ⟨S4x16x4096x4096, .f32⟩
  | .hbm, ⟨39, _⟩ => ⟨S_, .f32⟩
  | .hbm, ⟨40, _⟩ => ⟨S4x16x4096, .f32⟩
  | .hbm, ⟨41, _⟩ => ⟨S_, .f32⟩
  | .hbm, ⟨42, _⟩ => ⟨S4x16x4096, .f32⟩
  | .hbm, ⟨43, _⟩ => ⟨S4x16x4096, .f32⟩
  | .hbm, ⟨44, _⟩ => ⟨S4x16x4096x1, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .f32⟩
  | .hbm, ⟨48, _⟩ => ⟨S_, .f32⟩
  | .hbm, ⟨49, _⟩ => ⟨S4x16x4096, .f32⟩
  | .hbm, ⟨50, _⟩ => ⟨S4x16x4096x1, .f32⟩
  | .hbm, ⟨51, _⟩ => ⟨S4x16x4096x4096, .f32⟩
  | .hbm, ⟨52, _⟩ => ⟨S4x16x4096x4096, .f32⟩
  | .hbm, ⟨53, _⟩ => ⟨S4x16x4096x128, .f32⟩
  | .hbm, ⟨54, _⟩ => ⟨S4x4096x16x128, .f32⟩
  | .hbm, ⟨55, _⟩ => ⟨S4x4096x2048, .f32⟩
  | .hbm, ⟨56, _⟩ => ⟨S4x4096x2048, .bf16⟩
  | .hbm, ⟨57, _⟩ => ⟨S_, .i32⟩
  | .hbm, ⟨58, _⟩ => ⟨S_, .f32⟩
  | .hbm, ⟨59, _⟩ => ⟨S16x2048, .f32⟩
  | .hbm, ⟨60, _⟩ => ⟨S16x2048, .f32⟩
  | .hbm, ⟨61, _⟩ => ⟨S16x2048, .f32⟩
  | .hbm, ⟨62, _⟩ => ⟨S_, .f32⟩
  | .hbm, ⟨63, _⟩ => ⟨S16x2048, .f32⟩
  | .hbm, ⟨64, _⟩ => ⟨S16x2048, .f32⟩
  | .hbm, ⟨65, _⟩ => ⟨S_, .f32⟩
  | .hbm, ⟨66, _⟩ => ⟨S16x2048, .f32⟩
  | .hbm, ⟨67, _⟩ => ⟨S16x2048, .f32⟩
  | .hbm, ⟨68, _⟩ => ⟨S16x2048, .f32⟩
  | .hbm, ⟨69, _⟩ => ⟨S1x2048x12288, .f32⟩
  | .hbm, ⟨70, _⟩ => ⟨S2048x12288, .f32⟩
  | .hbm, ⟨71, _⟩ => ⟨S16x12288, .f32⟩
  | .hbm, ⟨72, _⟩ => ⟨S1x12288, .f32⟩
  | .hbm, ⟨73, _⟩ => ⟨S12288, .f32⟩
  | .hbm, ⟨74, _⟩ => ⟨S1x12288, .f32⟩
  | .hbm, ⟨75, _⟩ => ⟨S16x12288, .f32⟩
  | .hbm, ⟨76, _⟩ => ⟨S16x12288, .f32⟩
  | .hbm, ⟨77, _⟩ => ⟨S4096x8192, .f32⟩
  | .hbm, ⟨78, _⟩ => ⟨S4096x8192, .bf16⟩
  | .hbm, ⟨79, _⟩ => ⟨S16384x2048, .f32⟩
  | .hbm, ⟨80, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_call1_v0 : Ref sig .tc := ⟨.hbm, 58, rfl⟩
abbrev main_v41 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Kernel2.lean ====
abbrev S16384x2048 : Shape := ⟨2, ![16384, 2048]⟩
abbrev S2x4x12288 : Shape := ⟨3, ![2, 4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S2x4x6x1x2048 : Shape := ⟨5, ![2, 4, 6, 1, 2048]⟩
abbrev S512x2048 : Shape := ⟨2, ![512, 2048]⟩
abbrev S128x2048 : Shape := ⟨2, ![128, 2048]⟩
abbrev S1x1x1x1x2048 : Shape := ⟨5, ![1, 1, 1, 1, 2048]⟩
abbrev S1x2048x2048 : Shape := ⟨3, ![1, 2048, 2048]⟩
abbrev S2x512x2048 : Shape := ⟨3, ![2, 512, 2048]⟩
abbrev S512 : Shape := ⟨1, ![512]⟩
abbrev S512x1 : Shape := ⟨2, ![512, 1]⟩
abbrev S1x512x2048 : Shape := ⟨3, ![1, 512, 2048]⟩
abbrev S1x2048x512 : Shape := ⟨3, ![1, 2048, 512]⟩
abbrev S2048x512 : Shape := ⟨2, ![2048, 512]⟩
abbrev S512x512 : Shape := ⟨2, ![512, 512]⟩
abbrev S128 : Shape := ⟨1, ![128]⟩
abbrev S128x1 : Shape := ⟨2, ![128, 1]⟩
abbrev S1x128x2048 : Shape := ⟨3, ![1, 128, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2x4x12288, .f32⟩
  | .hbm, ⟨2, _⟩ => ⟨S2x2048, .f32⟩
  | .hbm, ⟨3, _⟩ => ⟨S2x2048x8192, .bf16⟩
  | .hbm, ⟨4, _⟩ => ⟨S2x8192x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x4x6x1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x1x1x1x2048, .f32⟩
  | .local _ .vmem, ⟨13, _⟩ => ⟨S1x1x1x1x2048, .f32⟩
  | .local _ .vmem, ⟨14, _⟩ => ⟨S1x1x1x1x2048, .f32⟩
  | .local _ .vmem, ⟨15, _⟩ => ⟨S1x1x1x1x2048, .f32⟩
  | .local _ .vmem, ⟨16, _⟩ => ⟨S1x2048x2048, .bf16⟩
  | .local _ .vmem, ⟨17, _⟩ => ⟨S1x2048x2048, .bf16⟩
  | .local _ .vmem, ⟨18, _⟩ => ⟨S1x2048x2048, .bf16⟩
  | .local _ .vmem, ⟨19, _⟩ => ⟨S1x2048x2048, .bf16⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | .local _ .vmem, ⟨23, _⟩ => ⟨S2x512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c128_i32 : BitVec 32 := 128#32
  let v15 : BitVec 32 := Scalar.muli arg1 c128_i32
  v15
def k0_cond2 (i : grid0.Coords) : BitVec 1 :=
  let arg1 : BitVec 32 := BitVec.ofNat 32 (i 1).val
  let c0_i32_6 : BitVec 32 := 0#32
  let v17 : BitVec 1 := Scalar.cmpi .eq arg1 c0_i32_6
  let v18 : BitVec 32 := Scalar.extui v17
  let c0_i32_7 : BitVec 32 := 0#32
  let v19 : BitVec 1 := Scalar.cmpi .ne v18 c0_i32_7
  v19

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0 : Index := 0#32
  let c0_11 : Index := 0#32
  ![v26.toNat, 0, 0]
def k0_off2 (i : grid0.Coords) : Fin 3 → Nat :=
  let c1_i32_34 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_34 v9
  let v61 : Index := Scalar.indexCast v60
  let arg1 : BitVec 32 := BitVec.ofNat 32 (i 1).val
  let c128_i32 : BitVec 32 := 128#32
  let v15 : BitVec 32 := Scalar.muli arg1 c128_i32
  let v16 : BitVec 32 := v15
  let v62 : Index := Scalar.indexCast v16
  let c0_35 : Index := 0#32
  ![v61.toNat, v62.toNat, 0]
def k0_off3 (i : grid0.Coords) : Fin 2 → Nat :=
  let arg1 : BitVec 32 := BitVec.ofNat 32 (i 1).val
  let c128_i32 : BitVec 32 := 128#32
  let v15 : BitVec 32 := Scalar.muli arg1 c128_i32
  let v16 : BitVec 32 := v15
  let v115 : Index := Scalar.indexCast v16
  let c0_78 : Index := 0#32
  ![v115.toNat, 0]
def k0_cond3 (i : grid0.Coords) : BitVec 1 :=
  let arg1 : BitVec 32 := BitVec.ofNat 32 (i 1).val
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .ne v21 c0_i32_9
  v22

def k0_off4 (i : grid0.Coords) : Fin 2 → Nat :=
  let arg1 : BitVec 32 := BitVec.ofNat 32 (i 1).val
  let c128_i32 : BitVec 32 := 128#32
  let v15 : BitVec 32 := Scalar.muli arg1 c128_i32
  let v16 : BitVec 32 := v15
  let v26 : Index := Scalar.indexCast v16
  let c0 : Index := 0#32
  ![v26.toNat, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_14 : Index := 0#32
  let c0_15 : Index := 0#32
  ![v33.toNat, 0, 0]
def k0_off6 (i : grid0.Coords) : Fin 3 → Nat :=
  let c1_i32_38 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v67 : BitVec 32 := Scalar.subi c1_i32_38 v9
  let v68 : Index := Scalar.indexCast v67
  let arg1 : BitVec 32 := BitVec.ofNat 32 (i 1).val
  let c128_i32 : BitVec 32 := 128#32
  let v15 : BitVec 32 := Scalar.muli arg1 c128_i32
  let v16 : BitVec 32 := v15
  let v69 : Index := Scalar.indexCast v16
  let c0_39 : Index := 0#32
  ![v68.toNat, v69.toNat, 0]
def k0_cond4 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli v1 c4_i32
  let v3 : BitVec 32 := Scalar.addi v2 arg1
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c3_i32 : BitVec 32 := 3#32
  let c0_i32_5 : BitVec 32 := 0#32
  let c0_i32_6 : BitVec 32 := 0#32
  let c0_i32_7 : BitVec 32 := 0#32
  ![c1_i32_4.toNat, v16.toNat, c3_i32.toNat, c0_i32_5.toNat, c0_i32_6.toNat]

def cc0_transform_5 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c4_i32 : BitVec 32 := 4#32
  let c0_i32_5 : BitVec 32 := 0#32
  let c0_i32_6 : BitVec 32 := 0#32
  let c0_i32_7 : BitVec 32 := 0#32
  ![c1_i32_4.toNat, v16.toNat, c4_i32.toNat, c0_i32_5.toNat, c0_i32_6.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c3_i32 : BitVec 32 := 3#32
  let c0_i32_6 : BitVec 32 := 0#32
  let c0_i32_7 : BitVec 32 := 0#32
  let c0_i32_8 : BitVec 32 := 0#32
  ![c1_i32_5.toNat, v18.toNat, c3_i32.toNat, c0_i32_6.toNat, c0_i32_7.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c4_i32 : BitVec 32 := 4#32
  let c0_i32_6 : BitVec 32 := 0#32
  let c0_i32_7 : BitVec 32 := 0#32
  let c0_i32_8 : BitVec 32 := 0#32
  ![c1_i32_5.toNat, v18.toNat, c4_i32.toNat, c0_i32_6.toNat, c0_i32_7.toNat]

def cc0_transform_8 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c5_i32 : BitVec 32 := 5#32
  let c0_i32_5 : BitVec 32 := 0#32
  let c0_i32_6 : BitVec 32 := 0#32
  let c0_i32_7 : BitVec 32 := 0#32
  ![c1_i32_4.toNat, v16.toNat, c5_i32.toNat, c0_i32_5.toNat, c0_i32_6.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S16384x2048 : Shape := ⟨2, ![16384, 2048]⟩
abbrev S2x4x12288 : Shape := ⟨3, ![2, 4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x2048 : Shape := ⟨2, ![1, 2048]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S1x8192x2048 : Shape := ⟨3, ![1, 8192, 2048]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x4x12288, .f32⟩
  | .hbm, ⟨2, _⟩ => ⟨S2x2048, .f32⟩
  | .hbm, ⟨3, _⟩ => ⟨S2x2048x8192, .bf16⟩
  | .hbm, ⟨4, _⟩ => ⟨S2x8192x2048, .bf16⟩
  | .hbm, ⟨5, _⟩ => ⟨S2048, .f32⟩
  | .hbm, ⟨6, _⟩ => ⟨S4x4096x2048, .f32⟩
  | .hbm, ⟨7, _⟩ => ⟨S1x4x2048, .f32⟩
  | .hbm, ⟨8, _⟩ => ⟨S4x2048, .f32⟩
  | .hbm, ⟨9, _⟩ => ⟨S4x1x2048, .f32⟩
  | .hbm, ⟨10, _⟩ => ⟨S1x4x2048, .f32⟩
  | .hbm, ⟨11, _⟩ => ⟨S4x2048, .f32⟩
  | .hbm, ⟨12, _⟩ => ⟨S4x1x2048, .f32⟩
  | .hbm, ⟨13, _⟩ => ⟨S1x4x2048, .f32⟩
  | .hbm, ⟨14, _⟩ => ⟨S4x2048, .f32⟩
  | .hbm, ⟨15, _⟩ => ⟨S4x1x2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S1x2048x8192, .bf16⟩
  | .hbm, ⟨42, _⟩ => ⟨S2048x8192, .bf16⟩
  | .hbm, ⟨43, _⟩ => ⟨S2048x8192, .f32⟩
  | .hbm, ⟨44, _⟩ => ⟨S4x4096x8192, .f32⟩
  | .hbm, ⟨45, _⟩ => ⟨S_, .f32⟩
  | .hbm, ⟨46, _⟩ => ⟨S4x4096x8192, .f32⟩
  | .hbm, ⟨47, _⟩ => ⟨S4x4096x8192, .f32⟩
  | .hbm, ⟨48, _⟩ => ⟨S4x4096x8192, .f32⟩
  | .hbm, ⟨49, _⟩ => ⟨S1x8192x2048, .bf16⟩
  | .hbm, ⟨50, _⟩ => ⟨S8192x2048, .bf16⟩
  | .hbm, ⟨51, _⟩ => ⟨S8192x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x2048, .f32⟩
  | .hbm, ⟨68, _⟩ => ⟨S4x4096x2048, .f32⟩
  | .hbm, ⟨69, _⟩ => ⟨S1x1x2048, .f32⟩
  | .hbm, ⟨70, _⟩ => ⟨S4x4096x2048, .f32⟩
  | .hbm, ⟨71, _⟩ => ⟨S4x4096x2048, .f32⟩
  | .hbm, ⟨72, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel3.lean ====
abbrev S16384x2048 : Shape := ⟨2, ![16384, 2048]⟩
abbrev S2x4x12288 : Shape := ⟨3, ![2, 4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S2x4x6x1x2048 : Shape := ⟨5, ![2, 4, 6, 1, 2048]⟩
abbrev S512x2048 : Shape := ⟨2, ![512, 2048]⟩
abbrev S128x2048 : Shape := ⟨2, ![128, 2048]⟩
abbrev S1x1x1x1x2048 : Shape := ⟨5, ![1, 1, 1, 1, 2048]⟩
abbrev S1x2048x2048 : Shape := ⟨3, ![1, 2048, 2048]⟩
abbrev S2x512x2048 : Shape := ⟨3, ![2, 512, 2048]⟩
abbrev S512 : Shape := ⟨1, ![512]⟩
abbrev S512x1 : Shape := ⟨2, ![512, 1]⟩
abbrev S1x512x2048 : Shape := ⟨3, ![1, 512, 2048]⟩
abbrev S1x2048x512 : Shape := ⟨3, ![1, 2048, 512]⟩
abbrev S2048x512 : Shape := ⟨2, ![2048, 512]⟩
abbrev S512x512 : Shape := ⟨2, ![512, 512]⟩
abbrev S128 : Shape := ⟨1, ![128]⟩
abbrev S128x1 : Shape := ⟨2, ![128, 1]⟩
abbrev S1x128x2048 : Shape := ⟨3, ![1, 128, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2x4x12288, .f32⟩
  | .hbm, ⟨2, _⟩ => ⟨S2x2048, .f32⟩
  | .hbm, ⟨3, _⟩ => ⟨S2x2048x8192, .bf16⟩
  | .hbm, ⟨4, _⟩ => ⟨S2x8192x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x4x6x1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x1x1x1x2048, .f32⟩
  | .local _ .vmem, ⟨13, _⟩ => ⟨S1x1x1x1x2048, .f32⟩
  | .local _ .vmem, ⟨14, _⟩ => ⟨S1x1x1x1x2048, .f32⟩
  | .local _ .vmem, ⟨15, _⟩ => ⟨S1x1x1x1x2048, .f32⟩
  | .local _ .vmem, ⟨16, _⟩ => ⟨S1x2048x2048, .bf16⟩
  | .local _ .vmem, ⟨17, _⟩ => ⟨S1x2048x2048, .bf16⟩
  | .local _ .vmem, ⟨18, _⟩ => ⟨S1x2048x2048, .bf16⟩
  | .local _ .vmem, ⟨19, _⟩ => ⟨S1x2048x2048, .bf16⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | .local _ .vmem, ⟨23, _⟩ => ⟨S2x512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c128_i32 : BitVec 32 := 128#32
  let v15 : BitVec 32 := Scalar.muli arg1 c128_i32
  v15
def k0_cond2 (i : grid0.Coords) : BitVec 1 :=
  let arg1 : BitVec 32 := BitVec.ofNat 32 (i 1).val
  let c0_i32_6 : BitVec 32 := 0#32
  let v17 : BitVec 1 := Scalar.cmpi .eq arg1 c0_i32_6
  let v18 : BitVec 32 := Scalar.extui v17
  let c0_i32_7 : BitVec 32 := 0#32
  let v19 : BitVec 1 := Scalar.cmpi .ne v18 c0_i32_7
  v19

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v23 : Index := Scalar.indexCast v9
  let c0 : Index := 0#32
  let c0_10 : Index := 0#32
  ![v23.toNat, 0, 0]
def k0_off2 (i : grid0.Coords) : Fin 3 → Nat :=
  let c1_i32_33 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : BitVec 32 := Scalar.subi c1_i32_33 v9
  let v58 : Index := Scalar.indexCast v57
  let arg1 : BitVec 32 := BitVec.ofNat 32 (i 1).val
  let c128_i32 : BitVec 32 := 128#32
  let v15 : BitVec 32 := Scalar.muli arg1 c128_i32
  let v16 : BitVec 32 := v15
  let v59 : Index := Scalar.indexCast v16
  let c0_34 : Index := 0#32
  ![v58.toNat, v59.toNat, 0]
def k0_off3 (i : grid0.Coords) : Fin 2 → Nat :=
  let arg1 : BitVec 32 := BitVec.ofNat 32 (i 1).val
  let c128_i32 : BitVec 32 := 128#32
  let v15 : BitVec 32 := Scalar.muli arg1 c128_i32
  let v16 : BitVec 32 := v15
  let v112 : Index := Scalar.indexCast v16
  let c0_77 : Index := 0#32
  ![v112.toNat, 0]
def k0_cond3 (i : grid0.Coords) : BitVec 1 :=
  let arg1 : BitVec 32 := BitVec.ofNat 32 (i 1).val
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .ne v21 c0_i32_9
  v22

def k0_off4 (i : grid0.Coords) : Fin 2 → Nat :=
  let arg1 : BitVec 32 := BitVec.ofNat 32 (i 1).val
  let c128_i32 : BitVec 32 := 128#32
  let v15 : BitVec 32 := Scalar.muli arg1 c128_i32
  let v16 : BitVec 32 := v15
  let v23 : Index := Scalar.indexCast v16
  let c0 : Index := 0#32
  ![v23.toNat, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_13 : Index := 0#32
  let c0_14 : Index := 0#32
  ![v30.toNat, 0, 0]
def k0_off6 (i : grid0.Coords) : Fin 3 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_37 v9
  let v65 : Index := Scalar.indexCast v64
  let arg1 : BitVec 32 := BitVec.ofNat 32 (i 1).val
  let c128_i32 : BitVec 32 := 128#32
  let v15 : BitVec 32 := Scalar.muli arg1 c128_i32
  let v16 : BitVec 32 := v15
  let v66 : Index := Scalar.indexCast v16
  let c0_38 : Index := 0#32
  ![v65.toNat, v66.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli v1 c4_i32
  let v3 : BitVec 32 := Scalar.addi v2 arg1
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v16.toNat, c3_i32.toNat, c0_i32_5.toNat, c0_i32_6.toNat]

def cc0_transform_5 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  let c0_i32_6 : BitVec 32 := 0#32
  let c0_i32_7 : BitVec 32 := 0#32
  ![c0_i32_4.toNat, v16.toNat, c4_i32.toNat, c0_i32_5.toNat, c0_i32_6.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c3_i32 : BitVec 32 := 3#32
  let c0_i32_6 : BitVec 32 := 0#32
  let c0_i32_7 : BitVec 32 := 0#32
  let c0_i32_8 : BitVec 32 := 0#32
  ![c0_i32_5.toNat, v18.toNat, c3_i32.toNat, c0_i32_6.toNat, c0_i32_7.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c4_i32 : BitVec 32 := 4#32
  let c0_i32_6 : BitVec 32 := 0#32
  let c0_i32_7 : BitVec 32 := 0#32
  let c0_i32_8 : BitVec 32 := 0#32
  ![c0_i32_5.toNat, v18.toNat, c4_i32.toNat, c0_i32_6.toNat, c0_i32_7.toNat]

def cc0_transform_8 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, v16.toNat, c5_i32.toNat, c0_i32_5.toNat, c0_i32_6.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S16384x2048 : Shape := ⟨2, ![16384, 2048]⟩
abbrev S2x4x12288 : Shape := ⟨3, ![2, 4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x2048 : Shape := ⟨2, ![1, 2048]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S1x8192x2048 : Shape := ⟨3, ![1, 8192, 2048]⟩
abbrev S8192x2048 : Shape := ⟨2, ![8192, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x4x12288, .f32⟩
  | .hbm, ⟨2, _⟩ => ⟨S2x2048, .f32⟩
  | .hbm, ⟨3, _⟩ => ⟨S2x2048x8192, .bf16⟩
  | .hbm, ⟨4, _⟩ => ⟨S2x8192x2048, .bf16⟩
  | .hbm, ⟨5, _⟩ => ⟨S2048, .f32⟩
  | .hbm, ⟨6, _⟩ => ⟨S4x4096x2048, .f32⟩
  | .hbm, ⟨7, _⟩ => ⟨S1x4x2048, .f32⟩
  | .hbm, ⟨8, _⟩ => ⟨S4x2048, .f32⟩
  | .hbm, ⟨9, _⟩ => ⟨S4x1x2048, .f32⟩
  | .hbm, ⟨10, _⟩ => ⟨S1x4x2048, .f32⟩
  | .hbm, ⟨11, _⟩ => ⟨S4x2048, .f32⟩
  | .hbm, ⟨12, _⟩ => ⟨S4x1x2048, .f32⟩
  | .hbm, ⟨13, _⟩ => ⟨S1x4x2048, .f32⟩
  | .hbm, ⟨14, _⟩ => ⟨S4x2048, .f32⟩
  | .hbm, ⟨15, _⟩ => ⟨S4x1x2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S1x2048x8192, .bf16⟩
  | .hbm, ⟨42, _⟩ => ⟨S2048x8192, .bf16⟩
  | .hbm, ⟨43, _⟩ => ⟨S2048x8192, .f32⟩
  | .hbm, ⟨44, _⟩ => ⟨S4x4096x8192, .f32⟩
  | .hbm, ⟨45, _⟩ => ⟨S_, .f32⟩
  | .hbm, ⟨46, _⟩ => ⟨S4x4096x8192, .f32⟩
  | .hbm, ⟨47, _⟩ => ⟨S4x4096x8192, .f32⟩
  | .hbm, ⟨48, _⟩ => ⟨S4x4096x8192, .f32⟩
  | .hbm, ⟨49, _⟩ => ⟨S1x8192x2048, .bf16⟩
  | .hbm, ⟨50, _⟩ => ⟨S8192x2048, .bf16⟩
  | .hbm, ⟨51, _⟩ => ⟨S8192x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel4.lean ====
abbrev S16384x2048 : Shape := ⟨2, ![16384, 2048]⟩
abbrev S2x4x12288 : Shape := ⟨3, ![2, 4, 12288]⟩
abbrev S2x2048 : Shape := ⟨2, ![2, 2048]⟩
abbrev S2048x6144 : Shape := ⟨2, ![2048, 6144]⟩
abbrev S1x3x2048 : Shape := ⟨3, ![1, 3, 2048]⟩
abbrev S2048x2048 : Shape := ⟨2, ![2048, 2048]⟩
abbrev S1x2048 : Shape := ⟨2, ![1, 2048]⟩
abbrev S2048 : Shape := ⟨1, ![2048]⟩
abbrev S2x4x6x1x2048 : Shape := ⟨5, ![2, 4, 6, 1, 2048]⟩
abbrev S3x2048 : Shape := ⟨2, ![3, 2048]⟩
abbrev S256x2048 : Shape := ⟨2, ![256, 2048]⟩
abbrev S1x1x1x1x2048 : Shape := ⟨5, ![1, 1, 1, 1, 2048]⟩
abbrev S2x256x2048 : Shape := ⟨3, ![2, 256, 2048]⟩
abbrev S264x2048 : Shape := ⟨2, ![264, 2048]⟩
abbrev S8x2048 : Shape := ⟨2, ![8, 2048]⟩
abbrev S256 : Shape := ⟨1, ![256]⟩
abbrev S256x1 : Shape := ⟨2, ![256, 1]⟩
abbrev S1x256x2048 : Shape := ⟨3, ![1, 256, 2048]⟩
abbrev S128x2048 : Shape := ⟨2, ![128, 2048]⟩
abbrev S128 : Shape := ⟨1, ![128]⟩
abbrev S128x1 : Shape := ⟨2, ![128, 1]⟩
abbrev S1x128x2048 : Shape := ⟨3, ![1, 128, 2048]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2x4x12288, .f32⟩
  | .hbm, ⟨2, _⟩ => ⟨S2x2048, .f32⟩
  | .hbm, ⟨3, _⟩ => ⟨S2048x6144, .bf16⟩
  | .hbm, ⟨4, _⟩ => ⟨S1x3x2048, .f32⟩
  | .hbm, ⟨5, _⟩ => ⟨S2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x4x6x1x2048, .f32⟩
  | .hbm, ⟨10, _⟩ => ⟨S3x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S2048x6144, .bf16⟩
  | .local _ .vmem, ⟨13, _⟩ => ⟨S3x2048, .f32⟩
  | .local _ .vmem, ⟨14, _⟩ => ⟨S256x2048, .f32⟩
  | .local _ .vmem, ⟨15, _⟩ => ⟨S256x2048, .f32⟩
  | .local _ .vmem, ⟨16, _⟩ => ⟨S1x1x1x1x2048, .f32⟩
  | .local _ .vmem, ⟨17, _⟩ => ⟨S1x1x1x1x2048, .f32⟩
  | .local _ .vmem, ⟨18, _⟩ => ⟨S2048x2048, .bf16⟩
  | .local _ .vmem, ⟨19, _⟩ => ⟨S256x2048, .f32⟩
  | .local _ .vmem, ⟨20, _⟩ => ⟨S256x2048, .f32⟩
  | .local _ .vmem, ⟨21, _⟩ => ⟨S2x256x2048, .bf16⟩
  | .local _ .vmem, ⟨22, _⟩ => ⟨S264x2048, .f32⟩
  | .local _ .vmem, ⟨23, _⟩ => ⟨S8x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : Index := Scalar.indexCast v9
  let c0 : Index := 0#32
  let c0_5 : Index := 0#32
  ![v13.toNat, 0, 0]
def k0_off2 (i : grid0.Coords) : Fin 3 → Nat :=
  let c1_i32_25 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v44 : BitVec 32 := Scalar.subi c1_i32_25 v9
  let v45 : Index := Scalar.indexCast v44
  let c0_26 : Index := 0#32
  let c0_27 : Index := 0#32
  ![v45.toNat, 0, 0]
def k0_off3 (i : grid0.Coords) : Fin 3 → Nat :=
  let c1_i32_49 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : BitVec 32 := Scalar.subi c1_i32_49 v9
  let v82 : Index := Scalar.indexCast v81
  let c128_50 : Index := 128#32
  let c0_51 : Index := 0#32
  ![v82.toNat, 128, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v16.toNat, c0_i32_5.toNat, c0_i32_6.toNat, c0_i32_7.toNat]

def cc0_transform_4 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_5 (i : grid0.Coords) : Fin 5 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  let c0_i32_8 : BitVec 32 := 0#32
  let c0_i32_9 : BitVec 32 := 0#32
  ![c1_i32_5.toNat, v18.toNat, c0_i32_6.toNat, c0_i32_7.toNat, c0_i32_8.toNat]

def cc0_transform_6 (i : grid0.Coords) : Fin 5 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c1_i32_6 : BitVec 32 := 1#32
  let c0_i32_7 : BitVec 32 := 0#32
  let c0_i32_8 : BitVec 32 := 0#32
  let c0_i32_9 : BitVec 32 := 0#32
  ![c1_i32_5.toNat, v18.toNat, c1_i32_6.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c2_i32 : BitVec 32 := 2#32
  let c0_i32_5 : BitVec 32 := 0#32
  let c0_i32_6 : BitVec 32 := 0#32
  let c0_i32_7 : BitVec 32 := 0#32
  ![c1_i32_4.toNat, v16.toNat, c2_i32.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x2048 : Shape := ⟨2, ![16384, 2048]⟩
abbrev S2x4x12288 : Shape := ⟨3, ![2, 4, 12288]⟩
abbrev S2x2048 : Shape := ⟨2, ![2, 2048]⟩
abbrev S2048x6144 : Shape := ⟨2, ![2048, 6144]⟩
abbrev S1x3x2048 : Shape := ⟨3, ![1, 3, 2048]⟩
abbrev S2048x2048 : Shape := ⟨2, ![2048, 2048]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x2048 : Shape := ⟨2, ![1, 2048]⟩
abbrev S2048 : Shape := ⟨1, ![2048]⟩
abbrev S1x1x2048 : Shape := ⟨3, ![1, 1, 2048]⟩
abbrev S4x4096x6144 : Shape := ⟨3, ![4, 4096, 6144]⟩
abbrev S4x4098x2048 : Shape := ⟨3, ![4, 4098, 2048]⟩

abbrev nBuf : Space → Nat
  | .hbm => 80
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x4x12288, .f32⟩
  | .hbm, ⟨2, _⟩ => ⟨S2x2048, .f32⟩
  | .hbm, ⟨3, _⟩ => ⟨S2048x6144, .bf16⟩
  | .hbm, ⟨4, _⟩ => ⟨S1x3x2048, .f32⟩
  | .hbm, ⟨5, _⟩ => ⟨S2048x2048, .bf16⟩
  | .hbm, ⟨6, _⟩ => ⟨S4x4096x2048, .f32⟩
  | .hbm, ⟨7, _⟩ => ⟨S1x4x2048, .f32⟩
  | .hbm, ⟨8, _⟩ => ⟨S4x2048, .f32⟩
  | .hbm, ⟨9, _⟩ => ⟨S4x1x2048, .f32⟩
  | .hbm, ⟨10, _⟩ => ⟨S1x4x2048, .f32⟩
  | .hbm, ⟨11, _⟩ => ⟨S4x2048, .f32⟩
  | .hbm, ⟨12, _⟩ => ⟨S4x1x2048, .f32⟩
  | .hbm, ⟨13, _⟩ => ⟨S1x4x2048, .f32⟩
  | .hbm, ⟨14, _⟩ => ⟨S4x2048, .f32⟩
  | .hbm, ⟨15, _⟩ => ⟨S4x1x2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S2048x6144, .f32⟩
  | .hbm, ⟨42, _⟩ => ⟨S4x4096x6144, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S_, .i32⟩
  | .hbm, ⟨48, _⟩ => ⟨S_, .f32⟩
  | .hbm, ⟨49, _⟩ => ⟨S4x4098x2048, .f32⟩
  | .hbm, ⟨50, _⟩ => ⟨S1x1x2048, .f32⟩
  | .hbm, ⟨51, _⟩ => ⟨S2048, .f32⟩
  | .hbm, ⟨52, _⟩ => ⟨S4x4096x2048, .f32⟩
  | .hbm, ⟨53, _⟩ => ⟨S1x1x2048, .f32⟩
  | .hbm, ⟨54, _⟩ => ⟨S4x4096x2048, .f32⟩
  | .hbm, ⟨55, _⟩ => ⟨S4x4096x2048, .f32⟩
  | .hbm, ⟨56, _⟩ => ⟨S_, .f32⟩
  | .hbm, ⟨57, _⟩ => ⟨S4x4096x2048, .f32⟩
  | .hbm, ⟨58, _⟩ => ⟨S4x4096x2048, .f32⟩
  | .hbm, ⟨59, _⟩ => ⟨S1x1x2048, .f32⟩
  | .hbm, ⟨60, _⟩ => ⟨S2048, .f32⟩
  | .hbm, ⟨61, _⟩ => ⟨S4x4096x2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S1x1x2048, .f32⟩
  | .hbm, ⟨67, _⟩ => ⟨S2048, .f32⟩
  | .hbm, ⟨68, _⟩ => ⟨S4x4096x2048, .f32⟩
  | .hbm, ⟨69, _⟩ => ⟨S1x1x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S2048x2048, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S4x4096x2048, .f32⟩
  | .hbm, ⟨79, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S2x4x12288 : Shape := ⟨3, ![2, 4, 12288]⟩
abbrev S2x4x6x1x2048 : Shape := ⟨5, ![2, 4, 6, 1, 2048]⟩
abbrev S512x2048 : Shape := ⟨2, ![512, 2048]⟩
abbrev S1x1x1x1x2048 : Shape := ⟨5, ![1, 1, 1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2x4x12288, .f32⟩
  | .hbm, ⟨4, _⟩ => ⟨S2x4x6x1x2048, .f32⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x2048 : Shape := ⟨2, ![16384, 2048]⟩
abbrev S2048x2048 : Shape := ⟨2, ![2048, 2048]⟩
abbrev S2x4x12288 : Shape := ⟨3, ![2, 4, 12288]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2x4x12288, .f32⟩
  | .hbm, ⟨4, _⟩ => ⟨S4x4096x2048, .bf16⟩
  | .hbm, ⟨5, _⟩ => ⟨S4x4096x2048, .f32⟩
  | .hbm, ⟨6, _⟩ => ⟨S2048x2048, .f32⟩
  | .hbm, ⟨7, _⟩ => ⟨S4x4096x2048, .f32⟩
  | .hbm, ⟨8, _⟩ => ⟨S1x4x2048, .f32⟩
  | .hbm, ⟨9, _⟩ => ⟨S4x2048, .f32⟩
  | .hbm, ⟨10, _⟩ => ⟨S4x1x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S16x2048 : Shape := ⟨2, ![16, 2048]⟩
abbrev S2x1x12288 : Shape := ⟨3, ![2, 1, 12288]⟩
abbrev S1x16x12288 : Shape := ⟨3, ![1, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S2x1x12288, .f32⟩
  | .hbm, ⟨7, _⟩ => ⟨S1x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S16x2048 : Shape := ⟨2, ![16, 2048]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩

abbrev nBuf : Space → Nat
  | .hbm => 24
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S1x2048x12288, .f32⟩
  | .hbm, ⟨16, _⟩ => ⟨S2048x12288, .f32⟩
  | .hbm, ⟨17, _⟩ => ⟨S16x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S16x12288, .f32⟩
  | .hbm, ⟨22, _⟩ => ⟨S16x12288, .f32⟩
  | .hbm, ⟨23, _⟩ => ⟨S1x16x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Proof.MlpSpec.lean ====
/-
  What the last MLP computes on one row, over the extended reals.
-/
module

public import Idealize.ShloMosaic.Lib.Pipeline.ValueKit

@[expose] public section

set_option maxRecDepth 16384

noncomputable section

namespace Cert.MlpSpec

open Idealize.ShloMosaic

/-- One over the root of a row's mean square. -/
def scaled (v : Fin 2048 → EReal) : EReal :=
  Ideal.rsqrt (Ideal.div (∑ k, v k * v k) (Ideal.ofBits .f32 0x45000000#32) + Ideal.ofBits .f32 0x358637BD#32)

/-- The normalised and modulated row: gain `g`, scale `s`, shift `h`. -/
def hid (v g s h : Fin 2048 → EReal) (k : Fin 2048) : EReal :=
  v k * scaled v * g k * (Ideal.ofBits .f32 0x3F800000#32 + s k) + h k

/-- A hidden unit with weights `w`: the rectified product, squared. -/
def act (H w : Fin 2048 → EReal) : EReal :=
  max (∑ k, H k * w k) (Ideal.ofBits .f32 0x00000000#32) * max (∑ k, H k * w k) (Ideal.ofBits .f32 0x00000000#32)

/-- The last normalisation, with gain `n`. -/
def fin (y n : Fin 2048 → EReal) (j : Fin 2048) : EReal := y j * scaled y * n j

/-- The row after the gated MLP has been added. -/
def body (v g s h ga : Fin 2048 → EReal) (wu : Fin 2048 → Fin 8192 → EReal) (wd : Fin 8192 → Fin 2048 → EReal) (j : Fin 2048) : EReal :=
  v j + ga j * ∑ u, act (hid v g s h) (fun k => wu k u) * wd u j

/-- The whole row. -/
def out (v g s h ga n : Fin 2048 → EReal) (wu : Fin 2048 → Fin 8192 → EReal) (wd : Fin 8192 → Fin 2048 → EReal) (j : Fin 2048) : EReal :=
  fin (body v g s h ga wu wd) n j

theorem c2048 : Ideal.ofBits .f32 0x45000000#32 = ((2048 : ℝ) : EReal) := by
  simp [Ideal.ofBits, Ideal.ieee, -EReal.coe_mul]
  norm_num

theorem cone : Ideal.ofBits .f32 0x3F800000#32 = ((1 : ℝ) : EReal) := by
  simp [Ideal.ofBits, Ideal.ieee, -EReal.coe_mul]
  norm_num

theorem czero : Ideal.ofBits .f32 0x00000000#32 = ((0 : ℝ) : EReal) := by
  simp [Ideal.ofBits, Ideal.ieee, -EReal.coe_mul]

theorem ceps : ∃ e : ℝ, 0 < e ∧ Ideal.ofBits .f32 0x358637BD#32 = (e : EReal) := by
  refine ⟨_, ?_, by simp [Ideal.ofBits, Ideal.ieee, -EReal.coe_mul]; rfl⟩
  norm_num

theorem coe_sum {ι : Type} [Fintype ι] (r : ι → ℝ) : ∑ i, ((r i : ℝ) : EReal) = ((∑ i, r i : ℝ) : EReal) :=
  (map_sum (⟨⟨Real.toEReal, EReal.coe_zero⟩, EReal.coe_add⟩ : ℝ →+ EReal) r _).symm

theorem sq_nonneg (x : EReal) : 0 ≤ x * x := by
  induction x using EReal.rec with
  | bot => simp
  | top => simp
  | coe r => rw [← EReal.coe_mul]; exact EReal.coe_nonneg.2 (mul_self_nonneg r)

theorem sq_top_or (x : EReal) : x * x = ⊤ ∨ ∃ r : ℝ, x = r := by
  induction x using EReal.rec with
  | bot => exact .inl (by simp)
  | top => exact .inl (by simp)
  | coe r => exact .inr ⟨r, rfl⟩

/-- A normalised row is real, whatever the row. -/
theorem real_scaled (v : Fin 2048 → EReal) (k : Fin 2048) : ∃ r : ℝ, v k * scaled v = r := by
  obtain ⟨e, he, hce⟩ := ceps
  unfold scaled
  rw [c2048, hce]
  by_cases h : ∃ i, v i * v i = ⊤
  · obtain ⟨i, hi⟩ := h
    have ht : ∑ k, v k * v k = ⊤ := by
      have h1 : v i * v i ≤ ∑ k, v k * v k := Finset.single_le_sum (fun k _ => sq_nonneg (v k)) (Finset.mem_univ i)
      rw [hi] at h1
      exact top_le_iff.1 h1
    refine ⟨0, ?_⟩
    have hd : Ideal.div (⊤ : EReal) ((2048 : ℝ) : EReal) = ⊤ := by
      simp [Ideal.div]
      rw [← EReal.coe_inv]
      exact EReal.top_mul_coe_of_pos (by norm_num)
    rw [ht, hd, EReal.top_add_coe, Ideal.rsqrt_top, mul_zero, EReal.coe_zero]
  · have hr : ∀ i, ∃ r : ℝ, v i = r := fun i => (sq_top_or (v i)).resolve_left fun hi => h ⟨i, hi⟩
    choose r hr using hr
    have hs : ∑ k, v k * v k = ((∑ k, r k * r k : ℝ) : EReal) := by
      rw [← coe_sum]
      exact Finset.sum_congr rfl fun i _ => by rw [hr i, EReal.coe_mul]
    have h0 : 0 ≤ ∑ k, r k * r k := Finset.sum_nonneg fun i _ => mul_self_nonneg _
    have hd : Ideal.div ((∑ k, r k * r k : ℝ) : EReal) ((2048 : ℝ) : EReal) = (((∑ k, r k * r k) / 2048 : ℝ) : EReal) := by
      simp [Ideal.div]
      rw [← EReal.coe_inv, ← EReal.coe_mul, div_eq_mul_inv]
    have hp : 0 < (∑ k, r k * r k) / 2048 + e := by positivity
    rw [hs, hd, ← EReal.coe_add, Ideal.rsqrt_coe, if_neg (not_lt.2 hp.le), if_neg hp.ne', hr k, ← EReal.coe_mul]
    exact ⟨_, rfl⟩

theorem real_hid (v g s h : Fin 2048 → EReal) (hg : ∀ k, ∃ r : ℝ, g k = r) (hs : ∀ k, ∃ r : ℝ, s k = r) (hh : ∀ k, ∃ r : ℝ, h k = r)
    (k : Fin 2048) : ∃ r : ℝ, hid v g s h k = r := by
  obtain ⟨a, ha⟩ := real_scaled v k
  obtain ⟨b, hb⟩ := hg k
  obtain ⟨c, hc⟩ := hs k
  obtain ⟨d, hd⟩ := hh k
  refine ⟨a * b * (1 + c) + d, ?_⟩
  unfold hid
  rw [ha, hb, hc, hd, cone]
  norm_cast

theorem real_act (H w : Fin 2048 → EReal) (hH : ∀ k, ∃ r : ℝ, H k = r) (hw : ∀ k, ∃ r : ℝ, w k = r) : ∃ r : ℝ, act H w = r := by
  choose a ha using hH
  choose b hb using hw
  have hs : ∑ k, H k * w k = ((∑ k, a k * b k : ℝ) : EReal) := by
    rw [← coe_sum]
    exact Finset.sum_congr rfl fun i _ => by rw [ha i, hb i, EReal.coe_mul]
  refine ⟨max (∑ k, a k * b k) 0 * max (∑ k, a k * b k) 0, ?_⟩
  unfold act
  rw [hs, czero, EReal.coe_mul]
  have hm : max ((∑ k, a k * b k : ℝ) : EReal) ((0 : ℝ) : EReal) = ((max (∑ k, a k * b k) 0 : ℝ) : EReal) :=
    (EReal.coe_strictMono.monotone.map_max).symm
  rw [hm]

/-- A gated sum of 8192 real terms is the sum of its eight gated parts. -/
theorem gated (ga : EReal) (T : Fin 8192 → EReal) (hga : ∃ r : ℝ, ga = r) (hT : ∀ u, ∃ r : ℝ, T u = r) :
    ga * ∑ u, T u = ∑ n : Fin 8, ga * ∑ p : Fin 1024, T ⟨1024 * n + p, by omega⟩ := by
  obtain ⟨a, rfl⟩ := hga
  choose t ht using hT
  obtain rfl : T = fun u => ((t u : ℝ) : EReal) := funext ht
  simp only [coe_sum, ← EReal.coe_mul]
  refine congrArg _ ?_
  rw [← Finset.mul_sum]
  refine congrArg (a * ·) ?_
  have e : ∑ u : Fin 8192, t u = ∑ u : Fin (8 * 1024), t ⟨u, u.isLt⟩ := rfl
  rw [e, ← finProdFinEquiv.sum_comp, Fintype.sum_prod_type]
  refine Finset.sum_congr rfl fun n _ => Finset.sum_congr rfl fun p _ => congrArg t (Fin.ext ?_)
  show p.val + 1024 * n.val = 1024 * n.val + p.val
  omega

end Cert.MlpSpec

end
-- ==== Proof.ConvSpec.lean ====
/-
  The gated convolution of one row, in plain sums.
-/
module

public import proofs.«01_k».proof.Proof.MlpSpec

@[expose] public section

set_option maxRecDepth 16384

noncomputable section

namespace Cert.ConvSpec

open Idealize.ShloMosaic

/-- The value `d` rows back, nothing before the sequence starts. -/
def back (U : ℕ → Fin 2048 → EReal) (s d : ℕ) (k : Fin 2048) : EReal := if s < d then 0 else U (s - d) k

/-- The product that is convolved, at a row `H`. -/
def pair (H : Fin 2048 → EReal) (w : Fin 2048 → Fin 6144 → EReal) (k : Fin 2048) : EReal :=
  (∑ p : Fin 2048, H p * w p ⟨2048 + k.val, by omega⟩) * ∑ p : Fin 2048, H p * w p ⟨4096 + k.val, by omega⟩

/-- The row after the gated convolution has been added: residual `v`, gate `ga`, the row `H` of the projection,
    taps `c`, the convolved product `U` by position in the sequence. -/
def row (v ga H : Fin 2048 → EReal) (w : Fin 2048 → Fin 6144 → EReal) (c : Fin 3 → Fin 2048 → EReal) (U : ℕ → Fin 2048 → EReal) (s : ℕ)
    (wo : Fin 2048 → Fin 2048 → EReal) (j : Fin 2048) : EReal :=
  v j + ga j * ∑ k : Fin 2048, ((∑ p : Fin 2048, H p * w p ⟨k.val, by omega⟩)
    * (c 0 k * back U s 2 k + c 1 k * back U s 1 k + c 2 k * back U s 0 k)) * wo k j

end Cert.ConvSpec

end
-- ==== Proof.ConvStep.lean ====
/-
The gated convolution's kernel: which branch its body takes, and what one grid point does, in the
body's own arithmetic.  Grid point `t` is row tile `t`.
-/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.Kernel4Ideal.Conv

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch taken at the first grid point only. -/
abbrev cond0 (i : grid0.Coords) : Prop := (Scalar.cmpi .ne (Scalar.extui (Scalar.cmpi .eq (BitVec.ofNat 32 (i 0).val) 0#32)) 0#32) = 1#1

theorem coord0 (t : Fin cfg0.N) : (grid0.coords t 0).val = t.val := by
  have ht : t.val < 64 := Nat.lt_of_lt_of_eq t.isLt N_0
  have e : (grid0.coords t 0).val = t.val / 1 % 64 := Pipeline.Grid.coords_val t 0 (by decide) rfl
  omega

theorem hcond0 : ∀ t : Fin cfg0.N, cond0 (grid0.coords t) ↔ t.val = 0 := fun t => by
  have ht : t.val < 64 := Nat.lt_of_lt_of_eq t.isLt N_0
  simp only [cond0, coord0]
  word_cmp

/-- The slot of the scratch that a tile reads: the parity of the tile's number. -/
theorem off1_eq (i : grid0.Coords) : k0_off1 i = ![(i 0).val % 2, 0, 0] := by revert i; decide +kernel
/-- The first half of the other slot. -/
theorem off2_eq (i : grid0.Coords) : k0_off2 i = ![1 - (i 0).val % 2, 0, 0] := by revert i; decide +kernel
/-- The second half of the other slot. -/
theorem off3_eq (i : grid0.Coords) : k0_off3 i = ![1 - (i 0).val % 2, 128, 0] := by revert i; decide +kernel

instance closed1 (i : grid0.Coords) : ClosedOff (k0_off1 i) := ⟨![(i 0).val % 2, 0, 0], off1_eq i⟩
instance closed2 (i : grid0.Coords) : ClosedOff (k0_off2 i) := ⟨![1 - (i 0).val % 2, 0, 0], off2_eq i⟩
instance closed3 (i : grid0.Coords) : ClosedOff (k0_off3 i) := ⟨![1 - (i 0).val % 2, 128, 0], off3_eq i⟩

/-- A slot of the scratch, as the body reads it: the rows of the current row tile. -/
def slot (i : grid0.Coords) (xs : Vec F S2x256x2048 .bf16) : Vec F S1x256x2048 .bf16 :=
  fun y => xs (ix3 ⟨(i 0).val % 2, Nat.mod_lt _ (by decide)⟩ (y 1) (y 2))

/-- The scratch after its first slot has been replaced by `w`. -/
def first (xs : Vec F S2x256x2048 .bf16) (w : Vec F S1x256x2048 .bf16) : Vec F S2x256x2048 .bf16 :=
  VecWindow.put xs ![0, 0, 0] ![1, 256, 2048] w

/-- The scratch after the first, then the second half of the other slot has been replaced. -/
def upd0 (i : grid0.Coords) (xs : Vec F S2x256x2048 .bf16) (w : Vec F S1x128x2048 .bf16) : Vec F S2x256x2048 .bf16 :=
  VecWindow.put xs ![1 - (i 0).val % 2, 0, 0] ![1, 128, 2048] w
def upd1 (i : grid0.Coords) (xs : Vec F S2x256x2048 .bf16) (w : Vec F S1x128x2048 .bf16) : Vec F S2x256x2048 .bf16 :=
  VecWindow.put xs ![1 - (i 0).val % 2, 128, 0] ![1, 128, 2048] w

/-- The normalised and modulated rows prepared for the next tile, in two halves. -/
def rows0 (x1 : Vec F S256x2048 .f32) (x2 : Vec F S1x2048 .f32) (x5 x6 : Vec F S1x1x1x1x2048 .f32) : Vec F S1x128x2048 .bf16 :=
  k0_pay10 (View.ld x1 (Rect.unit (s := S256x2048) ![0, 0] S128x2048.size inb_S256x2048_S128x2048_0_0)) (k0_pay5 x2) (k0_pay6 x5) (k0_pay7 x6)
    (k0_pay8 (View.ld x1 (Rect.unit (s := S256x2048) ![0, 0] S128x2048.size inb_S256x2048_S128x2048_0_0))) k0_pay9
def rows1 (x1 : Vec F S256x2048 .f32) (x2 : Vec F S1x2048 .f32) (x5 x6 : Vec F S1x1x1x1x2048 .f32) : Vec F S1x128x2048 .bf16 :=
  k0_pay16 (View.ld x1 (Rect.unit (s := S256x2048) ![128, 0] S128x2048.size inb_S256x2048_S128x2048_128_0)) (k0_pay12 x2) (k0_pay13 x5) (k0_pay14 x6)
    (k0_pay15 (View.ld x1 (Rect.unit (s := S256x2048) ![128, 0] S128x2048.size inb_S256x2048_S128x2048_128_0)))

/-- The scratch after a point has filled the other slot. -/
def fill (i : grid0.Coords) (xs : Vec F S2x256x2048 .bf16) (x1 : Vec F S256x2048 .f32) (x2 : Vec F S1x2048 .f32) (x5 x6 : Vec F S1x1x1x1x2048 .f32) : Vec F S2x256x2048 .bf16 :=
  upd1 i (upd0 i xs (rows0 x1 x2 x5 x6)) (rows1 x1 x2 x5 x6)

/-- The product that is convolved: the second third of the projection times the last. -/
def gated (h : Vec F S1x256x2048 .bf16) (x7 : Vec F S2048x6144 .bf16) : FVec F S256x2048 .f32 :=
  k0_pay11 (k0_pay4 h (View.ld x7 (Rect.unit (s := S2048x6144) ![0, 2048] S2048x2048.size inb_S2048x6144_S2048x2048_0_2048))) h
    (View.ld x7 (Rect.unit (s := S2048x6144) ![0, 4096] S2048x2048.size inb_S2048x6144_S2048x2048_0_4096))

/-- Eight rows before the tile's own 256. -/
def ext (a : Vec F S8x2048 .f32) (b : Vec F S256x2048 .f32) : Vec F S264x2048 .f32 := fun z =>
  if h : (z 0).val < 8 then a (ix2 ⟨(z 0).val, h⟩ (z 1))
  else b (ix2 ⟨(z 0).val - 8, by have h' := (z 0).isLt; change (z 0).val < 264 at h'; omega⟩ (z 1))

/-- The output block of a point whose rows are `h` and whose carried rows are `cy`. -/
def outOf (i : grid0.Coords) (h : Vec F S1x256x2048 .bf16) (cy : Vec F S8x2048 .f32) (x7 : Vec F S2048x6144 .bf16) (x8 : Vec F S3x2048 .f32)
    (x9 : Vec F S256x2048 .f32) (x10 : Vec F S1x1x1x1x2048 .f32) (x11 : Vec F S2048x2048 .bf16) : Vec F S256x2048 .f32 :=
  let e := ext (k0_pay17 (BitVec.ofNat 32 (i 0).val) cy) (k0_pay18 (gated h x7))
  k0_pay1 (k0_pay20 (View.ld x8 (Rect.unit (s := S3x2048) ![0, 0] S1x2048.size inb_S3x2048_S1x2048_0_0))
      (View.ld e (Rect.unit (s := S264x2048) ![6, 0] S256x2048.size inb_S264x2048_S256x2048_6_0))
      (View.ld x8 (Rect.unit (s := S3x2048) ![1, 0] S1x2048.size inb_S3x2048_S1x2048_1_0))
      (View.ld e (Rect.unit (s := S264x2048) ![7, 0] S256x2048.size inb_S264x2048_S256x2048_7_0))
      (View.ld x8 (Rect.unit (s := S3x2048) ![2, 0] S1x2048.size inb_S3x2048_S1x2048_2_0))
      (View.ld e (Rect.unit (s := S264x2048) ![8, 0] S256x2048.size inb_S264x2048_S256x2048_8_0))
      h (View.ld x7 (Rect.unit (s := S2048x6144) ![0, 0] S2048x2048.size inb_S2048x6144_S2048x2048_0_0))) x9 x10 x11

theorem ld_slot {off : Fin 3 → ℕ} (i : grid0.Coords) (h : off = ![(i 0).val % 2, 0, 0])
    (inb : ∀ a, off a + S1x256x2048.size a ≤ S2x256x2048.size a) (xs : Vec F S2x256x2048 .bf16) :
    View.ld xs (Rect.unit (s := S2x256x2048) off S1x256x2048.size inb) = slot i xs := by
  subst h
  funext y
  refine congrArg xs (funext fun a => Fin.ext ?_)
  have h0 : (y 0).val = 0 := by have := (y 0).isLt; change (y 0).val < 1 at this; omega
  refine (Rect.idx_unit_val ..).trans ?_
  fin_cases a
  · show (i 0).val % 2 + (y 0).val = _; rw [h0]; rfl
  · show 0 + (y 1).val = _; rw [Nat.zero_add]; rfl
  · show 0 + (y 2).val = _; rw [Nat.zero_add]; rfl

theorem slot_upd0 (i : grid0.Coords) (xs : Vec F S2x256x2048 .bf16) (w : Vec F S1x128x2048 .bf16) :
    slot i (upd0 i xs w) = slot i xs := by
  funext y
  unfold slot upd0 VecWindow.put
  refine dif_neg fun h => ?_
  have h0 := h 0
  change 1 - (i 0).val % 2 ≤ (i 0).val % 2 ∧ (i 0).val % 2 < 1 - (i 0).val % 2 + 1 at h0
  omega

theorem slot_upd1 (i : grid0.Coords) (xs : Vec F S2x256x2048 .bf16) (w : Vec F S1x128x2048 .bf16) :
    slot i (upd1 i xs w) = slot i xs := by
  funext y
  unfold slot upd1 VecWindow.put
  refine dif_neg fun h => ?_
  have h0 := h 0
  change 1 - (i 0).val % 2 ≤ (i 0).val % 2 ∧ (i 0).val % 2 < 1 - (i 0).val % 2 + 1 at h0
  omega

theorem slot_first (i : grid0.Coords) (hz : (i 0).val = 0) (xs : Vec F S2x256x2048 .bf16) (w : Vec F S1x256x2048 .bf16) :
    slot i (first xs w) = w := by
  funext y
  unfold slot first VecWindow.put
  have h1 : (y 0).val = 0 := by have := (y 0).isLt; change (y 0).val < 1 at this; omega
  refine (dif_pos fun a => ?_).trans (congrArg w (funext fun a => Fin.ext ?_))
  · fin_cases a
    · show 0 ≤ (i 0).val % 2 ∧ (i 0).val % 2 < 0 + 1; omega
    · exact ⟨Nat.zero_le _, by show (y 1).val < 0 + 256; have := (y 1).isLt; change (y 1).val < 256 at this; omega⟩
    · exact ⟨Nat.zero_le _, by show (y 2).val < 0 + 2048; have := (y 2).isLt; change (y 2).val < 2048 at this; omega⟩
  · rw [Rect.unitLocal_val]
    fin_cases a
    · show (i 0).val % 2 - 0 = (y 0).val; omega
    · rfl
    · rfl

theorem upd0_eq {off : Fin 3 → ℕ} (i : grid0.Coords) (h : off = ![1 - (i 0).val % 2, 0, 0])
    (v : View sig .tc .vmem S2x256x2048 .bf16) (f) (inb : ∀ a, off a + S1x128x2048.size a ≤ S2x256x2048.size a)
    (w : Vec F S1x128x2048 .bf16) (L : List (View.Piece (Elt F) S2x256x2048 .bf16)) :
    v.read (Elt F) (v.writes (Elt F) f (⟨Rect.unit (s := S2x256x2048) off S1x128x2048.size inb, w⟩ :: L))
      = upd0 i (v.read (Elt F) (v.writes (Elt F) f L)) w :=
  View.read_writes_cons_put v f inb w L h

theorem upd1_eq {off : Fin 3 → ℕ} (i : grid0.Coords) (h : off = ![1 - (i 0).val % 2, 128, 0])
    (v : View sig .tc .vmem S2x256x2048 .bf16) (f) (inb : ∀ a, off a + S1x128x2048.size a ≤ S2x256x2048.size a)
    (w : Vec F S1x128x2048 .bf16) (L : List (View.Piece (Elt F) S2x256x2048 .bf16)) :
    v.read (Elt F) (v.writes (Elt F) f (⟨Rect.unit (s := S2x256x2048) off S1x128x2048.size inb, w⟩ :: L))
      = upd1 i (v.read (Elt F) (v.writes (Elt F) f L)) w :=
  View.read_writes_cons_put v f inb w L h

theorem first_eq (v : View sig .tc .vmem S2x256x2048 .bf16) (f) (w : Vec F S1x256x2048 .bf16) :
    v.read (Elt F) (v.writes (Elt F) f [⟨Rect.unit (s := S2x256x2048) ![0, 0, 0] S1x256x2048.size inb_S2x256x2048_S1x256x2048_0_0_0, w⟩])
      = first (v.read (Elt F) f) w :=
  (View.read_writes_cons_put v f _ w [] rfl).trans rfl

theorem ext_eq (v : View sig .tc .vmem S264x2048 .f32) (f) (a : Vec F S8x2048 .f32) (b : Vec F S256x2048 .f32) :
    v.read (Elt F) (v.writes (Elt F) f [⟨Rect.unit (s := S264x2048) ![8, 0] S256x2048.size inb_S264x2048_S256x2048_8_0, b⟩,
      ⟨Rect.unit (s := S264x2048) ![0, 0] S8x2048.size inb_S264x2048_S8x2048_0_0, a⟩]) = ext a b := by
  have e1 : v.read (Elt F) (v.writes (Elt F) f [⟨Rect.unit (s := S264x2048) ![0, 0] S8x2048.size inb_S264x2048_S8x2048_0_0, a⟩])
      = VecWindow.put (v.read (Elt F) f) ![0, 0] ![8, 2048] a := View.read_writes_cons_put v f _ a [] rfl
  have e2 : v.read (Elt F) (v.writes (Elt F) f [⟨Rect.unit (s := S264x2048) ![8, 0] S256x2048.size inb_S264x2048_S256x2048_8_0, b⟩,
      ⟨Rect.unit (s := S264x2048) ![0, 0] S8x2048.size inb_S264x2048_S8x2048_0_0, a⟩])
      = VecWindow.put (VecWindow.put (v.read (Elt F) f) ![0, 0] ![8, 2048] a) ![8, 0] ![256, 2048] b :=
    (View.read_writes_cons_put v f _ b _ rfl).trans (congrArg (fun z => VecWindow.put z ![8, 0] ![256, 2048] b) e1)
  refine e2.trans ?_
  funext z
  have hz0 : (z 0).val < 264 := (z 0).isLt
  have hz1 : (z 1).val < 2048 := (z 1).isLt
  by_cases h : (z 0).val < 8
  · unfold VecWindow.put ext
    rw [dif_neg (fun h' => by have h0 := h' 0; change 8 ≤ (z 0).val ∧ _ at h0; omega), dif_pos h]
    refine (dif_pos fun a => ?_).trans (congrArg a (funext fun a => Fin.ext ?_))
    · fin_cases a
      · show 0 ≤ (z 0).val ∧ (z 0).val < 0 + 8; omega
      · show 0 ≤ (z 1).val ∧ (z 1).val < 0 + 2048; omega
    · rw [Rect.unitLocal_val]
      fin_cases a <;> rfl
  · unfold ext
    rw [dif_neg h]
    unfold VecWindow.put
    refine (dif_pos fun a => ?_).trans (congrArg b (funext fun a => Fin.ext ?_))
    · fin_cases a
      · show 8 ≤ (z 0).val ∧ (z 0).val < 8 + 256; omega
      · show 0 ≤ (z 1).val ∧ (z 1).val < 0 + 2048; omega
    · rw [Rect.unitLocal_val]
      fin_cases a <;> rfl

theorem ext_cov (v : View sig .tc .vmem S264x2048 .f32) (a : Vec F S8x2048 .f32) (b : Vec F S256x2048 .f32) {off : Fin 2 → ℕ}
    (inb : ∀ k, off k + S256x2048.size k ≤ S264x2048.size k) :
    v.readCov [⟨Rect.unit (s := S264x2048) ![8, 0] S256x2048.size inb_S264x2048_S256x2048_8_0, b⟩,
      ⟨Rect.unit (s := S264x2048) ![0, 0] S8x2048.size inb_S264x2048_S8x2048_0_0, a⟩] (Rect.unit (s := S264x2048) off S256x2048.size inb).toLoadRect
      = View.ld (ext a b) (Rect.unit (s := S264x2048) off S256x2048.size inb) :=
  congrArg (fun z => View.ld z (Rect.unit (s := S264x2048) off S256x2048.size inb)) (ext_eq v _ a b)

theorem outOf_of (i : grid0.Coords) (h : Vec F S1x256x2048 .bf16) (cy : Vec F S8x2048 .f32) (x7 : Vec F S2048x6144 .bf16) (x8 : Vec F S3x2048 .f32)
    (x9 : Vec F S256x2048 .f32) (x10 : Vec F S1x1x1x1x2048 .f32) (x11 : Vec F S2048x2048 .bf16) (e0 e1 e2 : Vec F S256x2048 .f32)
    (h0 : e0 = View.ld (ext (k0_pay17 (BitVec.ofNat 32 (i 0).val) cy) (k0_pay18 (gated h x7))) (Rect.unit (s := S264x2048) ![6, 0] S256x2048.size inb_S264x2048_S256x2048_6_0))
    (h1 : e1 = View.ld (ext (k0_pay17 (BitVec.ofNat 32 (i 0).val) cy) (k0_pay18 (gated h x7))) (Rect.unit (s := S264x2048) ![7, 0] S256x2048.size inb_S264x2048_S256x2048_7_0))
    (h2 : e2 = View.ld (ext (k0_pay17 (BitVec.ofNat 32 (i 0).val) cy) (k0_pay18 (gated h x7))) (Rect.unit (s := S264x2048) ![8, 0] S256x2048.size inb_S264x2048_S256x2048_8_0)) :
    k0_pay1 (k0_pay20 (View.ld x8 (Rect.unit (s := S3x2048) ![0, 0] S1x2048.size inb_S3x2048_S1x2048_0_0)) e0
      (View.ld x8 (Rect.unit (s := S3x2048) ![1, 0] S1x2048.size inb_S3x2048_S1x2048_1_0)) e1
      (View.ld x8 (Rect.unit (s := S3x2048) ![2, 0] S1x2048.size inb_S3x2048_S1x2048_2_0)) e2
      h (View.ld x7 (Rect.unit (s := S2048x6144) ![0, 0] S2048x2048.size inb_S2048x6144_S2048x2048_0_0))) x9 x10 x11
      = outOf i h cy x7 x8 x9 x10 x11 := by
  subst h0 h1 h2
  rfl

end Cert.Kernel4Ideal.Conv

end
-- ==== Proof.ConvPay.lean ====
/-
  The entries of what the gated convolution's kernel computes at one grid point.
-/
module

public import proofs.«01_k».proof.Proof.MlpSpec
public import proofs.«01_k».proof.Proof.ConvStep

@[expose] public section

set_option maxRecDepth 16384

noncomputable section

namespace Cert.Kernel4Ideal.Conv

open Cert.MlpSpec Cert.Kernel4Ideal Cert.Kernel4Ideal.Gen Idealize.ShloMosaic Idealize.ShloMosaic.TcCoe

theorem pay2_at (x : FVec Ideal S256x2048 .f32) (g : FVec Ideal S1x2048 .f32) (a b : FVec Ideal S1x1x1x1x2048 .f32) (r : Fin 256) (k : Fin 2048) :
    k0_pay2 (F := Ideal) x g a b (ix3 0 r k)
      = hid (fun k => x (ix2 r k)) (fun k => g (ix2 0 k)) (fun k => b (ix5 0 0 0 0 k)) (fun k => a (ix5 0 0 0 0 k)) k := by
  pointwise [k0_pay2, hid, scaled]

theorem half_row (x : FVec Ideal S256x2048 .f32) (o : ℕ) (inb : ∀ a, (![o, 0] : Fin 2 → ℕ) a + S128x2048.size a ≤ S256x2048.size a)
    (q : Fin 128) (k : Fin 2048) (r : Fin 256) (hr : r.val = o + q) :
    View.ld (Val := Elt Ideal) (e' := .f32) x (Rect.unit (s := S256x2048) ![o, 0] S128x2048.size inb) (ix2 q k) = x (ix2 r k) := by
  refine congrArg x (funext fun a => Fin.ext ?_)
  refine (Rect.idx_unit_val ..).trans ?_
  fin_cases a
  · show o + q.val = r.val; omega
  · show 0 + k.val = k.val; omega

theorem rows0_at (x : FVec Ideal S256x2048 .f32) (g : FVec Ideal S1x2048 .f32) (a b : FVec Ideal S1x1x1x1x2048 .f32) (q : Fin 128) (k : Fin 2048)
    (r : Fin 256) (hr : r.val = q.val) :
    rows0 (F := Ideal) x g a b (ix3 0 q k)
      = hid (fun k => x (ix2 r k)) (fun k => g (ix2 0 k)) (fun k => b (ix5 0 0 0 0 k)) (fun k => a (ix5 0 0 0 0 k)) k := by
  unfold rows0
  simp only [← fun k => half_row x 0 inb_S256x2048_S128x2048_0_0 q k r (by omega)]
  generalize View.ld (Val := Elt Ideal) (e' := .f32) x (Rect.unit (s := S256x2048) ![0, 0] S128x2048.size inb_S256x2048_S128x2048_0_0) = z
  pointwise [k0_pay5, k0_pay6, k0_pay7, k0_pay8, k0_pay9, k0_pay10, hid, scaled]

theorem rows1_at (x : FVec Ideal S256x2048 .f32) (g : FVec Ideal S1x2048 .f32) (a b : FVec Ideal S1x1x1x1x2048 .f32) (q : Fin 128) (k : Fin 2048)
    (r : Fin 256) (hr : r.val = 128 + q.val) :
    rows1 (F := Ideal) x g a b (ix3 0 q k)
      = hid (fun k => x (ix2 r k)) (fun k => g (ix2 0 k)) (fun k => b (ix5 0 0 0 0 k)) (fun k => a (ix5 0 0 0 0 k)) k := by
  unfold rows1
  simp only [← fun k => half_row x 128 inb_S256x2048_S128x2048_128_0 q k r (by omega)]
  generalize View.ld (Val := Elt Ideal) (e' := .f32) x (Rect.unit (s := S256x2048) ![128, 0] S128x2048.size inb_S256x2048_S128x2048_128_0) = z
  pointwise [k0_pay12, k0_pay13, k0_pay14, k0_pay15, k0_pay16, hid, scaled]

theorem third_at (w : FVec Ideal S2048x6144 .bf16) (o : ℕ) (inb : ∀ a, (![0, o] : Fin 2 → ℕ) a + S2048x2048.size a ≤ S2048x6144.size a)
    (k j : Fin 2048) (J : Fin 6144) (hJ : J.val = o + j) :
    View.ld (Val := Elt Ideal) (e' := .bf16) w (Rect.unit (s := S2048x6144) ![0, o] S2048x2048.size inb) (ix2 k j) = w (ix2 k J) := by
  refine congrArg w (funext fun a => Fin.ext ?_)
  refine (Rect.idx_unit_val ..).trans ?_
  fin_cases a
  · show 0 + k.val = k.val; omega
  · show o + j.val = J.val; omega

theorem tap_at (w : FVec Ideal S3x2048 .f32) (o : Fin 3) (inb : ∀ a, (![o.val, 0] : Fin 2 → ℕ) a + S1x2048.size a ≤ S3x2048.size a) (j : Fin 2048) :
    View.ld (Val := Elt Ideal) (e' := .f32) w (Rect.unit (s := S3x2048) ![o.val, 0] S1x2048.size inb) (ix2 0 j) = w (ix2 o j) := by
  refine congrArg w (funext fun a => Fin.ext ?_)
  refine (Rect.idx_unit_val ..).trans ?_
  fin_cases a
  · show o.val + 0 = o.val; omega
  · show 0 + j.val = j.val; omega

theorem back_at (e : FVec Ideal S264x2048 .f32) (o : ℕ) (inb : ∀ a, (![o, 0] : Fin 2 → ℕ) a + S256x2048.size a ≤ S264x2048.size a)
    (r : Fin 256) (j : Fin 2048) (z : Fin 264) (hz : z.val = o + r) :
    View.ld (Val := Elt Ideal) (e' := .f32) e (Rect.unit (s := S264x2048) ![o, 0] S256x2048.size inb) (ix2 r j) = e (ix2 z j) := by
  refine congrArg e (funext fun a => Fin.ext ?_)
  refine (Rect.idx_unit_val ..).trans ?_
  fin_cases a
  · show o + r.val = z.val; omega
  · show 0 + j.val = j.val; omega

theorem prod_at (h : FVec Ideal S1x256x2048 .bf16) (w : FVec Ideal S2048x2048 .bf16) (r : Fin 256) (j : Fin 2048) :
    k0_pay4 (F := Ideal) h w (ix2 r j) = ∑ k : Fin 2048, h (ix3 0 r k) * w (ix2 k j) := by
  pointwise [k0_pay4]

theorem pay11_at (v : FVec Ideal S256x2048 .f32) (h : FVec Ideal S1x256x2048 .bf16) (w : FVec Ideal S2048x2048 .bf16) (r : Fin 256) (j : Fin 2048) :
    k0_pay11 (F := Ideal) v h w (ix2 r j) = v (ix2 r j) * ∑ k : Fin 2048, h (ix3 0 r k) * w (ix2 k j) := by
  pointwise [k0_pay11]

theorem gated_at (h : FVec Ideal S1x256x2048 .bf16) (w : FVec Ideal S2048x6144 .bf16) (r : Fin 256) (j : Fin 2048) :
    gated (F := Ideal) h w (ix2 r j)
      = (∑ k : Fin 2048, h (ix3 0 r k) * w (ix2 k ⟨2048 + j.val, by omega⟩)) * ∑ k : Fin 2048, h (ix3 0 r k) * w (ix2 k ⟨4096 + j.val, by omega⟩) := by
  unfold gated
  rw [pay11_at, prod_at]
  exact congrArg₂ (· * ·) (Finset.sum_congr rfl fun k _ => congrArg (_ * ·) (third_at w 2048 _ k j _ rfl))
    (Finset.sum_congr rfl fun k _ => congrArg (_ * ·) (third_at w 4096 _ k j _ rfl))

/-- At the first tile of a sequence the carried rows are replaced by zeros. -/
theorem pay17_at (n : ℕ) (hn : n < 64) (v : FVec Ideal S8x2048 .f32) (q : Fin 8) (j : Fin 2048) :
    k0_pay17 (F := Ideal) (BitVec.ofNat 32 n) v (ix2 q j) = if n % 16 = 0 then Ideal.ofBits .f32 0x00000000#32 else v (ix2 q j) := by
  have e : k0_pay17 (F := Ideal) (BitVec.ofNat 32 n) v = if n % 16 = 0 then broadcast S8x2048 (Scalar.ofBits .f32 0x00000000#32) else v := by
    unfold k0_pay17
    simp only [shapeCast_self]
    interval_cases n <;> rfl
  rw [e]
  split <;> rfl

theorem pay18_eq (v : FVec Ideal S256x2048 .f32) : k0_pay18 (F := Ideal) v = v := shapeCast_self v _

theorem pay19_at (v : FVec Ideal S256x2048 .f32) (q : Fin 8) (j : Fin 2048) (r : Fin 256) (hr : r.val = 248 + q) :
    k0_pay19 (F := Ideal) v (ix2 q j) = v (ix2 r j) := by
  pointwise [k0_pay19]
  exact congrArg (fun r => v (ix2 r j)) (Fin.ext (by simp; omega))

theorem pay1_at (y : FVec Ideal S256x2048 .bf16) (x : FVec Ideal S256x2048 .f32) (g : FVec Ideal S1x1x1x1x2048 .f32) (w : FVec Ideal S2048x2048 .bf16)
    (r : Fin 256) (j : Fin 2048) :
    k0_pay1 (F := Ideal) y x g w (ix2 r j) = x (ix2 r j) + g (ix5 0 0 0 0 j) * ∑ k : Fin 2048, y (ix2 r k) * w (ix2 k j) := by
  pointwise [k0_pay1]

theorem pay20_at (a0 a1 a2 : FVec Ideal S1x2048 .f32) (e0 e1 e2 : FVec Ideal S256x2048 .f32) (h : FVec Ideal S1x256x2048 .bf16)
    (w : FVec Ideal S2048x2048 .bf16) (r : Fin 256) (j : Fin 2048) :
    k0_pay20 (F := Ideal) a0 e0 a1 e1 a2 e2 h w (ix2 r j)
      = (∑ k : Fin 2048, h (ix3 0 r k) * w (ix2 k j)) * (a0 (ix2 0 j) * e0 (ix2 r j) + a1 (ix2 0 j) * e1 (ix2 r j) + a2 (ix2 0 j) * e2 (ix2 r j)) := by
  pointwise [k0_pay20]

/-- An entry of the output block. -/
theorem outOf_at (i : grid0.Coords) (h : FVec Ideal S1x256x2048 .bf16) (cy : FVec Ideal S8x2048 .f32) (x7 : FVec Ideal S2048x6144 .bf16)
    (x8 : FVec Ideal S3x2048 .f32) (x9 : FVec Ideal S256x2048 .f32) (x10 : FVec Ideal S1x1x1x1x2048 .f32) (x11 : FVec Ideal S2048x2048 .bf16)
    (u : ℕ → Fin 2048 → EReal) (r : Fin 256) (j : Fin 2048)
    (hu : ∀ (z : Fin 264) (k : Fin 2048), 6 ≤ z.val → ext (F := Ideal) (k0_pay17 (F := Ideal) (BitVec.ofNat 32 (i 0).val) cy) (gated (F := Ideal) h x7) (ix2 z k) = u z.val k) :
    outOf (F := Ideal) i h cy x7 x8 x9 x10 x11 (ix2 r j)
      = x9 (ix2 r j) + x10 (ix5 0 0 0 0 j) * ∑ k : Fin 2048, ((∑ p : Fin 2048, h (ix3 0 r p) * x7 (ix2 p ⟨k.val, by omega⟩))
          * (x8 (ix2 0 k) * u (6 + r.val) k + x8 (ix2 1 k) * u (7 + r.val) k + x8 (ix2 2 k) * u (8 + r.val) k)) * x11 (ix2 k j) := by
  unfold outOf
  rw [pay18_eq]
  refine (pay1_at _ _ _ _ r j).trans (congrArg (_ + ·) (congrArg (_ * ·) (Finset.sum_congr rfl fun k _ => congrArg (· * _) ?_)))
  refine (pay20_at _ _ _ _ _ _ _ _ r k).trans (congrArg₂ (· * ·) (Finset.sum_congr rfl fun p _ => congrArg (_ * ·) (third_at x7 0 _ p k _ (by simp))) ?_)
  refine congrArg₂ (· + ·) (congrArg₂ (· + ·) ?_ ?_) ?_
  · exact congrArg₂ (· * ·) (tap_at x8 0 _ k) ((back_at _ 6 _ r k ⟨6 + r.val, by omega⟩ rfl).trans (hu _ k (by simp)))
  · exact congrArg₂ (· * ·) (tap_at x8 1 _ k) ((back_at _ 7 _ r k ⟨7 + r.val, by omega⟩ rfl).trans (hu _ k (by show 6 ≤ 7 + r.val; omega)))
  · exact congrArg₂ (· * ·) (tap_at x8 2 _ k) ((back_at _ 8 _ r k ⟨8 + r.val, by omega⟩ rfl).trans (hu _ k (by show 6 ≤ 8 + r.val; omega)))

end Cert.Kernel4Ideal.Conv

end
-- ==== Proof.ConvBlocks.lean ====
/-
  The gated convolution's input blocks, read off the program's arguments.
-/
module

public import proofs.«01_k».proof.Proof.ConvStep
public import Idealize.ShloMosaic.Lib.Pipeline.ValueKit

@[expose] public section

set_option maxRecDepth 16384

noncomputable section

namespace Cert.Kernel4Ideal.Conv

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem idxA : ∀ t : Fin cfg0.N, win0_0.index t = ![0, 0]
    ∧ win0_1.index t = ![min (t.val + 1) 63, 0]
    ∧ win0_2.index t = ![0, 0]
    ∧ win0_3.index t = ![1, t.val / 16, 0, 0, 0]
    ∧ win0_4.index t = ![1, t.val / 16, 1, 0, 0]
    ∧ win0_5.index t = ![1, min (t.val + 1) 63 / 16, 0, 0, 0]
    ∧ win0_6.index t = ![1, min (t.val + 1) 63 / 16, 1, 0, 0]
    ∧ win0_7.index t = ![0, 0]
    ∧ win0_8.index t = ![0, 0]
    ∧ win0_9.index t = ![t.val, 0]
    ∧ win0_10.index t = ![1, t.val / 16, 2, 0, 0]
    ∧ win0_11.index t = ![0, 0]
    ∧ win0_12.index t = ![t.val, 0] :=
  (by decide +kernel : ∀ t : Fin grid0.N, _)

theorem V_v2 (c : Dev nD) : (V m c main_v2 : FVec Ideal S1x2048 .f32) = shapeCast S1x2048 (shapeCast S2048 (extractStridedSlice S1x2048 ![1, 0] (m ((c : Thread nD τ).loc main_arg2) : FVec Ideal S2x2048 .f32) slices_S2x2048_S1x2048_1_0) shapeCasts_S1x2048_S2048) shapeCasts_S2048_S1x2048 := by
  simp only [V, hostOps0, List.flatten_cons, List.flatten_nil, List.append_nil, List.cons_append, List.nil_append]
  after_results_simp <;> rfl

theorem V_v3 (c : Dev nD) : (V m c main_v3 : FVec Ideal S2x4x6x1x2048 .f32) = shapeCast S2x4x6x1x2048 (m ((c : Thread nD τ).loc main_arg1) : FVec Ideal S2x4x12288 .f32) shapeCasts_S2x4x12288_S2x4x6x1x2048 := by
  simp only [V, hostOps0, List.flatten_cons, List.flatten_nil, List.append_nil, List.cons_append, List.nil_append]
  after_results_simp <;> rfl

theorem V_v4 (c : Dev nD) : (V m c main_v4 : FVec Ideal S3x2048 .f32) = shapeCast S3x2048 (m ((c : Thread nD τ).loc main_arg4) : FVec Ideal S1x3x2048 .f32) shapeCasts_S1x3x2048_S3x2048 := by
  simp only [V, hostOps0, List.flatten_cons, List.flatten_nil, List.append_nil, List.cons_append, List.nil_append]
  after_results_simp <;> rfl

/-- The gain as the launch gets it. -/
abbrev gainOp (g : FVec Ideal S2x2048 .f32) : FVec Ideal S1x2048 .f32 :=
  shapeCast S1x2048 (shapeCast S2048 (extractStridedSlice S1x2048 ![1, 0] g slices_S2x2048_S1x2048_1_0) shapeCasts_S1x2048_S2048) shapeCasts_S2048_S1x2048

theorem gainOp_at (g : FVec Ideal S2x2048 .f32) (k : Fin 2048) : gainOp g (ix2 0 k) = g (ix2 1 k) := by
  unfold gainOp
  pointwise

/-- The modulation table as the launch gets it. -/
abbrev modOp (x : FVec Ideal S2x4x12288 .f32) : FVec Ideal S2x4x6x1x2048 .f32 :=
  shapeCast S2x4x6x1x2048 x shapeCasts_S2x4x12288_S2x4x6x1x2048

theorem modOp_at (x : FVec Ideal S2x4x12288 .f32) (l : Fin 2) (b : Fin 4) (o : Fin 6) (k : Fin 2048) (j : Fin 12288) (hj : j.val = 2048 * o + k) :
    modOp x (ix5 l b o 0 k) = x (ix3 l b j) := by
  unfold modOp
  pointwise
  exact congrArg (fun j => x (ix3 l b j)) (Fin.ext (by simp; omega))

/-- The taps as the launch gets them. -/
abbrev tapOp (x : FVec Ideal S1x3x2048 .f32) : FVec Ideal S3x2048 .f32 :=
  shapeCast S3x2048 x shapeCasts_S1x3x2048_S3x2048

theorem tapOp_at (x : FVec Ideal S1x3x2048 .f32) (o : Fin 3) (k : Fin 2048) : tapOp x (ix2 o k) = x (ix3 0 o k) := by
  unfold tapOp
  pointwise

theorem rd0 (c : Dev nD) (t : Fin cfg0.N) (r : Fin 256) (k : Fin 2048) : iblk m c 0 t (ix2 r k)
    = m ((c : Thread nD τ).loc main_arg0) (ix2 ⟨r.val, by omega⟩ k) := by
  blk_ext [iblk, V, idxA t]

theorem rd1 (c : Dev nD) (t : Fin cfg0.N) (R : Fin 16384) (r : Fin 256) (k : Fin 2048) (ht : t.val < 63) (hR : R.val = 256 * (t.val + 1) + r) : iblk m c 1 t (ix2 r k)
    = m ((c : Thread nD τ).loc main_arg0) (ix2 R k) := by
  blk_ext [iblk, V, idxA t]

theorem rd9 (c : Dev nD) (t : Fin cfg0.N) (R : Fin 16384) (r : Fin 256) (k : Fin 2048) (hR : R.val = 256 * t.val + r) : iblk m c 9 t (ix2 r k)
    = m ((c : Thread nD τ).loc main_arg0) (ix2 R k) := by
  blk_ext [iblk, V, idxA t]

theorem rd7 (c : Dev nD) (t : Fin cfg0.N) (k : Fin 2048) (j : Fin 6144) : iblk m c 7 t (ix2 k j)
    = m ((c : Thread nD τ).loc main_arg3) (ix2 k j) := by
  blk_ext [iblk, V, idxA t]

theorem rd11 (c : Dev nD) (t : Fin cfg0.N) (k : Fin 2048) (j : Fin 2048) : iblk m c 11 t (ix2 k j)
    = m ((c : Thread nD τ).loc main_arg5) (ix2 k j) := by
  blk_ext [iblk, V, idxA t]

theorem rd2 (c : Dev nD) (t : Fin cfg0.N) (k : Fin 2048) : iblk m c 2 t (ix2 0 k)
    = m ((c : Thread nD τ).loc main_arg2) (ix2 1 k) := by
  have e : V m c (Pipeline.arrRef spec0 2) = _ := V_v2 m c
  unfold iblk
  rw [e]
  refine Eq.trans ?_ (gainOp_at _ _)
  refine congrArg (gainOp (m ((c : Thread nD τ).loc main_arg2))) ?_
  blk_ext [idxA t]

theorem rd8 (c : Dev nD) (t : Fin cfg0.N) (o : Fin 3) (k : Fin 2048) : iblk m c 8 t (ix2 o k)
    = m ((c : Thread nD τ).loc main_arg4) (ix3 0 o k) := by
  have e : V m c (Pipeline.arrRef spec0 8) = _ := V_v4 m c
  unfold iblk
  rw [e]
  refine Eq.trans ?_ (tapOp_at _ o k)
  refine congrArg (tapOp (m ((c : Thread nD τ).loc main_arg4))) ?_
  blk_ext [idxA t]

theorem rd3 (c : Dev nD) (t : Fin cfg0.N) (b : Fin 4) (k : Fin 2048) (hb : b.val = t.val / 16) : iblk m c 3 t (ix5 0 0 0 0 k)
    = m ((c : Thread nD τ).loc main_arg1) (ix3 1 b ⟨k.val, by omega⟩) := by
  have e : V m c (Pipeline.arrRef spec0 3) = _ := V_v3 m c
  unfold iblk
  rw [e]
  refine Eq.trans ?_ (modOp_at _ 1 b 0 k _ (by simp))
  refine congrArg (modOp (m ((c : Thread nD τ).loc main_arg1))) ?_
  blk_ext [idxA t]

theorem rd4 (c : Dev nD) (t : Fin cfg0.N) (b : Fin 4) (k : Fin 2048) (hb : b.val = t.val / 16) : iblk m c 4 t (ix5 0 0 0 0 k)
    = m ((c : Thread nD τ).loc main_arg1) (ix3 1 b ⟨2048 + k.val, by omega⟩) := by
  have e : V m c (Pipeline.arrRef spec0 4) = _ := V_v3 m c
  unfold iblk
  rw [e]
  refine Eq.trans ?_ (modOp_at _ 1 b 1 k _ rfl)
  refine congrArg (modOp (m ((c : Thread nD τ).loc main_arg1))) ?_
  blk_ext [idxA t]

theorem rd5 (c : Dev nD) (t : Fin cfg0.N) (b : Fin 4) (k : Fin 2048) (ht : t.val < 63) (hb : b.val = (t.val + 1) / 16) : iblk m c 5 t (ix5 0 0 0 0 k)
    = m ((c : Thread nD τ).loc main_arg1) (ix3 1 b ⟨k.val, by omega⟩) := by
  have e : V m c (Pipeline.arrRef spec0 5) = _ := V_v3 m c
  unfold iblk
  rw [e]
  refine Eq.trans ?_ (modOp_at _ 1 b 0 k _ (by simp))
  refine congrArg (modOp (m ((c : Thread nD τ).loc main_arg1))) ?_
  blk_ext [idxA t]

theorem rd6 (c : Dev nD) (t : Fin cfg0.N) (b : Fin 4) (k : Fin 2048) (ht : t.val < 63) (hb : b.val = (t.val + 1) / 16) : iblk m c 6 t (ix5 0 0 0 0 k)
    = m ((c : Thread nD τ).loc main_arg1) (ix3 1 b ⟨2048 + k.val, by omega⟩) := by
  have e : V m c (Pipeline.arrRef spec0 6) = _ := V_v3 m c
  unfold iblk
  rw [e]
  refine Eq.trans ?_ (modOp_at _ 1 b 1 k _ rfl)
  refine congrArg (modOp (m ((c : Thread nD τ).loc main_arg1))) ?_
  blk_ext [idxA t]

theorem rd10 (c : Dev nD) (t : Fin cfg0.N) (b : Fin 4) (k : Fin 2048) (hb : b.val = t.val / 16) : iblk m c 10 t (ix5 0 0 0 0 k)
    = m ((c : Thread nD τ).loc main_arg1) (ix3 1 b ⟨4096 + k.val, by omega⟩) := by
  have e : V m c (Pipeline.arrRef spec0 10) = _ := V_v3 m c
  unfold iblk
  rw [e]
  refine Eq.trans ?_ (modOp_at _ 1 b 2 k _ rfl)
  refine congrArg (modOp (m ((c : Thread nD τ).loc main_arg1))) ?_
  blk_ext [idxA t]

end Cert.Kernel4Ideal.Conv

end
-- ==== Proof.ConvRunA.lean ====
/-
The body of the gated convolution's kernel at the first grid point.
-/
module

public import proofs.«01_k».proof.Proof.ConvStep

@[expose] public section

set_option maxRecDepth 16384

noncomputable section

namespace Cert.Kernel4Ideal.Conv

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's effect at the first grid point: the scratch is filled for the first row tile before it is used. -/
theorem tripleA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S2048x6144 .bf16) (harg8 : arg8.IsWhole) (arg9 : Memref sig .tc .vmem S3x2048 .f32) (harg9 : arg9.IsWhole) (arg10 : Memref sig .tc .vmem S256x2048 .f32) (harg10 : arg10.IsWhole) (arg11 : Memref sig .tc .vmem S1x1x1x1x2048 .f32) (harg11 : arg11.IsWhole) (arg12 : Memref sig .tc .vmem S2048x2048 .bf16) (harg12 : arg12.IsWhole) (arg13 : Memref sig .tc .vmem S256x2048 .f32) (harg13 : arg13.IsWhole) (arg14 : Memref sig .tc .vmem S2x256x2048 .bf16) (harg14 : arg14.IsWhole) (arg15 : Memref sig .tc .vmem S264x2048 .f32) (harg15 : arg15.IsWhole) (arg16 : Memref sig .tc .vmem S8x2048 .f32) (harg16 : arg16.IsWhole) (hc0 : cond0 i) (hz : (i 0).val = 0) (x0 : Vec F S256x2048 .f32) (x1 : Vec F S256x2048 .f32) (x2 : Vec F S1x2048 .f32) (x3 : Vec F S1x1x1x1x2048 .f32) (x4 : Vec F S1x1x1x1x2048 .f32) (x5 : Vec F S1x1x1x1x2048 .f32) (x6 : Vec F S1x1x1x1x2048 .f32) (x7 : Vec F S2048x6144 .bf16) (x8 : Vec F S3x2048 .f32) (x9 : Vec F S256x2048 .f32) (x10 : Vec F S1x1x1x1x2048 .f32) (x11 : Vec F S2048x2048 .bf16) (xs0 : Vec F S2x256x2048 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outOf i (k0_pay2 x0 x2 x3 x4) k0_pay3 x7 x8 x9 x10 x11) ∗ owns (c : Thread nD τ) arg14 fullShare (fill i (first xs0 (k0_pay2 x0 x2 x3 x4)) x1 x2 x5 x6) ∗ (∃ d, owns (c : Thread nD τ) arg15 fullShare d) ∗ owns (c : Thread nD τ) arg16 fullShare (k0_pay19 (gated (k0_pay2 x0 x2 x3 x4) x7))) -∗ K ⟨⟩))
      ⊢ wp frame (wpE (defs₀ (F := F)) Variants.none c none) E (cc0_inproj_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inproj_conv_eq_skeleton]; unfold cc0_inproj_conv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H12⟩, ⟨%fs0, %hfs0, HS0⟩, ⟨%d15, %fs1, -, HS1⟩, ⟨%d16, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs0
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr
    swap; · iexact H12
    ipureintro
    have hn : slot i (arg14.view.read (Elt F) (arg14.view.writes (Elt F) (harg14.unread xs0)
        [⟨Rect.unit (s := S2x256x2048) ![0, 0, 0] ![1, 256, 2048] inb_S2x256x2048_S1x256x2048_0_0_0, k0_pay2 x0 x2 x3 x4⟩])) = k0_pay2 x0 x2 x3 x4 :=
      (congrArg (slot i) (first_eq _ _ _)).trans (slot_first i hz _ _)
    frame_out
    simp only [upd1_eq i (off3_eq i), upd0_eq i (off2_eq i), ld_slot i (off1_eq i)]
    simp only [slot_upd0, slot_upd1]
    simp only [hn]
    refine (View.read_writes_full _ _ _ _ _).trans ?_
    exact outOf_of i _ _ _ _ _ _ _ _ _ _ (ext_cov _ _ _ _) (ext_cov _ _ _ _) (ext_cov _ _ _ _)
  isplitl [HS0]
  · iexists _; isplitr
    swap; · iexact HS0
    ipureintro
    frame_out
    exact (upd1_eq i (off3_eq i) _ _ _ _ _).trans (congrArg (fun z => upd1 i z _) ((upd0_eq i (off2_eq i) _ _ _ _ _).trans (congrArg (fun z => upd0 i z _) ((first_eq _ _ _).trans (congrArg (fun z => first z _) hfs0)))))
  isplitl [HS1]
  · iexists _; iexists _; isplitr
    swap; · iexact HS1
    ipureintro; rfl
  iexists _; isplitr
  swap; · iexact HS2
  ipureintro
  have hn : slot i (arg14.view.read (Elt F) (arg14.view.writes (Elt F) (harg14.unread xs0)
        [⟨Rect.unit (s := S2x256x2048) ![0, 0, 0] ![1, 256, 2048] inb_S2x256x2048_S1x256x2048_0_0_0, k0_pay2 x0 x2 x3 x4⟩])) = k0_pay2 x0 x2 x3 x4 :=
      (congrArg (slot i) (first_eq _ _ _)).trans (slot_first i hz _ _)
  frame_out
  simp only [upd1_eq i (off3_eq i), upd0_eq i (off2_eq i), ld_slot i (off1_eq i)]
  simp only [slot_upd0, slot_upd1]
  simp only [hn]
  exact View.read_writes_full _ _ _ _ _

end Cert.Kernel4Ideal.Conv

end
-- ==== Proof.ConvRunB.lean ====
/-
The body of the gated convolution's kernel at a later grid point.
-/
module

public import proofs.«01_k».proof.Proof.ConvStep

@[expose] public section

set_option maxRecDepth 16384

noncomputable section

namespace Cert.Kernel4Ideal.Conv

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's effect at a grid point after the first. -/
theorem tripleB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S2048x6144 .bf16) (harg8 : arg8.IsWhole) (arg9 : Memref sig .tc .vmem S3x2048 .f32) (harg9 : arg9.IsWhole) (arg10 : Memref sig .tc .vmem S256x2048 .f32) (harg10 : arg10.IsWhole) (arg11 : Memref sig .tc .vmem S1x1x1x1x2048 .f32) (harg11 : arg11.IsWhole) (arg12 : Memref sig .tc .vmem S2048x2048 .bf16) (harg12 : arg12.IsWhole) (arg13 : Memref sig .tc .vmem S256x2048 .f32) (harg13 : arg13.IsWhole) (arg14 : Memref sig .tc .vmem S2x256x2048 .bf16) (harg14 : arg14.IsWhole) (arg15 : Memref sig .tc .vmem S264x2048 .f32) (harg15 : arg15.IsWhole) (arg16 : Memref sig .tc .vmem S8x2048 .f32) (harg16 : arg16.IsWhole) (hc0 : ¬cond0 i) (hz : True) (x0 : Vec F S256x2048 .f32) (x1 : Vec F S256x2048 .f32) (x2 : Vec F S1x2048 .f32) (x3 : Vec F S1x1x1x1x2048 .f32) (x4 : Vec F S1x1x1x1x2048 .f32) (x5 : Vec F S1x1x1x1x2048 .f32) (x6 : Vec F S1x1x1x1x2048 .f32) (x7 : Vec F S2048x6144 .bf16) (x8 : Vec F S3x2048 .f32) (x9 : Vec F S256x2048 .f32) (x10 : Vec F S1x1x1x1x2048 .f32) (x11 : Vec F S2048x2048 .bf16) (xs0 : Vec F S2x256x2048 .bf16) (cy : Vec F S8x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0 ∗ (∃ d, owns (c : Thread nD τ) arg15 fullShare d) ∗ owns (c : Thread nD τ) arg16 fullShare cy
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outOf i (slot i xs0) cy x7 x8 x9 x10 x11) ∗ owns (c : Thread nD τ) arg14 fullShare (fill i xs0 x1 x2 x5 x6) ∗ (∃ d, owns (c : Thread nD τ) arg15 fullShare d) ∗ owns (c : Thread nD τ) arg16 fullShare (k0_pay19 (gated (slot i xs0) x7))) -∗ K ⟨⟩))
      ⊢ wp frame (wpE (defs₀ (F := F)) Variants.none c none) E (cc0_inproj_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inproj_conv_eq_skeleton]; unfold cc0_inproj_conv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H12⟩, ⟨%fs0, %hfs0, HS0⟩, ⟨%d15, %fs1, -, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs0; obtain rfl := harg16.eq_unread hfs2
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr
    swap; · iexact H12
    ipureintro
    have hn : slot i (arg14.view.read (Elt F) (arg14.view.writes (Elt F) (harg14.unread xs0) [])) = slot i xs0 := congrArg (slot i) hfs0
    frame_out
    simp only [upd1_eq i (off3_eq i), upd0_eq i (off2_eq i), ld_slot i (off1_eq i)]
    simp only [slot_upd0, slot_upd1]
    simp only [hn]
    refine (View.read_writes_full _ _ _ _ _).trans ?_
    exact outOf_of i _ _ _ _ _ _ _ _ _ _ (ext_cov _ _ _ _) (ext_cov _ _ _ _) (ext_cov _ _ _ _)
  isplitl [HS0]
  · iexists _; isplitr
    swap; · iexact HS0
    ipureintro
    frame_out
    exact (upd1_eq i (off3_eq i) _ _ _ _ _).trans (congrArg (fun z => upd1 i z _) ((upd0_eq i (off2_eq i) _ _ _ _ _).trans (congrArg (fun z => upd0 i z _) hfs0)))
  isplitl [HS1]
  · iexists _; iexists _; isplitr
    swap; · iexact HS1
    ipureintro; rfl
  iexists _; isplitr
  swap; · iexact HS2
  ipureintro
  have hn : slot i (arg14.view.read (Elt F) (arg14.view.writes (Elt F) (harg14.unread xs0) [])) = slot i xs0 := congrArg (slot i) hfs0
  frame_out
  simp only [upd1_eq i (off3_eq i), upd0_eq i (off2_eq i), ld_slot i (off1_eq i)]
  simp only [slot_upd0, slot_upd1]
  simp only [hn]
  exact View.read_writes_full _ _ _ _ _

end Cert.Kernel4Ideal.Conv

end
-- ==== Proof.ConvFrame.lean ====
/-
The gated convolution's kernel: what its scratch holds between grid points, and the whole run.
-/
module

public import proofs.«01_k».proof.Proof.ConvRunA
public import proofs.«01_k».proof.Proof.ConvRunB
public import Idealize.ShloMosaic.Lib.Pipeline.FrameBody

@[expose] public section

set_option maxRecDepth 16384

noncomputable section

namespace Cert.Kernel4Ideal.Conv

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S256x2048 .f32 := win0_0.stage (cfg0.slots t 0)
abbrev ms0_1 (t : Fin cfg0.N) : Memref sig .tc .vmem S256x2048 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x1x1x1x2048 .f32 := win0_3.stage (cfg0.slots t 3)
abbrev ms0_4 (t : Fin cfg0.N) : Memref sig .tc .vmem S1x1x1x1x2048 .f32 := win0_4.stage (cfg0.slots t 4)
abbrev ms0_5 (t : Fin cfg0.N) : Memref sig .tc .vmem S1x1x1x1x2048 .f32 := win0_5.stage (cfg0.slots t 5)
abbrev ms0_6 (t : Fin cfg0.N) : Memref sig .tc .vmem S1x1x1x1x2048 .f32 := win0_6.stage (cfg0.slots t 6)
abbrev ms0_7 (t : Fin cfg0.N) : Memref sig .tc .vmem S2048x6144 .bf16 := win0_7.stage (cfg0.slots t 7)
abbrev ms0_8 (t : Fin cfg0.N) : Memref sig .tc .vmem S3x2048 .f32 := win0_8.stage (cfg0.slots t 8)
abbrev ms0_9 (t : Fin cfg0.N) : Memref sig .tc .vmem S256x2048 .f32 := win0_9.stage (cfg0.slots t 9)
abbrev ms0_10 (t : Fin cfg0.N) : Memref sig .tc .vmem S1x1x1x1x2048 .f32 := win0_10.stage (cfg0.slots t 10)
abbrev ms0_11 (t : Fin cfg0.N) : Memref sig .tc .vmem S2048x2048 .bf16 := win0_11.stage (cfg0.slots t 11)
abbrev ms0_12 (t : Fin cfg0.N) : Memref sig .tc .vmem S256x2048 .f32 := win0_12.stage (cfg0.slots t 12)
abbrev scM0_0 : Memref sig .tc .vmem S2x256x2048 .bf16 := Memref.whole cc0_scratch0
abbrev scM0_1 : Memref sig .tc .vmem S264x2048 .f32 := Memref.whole cc0_scratch1
abbrev scM0_2 : Memref sig .tc .vmem S8x2048 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Grid point number `n`. -/
def pt (n : ℕ) : Fin cfg0.N := ⟨n % 64, (Nat.mod_lt n (by decide)).trans_le (le_of_eq (show 64 = cfg0.N from N_0.symm))⟩

theorem pt_val (t : Fin cfg0.N) : pt t.val = t :=
  Fin.ext (Nat.mod_eq_of_lt (t.isLt.trans_le (le_of_eq (show cfg0.N = 64 from N_0))))

/-- The normalised and modulated rows of tile `n`: the first tile's prepared at the first point, a later
    tile's in two halves during the tile before it. -/
def hidden (c : Dev nD) : ℕ → Vec F S1x256x2048 .bf16
  | 0 => k0_pay2 (iblk m c 0 (pt 0)) (iblk m c 2 (pt 0)) (iblk m c 3 (pt 0)) (iblk m c 4 (pt 0))
  | n + 1 => fun y =>
      if (y 1).val < 128 then rows0 (iblk m c 1 (pt n)) (iblk m c 2 (pt n)) (iblk m c 5 (pt n)) (iblk m c 6 (pt n)) (ix3 0 ⟨(y 1).val % 128, Nat.mod_lt _ (by decide)⟩ (y 2))
      else rows1 (iblk m c 1 (pt n)) (iblk m c 2 (pt n)) (iblk m c 5 (pt n)) (iblk m c 6 (pt n)) (ix3 0 ⟨(y 1).val % 128, Nat.mod_lt _ (by decide)⟩ (y 2))

/-- The rows carried into tile `n`: the last eight of the tile before. -/
def carried (c : Dev nD) : ℕ → Vec F S8x2048 .f32
  | 0 => k0_pay3
  | n + 1 => k0_pay19 (gated (hidden m c n) (iblk m c 7 (pt n)))

/-- The output block of point `n`. -/
def outAt (c : Dev nD) (n : ℕ) : Vec F S256x2048 .f32 :=
  outOf (grid0.coords (pt n)) (hidden m c n) (carried m c n) (iblk m c 7 (pt n)) (iblk m c 8 (pt n)) (iblk m c 9 (pt n)) (iblk m c 10 (pt n)) (iblk m c 11 (pt n))

theorem upd0_on (i : grid0.Coords) (s : Vec F S2x256x2048 .bf16) (w : Vec F S1x128x2048 .bf16) (k : Fin 2) (r : Fin 256) (j : Fin 2048)
    (q : Fin 128) (h : k.val = 1 - (i 0).val % 2) (hq : r.val = q.val) :
    upd0 i s w (ix3 k r j) = w (ix3 0 q j) := by
  unfold upd0 VecWindow.put
  refine (dif_pos fun a => ?_).trans (congrArg w (funext fun a => Fin.ext ?_))
  · fin_cases a
    · show 1 - (i 0).val % 2 ≤ k.val ∧ k.val < 1 - (i 0).val % 2 + 1; omega
    · show 0 ≤ r.val ∧ r.val < 0 + 128; omega
    · show 0 ≤ j.val ∧ j.val < 0 + 2048; omega
  · rw [Rect.unitLocal_val]
    fin_cases a
    · show k.val - (1 - (i 0).val % 2) = 0; omega
    · show r.val - 0 = q.val; omega
    · rfl

theorem upd1_on (i : grid0.Coords) (s : Vec F S2x256x2048 .bf16) (w : Vec F S1x128x2048 .bf16) (k : Fin 2) (r : Fin 256) (j : Fin 2048)
    (q : Fin 128) (h : k.val = 1 - (i 0).val % 2) (hq : r.val = 128 + q.val) :
    upd1 i s w (ix3 k r j) = w (ix3 0 q j) := by
  unfold upd1 VecWindow.put
  refine (dif_pos fun a => ?_).trans (congrArg w (funext fun a => Fin.ext ?_))
  · fin_cases a
    · show 1 - (i 0).val % 2 ≤ k.val ∧ k.val < 1 - (i 0).val % 2 + 1; omega
    · show 128 ≤ r.val ∧ r.val < 128 + 128; omega
    · show 0 ≤ j.val ∧ j.val < 0 + 2048; omega
  · rw [Rect.unitLocal_val]
    fin_cases a
    · show k.val - (1 - (i 0).val % 2) = 0; omega
    · show r.val - 128 = q.val; omega
    · rfl

theorem upd1_off (i : grid0.Coords) (s : Vec F S2x256x2048 .bf16) (w : Vec F S1x128x2048 .bf16) (k : Fin 2) (r : Fin 256) (j : Fin 2048)
    (h : r.val < 128) : upd1 i s w (ix3 k r j) = s (ix3 k r j) := by
  unfold upd1 VecWindow.put
  refine dif_neg fun h' => ?_
  have h1 := h' 1
  change 128 ≤ r.val ∧ r.val < 128 + 128 at h1
  omega

/-- After a point, the next point's slot holds the next tile's rows. -/
theorem slot_fill (c : Dev nD) (t : Fin cfg0.N) (i : grid0.Coords) (hi : (i 0).val = t.val + 1) (s : Vec F S2x256x2048 .bf16) :
    slot i (fill (grid0.coords t) s (iblk m c 1 t) (iblk m c 2 t) (iblk m c 5 t) (iblk m c 6 t)) = hidden m c (t.val + 1) := by
  funext y
  have hc := coord0 t
  have hy : (y 1).val < 256 := (y 1).isLt
  generalize hx : iblk m c 1 t = x1
  generalize hg : iblk m c 2 t = x2
  generalize ha : iblk m c 5 t = x5
  generalize hb : iblk m c 6 t = x6
  have e : hidden m c (t.val + 1) y = if (y 1).val < 128 then rows0 (iblk m c 1 (pt t.val)) (iblk m c 2 (pt t.val)) (iblk m c 5 (pt t.val)) (iblk m c 6 (pt t.val)) (ix3 0 ⟨(y 1).val % 128, Nat.mod_lt _ (by decide)⟩ (y 2))
      else rows1 (iblk m c 1 (pt t.val)) (iblk m c 2 (pt t.val)) (iblk m c 5 (pt t.val)) (iblk m c 6 (pt t.val)) (ix3 0 ⟨(y 1).val % 128, Nat.mod_lt _ (by decide)⟩ (y 2)) := rfl
  refine Eq.trans ?_ e.symm
  have hp : pt t.val = t := pt_val t
  generalize pt t.val = p at hp
  subst hp hx hg ha hb
  unfold slot fill
  by_cases h : (y 1).val < 128
  · refine Eq.trans ?_ (if_pos h).symm
    refine (upd1_off _ _ _ _ _ _ h).trans ?_
    exact upd0_on _ _ _ _ _ _ ⟨(y 1).val % 128, Nat.mod_lt _ (by decide)⟩ (by show (i 0).val % 2 = _; omega) (by show (y 1).val = (y 1).val % 128; omega)
  · refine Eq.trans ?_ (if_neg h).symm
    exact upd1_on _ _ _ _ _ _ ⟨(y 1).val % 128, Nat.mod_lt _ (by decide)⟩ (by show (i 0).val % 2 = _; omega) (by show (y 1).val = 128 + (y 1).val % 128; omega)

/-- What the scratch holds when point `n` starts, after the first point. -/
def Inv (c : Dev nD) (n : ℕ) (s : Vec F S2x256x2048 .bf16) : Prop :=
  ∀ i : grid0.Coords, (i 0).val = n → slot i s = hidden m c n

/-- The scratch between points. -/
def PhiS (c : Dev nD) : ℕ → sProp 𝕄
  | 0 => Pipeline.ΦA spec0 c
  | n + 1 => iprop(iprop((∃ s, ⌜Inv m c (n + 1) s⌝ ∗ owns (c : Thread nD τ) scM0_0 fullShare s) ∗ (∃ d, owns (c : Thread nD τ) scM0_1 fullShare d) ∗ owns (c : Thread nD τ) scM0_2 fullShare (carried m c (n + 1))) ∗ (∃ r, prngReg c r))

theorem PhiS_pos (c : Dev nD) (n : ℕ) (hz : n ≠ 0) :
    PhiS m c n = iprop(iprop((∃ s, ⌜Inv m c n s⌝ ∗ owns (c : Thread nD τ) scM0_0 fullShare s) ∗ (∃ d, owns (c : Thread nD τ) scM0_1 fullShare d) ∗ owns (c : Thread nD τ) scM0_2 fullShare (carried m c n)) ∗ (∃ r, prngReg c r)) := by
  cases n with
  | zero => exact absurd rfl hz
  | succ n => rfl

/-- The launch's data: each input window keeps its block, the output block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after0_10]
theorem leaves0_11 (c : Dev nD) (t : Fin cfg0.N) : (dats m 0 c).leavesExact 11 t = owns (c : Thread nD τ) (ms0_11 t) fullShare (iblk m c 11 t) := by
  unfold Dat.leavesExact; rw [show cfg0.idle 11 (grid0.coords t) = false from rfl, after0_11]
theorem leaves0_12 (c : Dev nD) (t : Fin cfg0.N) : (dats m 0 c).leavesExact 12 t = owns (c : Thread nD τ) (ms0_12 t) fullShare (outAt m c t.val) := by
  unfold Dat.leavesExact; rw [show cfg0.idle 12 (grid0.coords t) = false from rfl, after0_12]

set_option maxHeartbeats 4000000 in
theorem soundA (c : Dev nD) (t : Fin cfg0.N) (h0 : t.val = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11, leaves0_12]
  have hp : pt 0 = t := h0 ▸ pt_val t
  have hh : hidden m c t.val = k0_pay2 (iblk m c 0 t) (iblk m c 2 t) (iblk m c 3 t) (iblk m c 4 t) := by
    rw [show hidden m c t.val = hidden m c 0 from by rw [h0], ← hp]; rfl
  have hk : carried m c t.val = k0_pay3 := by rw [h0]; rfl
  rw [show PhiS m c t.val = Pipeline.ΦA spec0 c from by rw [h0]; rfl, PhiA0_eq]
  have hcy : carried m c (t.val + 1) = k0_pay19 (gated (k0_pay2 (iblk m c 0 t) (iblk m c 2 t) (iblk m c 3 t) (iblk m c 4 t)) (iblk m c 7 t)) := by
    rw [← hh, show carried m c (t.val + 1) = k0_pay19 (gated (hidden m c t.val) (iblk m c 7 (pt t.val))) from rfl, pt_val]
  have ho : outAt m c t.val = outOf (grid0.coords t) (k0_pay2 (iblk m c 0 t) (iblk m c 2 t) (iblk m c 3 t) (iblk m c 4 t)) k0_pay3 (iblk m c 7 t) (iblk m c 8 t) (iblk m c 9 t) (iblk m c 10 t) (iblk m c 11 t) := by
    unfold outAt; rw [pt_val, hh, hk]
  iintro ⟨⟨⟨⟨%s, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (tripleA c (grid0.coords t) _ _ _ _ _ _ _ _ _ _ _ _ _ _ _ _ _ _ _ _ _ _ _ _ _ _ _ _ _ _ _ _ ((hcond0 t).mpr h0) (by rw [coord0]; exact h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexists _; isplitr
        swap; · iexact HS0
        ipureintro; exact fun i hi => slot_fill m c t i hi _
      isplitl [HS1]; · iexact HS1
      rw [hcy]; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

set_option maxHeartbeats 4000000 in
theorem soundB (c : Dev nD) (t : Fin cfg0.N) (h0 : ¬t.val = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11, leaves0_12]
  rw [PhiS_pos m c t.val h0]
  iintro ⟨⟨⟨⟨%s, %hs, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hh : slot (grid0.coords t) s = hidden m c t.val := hs _ (coord0 t)
  have hcy : carried m c (t.val + 1) = k0_pay19 (gated (slot (grid0.coords t) s) (iblk m c 7 t)) := by
    rw [hh, show carried m c (t.val + 1) = k0_pay19 (gated (hidden m c t.val) (iblk m c 7 (pt t.val))) from rfl, pt_val]
  have ho : outAt m c t.val = outOf (grid0.coords t) (slot (grid0.coords t) s) (carried m c t.val) (iblk m c 7 t) (iblk m c 8 t) (iblk m c 9 t) (iblk m c 10 t) (iblk m c 11 t) := by
    unfold outAt; rw [pt_val, hh]
  iapply (tripleB c (grid0.coords t) _ _ _ _ _ _ _ _ _ _ _ _ _ _ _ _ _ _ _ _ _ _ _ _ _ _ _ _ _ _ _ _ (fun h => h0 ((hcond0 t).mp h)) trivial (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s (carried m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexists _; isplitr
        swap; · iexact HS0
        ipureintro; exact fun i hi => slot_fill m c t i hi _
      isplitl [HS1]; · iexact HS1
      rw [hcy]; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · exact soundB m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 64 := N_0; omega), PhiA0_eq]
  iintro ⟨⟨⟨%s, %hs, HS0⟩, HS1, HS2⟩, Hg⟩
  isplitl [HS0 HS1 HS2]
  · isplitl [HS0]
    · iexists s; iexact HS0
    isplitl [HS1]; · iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel4Ideal.Conv

end
-- ==== Proof.ConvValue.lean ====
/-
  What the gated convolution's kernel leaves in its output array.
-/
module

public import proofs.«01_k».proof.Proof.ConvSpec
public import proofs.«01_k».proof.Proof.ConvPay
public import proofs.«01_k».proof.Proof.ConvBlocks
public import proofs.«01_k».proof.Proof.ConvFrame
public import Idealize.ShloMosaic.Lib.Pipeline.ValueKit

@[expose] public section

set_option maxRecDepth 16384

noncomputable section

namespace Cert.Kernel4Ideal.Conv

open Cert.MlpSpec Cert.ConvSpec Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The arguments, by name. -/
def ax (c : Dev nD) (R : Fin 16384) (k : Fin 2048) : EReal := (m ((c : Thread nD τ).loc main_arg0) : FVec Ideal S16384x2048 .f32) (ix2 R k)
def ash (c : Dev nD) (b : Fin 4) (k : Fin 2048) : EReal := (m ((c : Thread nD τ).loc main_arg1) : FVec Ideal S2x4x12288 .f32) (ix3 1 b ⟨k.val, by omega⟩)
def asc (c : Dev nD) (b : Fin 4) (k : Fin 2048) : EReal := (m ((c : Thread nD τ).loc main_arg1) : FVec Ideal S2x4x12288 .f32) (ix3 1 b ⟨2048 + k.val, by omega⟩)
def aga (c : Dev nD) (b : Fin 4) (k : Fin 2048) : EReal := (m ((c : Thread nD τ).loc main_arg1) : FVec Ideal S2x4x12288 .f32) (ix3 1 b ⟨4096 + k.val, by omega⟩)
def agn (c : Dev nD) (k : Fin 2048) : EReal := (m ((c : Thread nD τ).loc main_arg2) : FVec Ideal S2x2048 .f32) (ix2 1 k)
def awi (c : Dev nD) (k : Fin 2048) (u : Fin 6144) : EReal := (m ((c : Thread nD τ).loc main_arg3) : FVec Ideal S2048x6144 .bf16) (ix2 k u)
def atp (c : Dev nD) (o : Fin 3) (k : Fin 2048) : EReal := (m ((c : Thread nD τ).loc main_arg4) : FVec Ideal S1x3x2048 .f32) (ix3 0 o k)
def awo (c : Dev nD) (k j : Fin 2048) : EReal := (m ((c : Thread nD τ).loc main_arg5) : FVec Ideal S2048x2048 .bf16) (ix2 k j)

/-- The normalised and modulated row at position `s` of batch `b`. -/
def hrow (c : Dev nD) (b : Fin 4) (s : ℕ) : Fin 2048 → EReal :=
  hid (ax m c ⟨(4096 * b.val + s) % 16384, Nat.mod_lt _ (by decide)⟩) (agn m c) (asc m c b) (ash m c b)

theorem pt_lt (n : ℕ) (h : n < 64) : (pt n).val = n := Nat.mod_eq_of_lt h

theorem hidden_at (c : Dev nD) (n : ℕ) (hn : n < 64) (r : Fin 256) (k : Fin 2048) (b : Fin 4) (hb : b.val = n / 16) :
    hidden m c n (ix3 0 r k) = hrow m c b (256 * (n % 16) + r.val) k := by
  have hr := r.isLt
  unfold hrow
  cases n with
  | zero =>
    refine (pay2_at _ _ _ _ r k).trans ?_
    have e0 : (fun k => iblk m c 0 (pt 0) (ix2 r k)) = ax m c ⟨(4096 * b.val + (256 * (0 % 16) + r.val)) % 16384, Nat.mod_lt _ (by decide)⟩ := funext fun k =>
      (rd0 m c (pt 0) r k).trans (congrArg (fun R => ax m c R k) (Fin.ext (by show r.val = (4096 * b.val + (256 * (0 % 16) + r.val)) % 16384; omega)))
    have e1 : (fun k => iblk m c 2 (pt 0) (ix2 0 k)) = agn m c := funext fun k => rd2 m c (pt 0) k
    have e2 : (fun k => iblk m c 4 (pt 0) (ix5 0 0 0 0 k)) = asc m c b := funext fun k => rd4 m c (pt 0) b k (by rw [hb]; rfl)
    have e3 : (fun k => iblk m c 3 (pt 0) (ix5 0 0 0 0 k)) = ash m c b := funext fun k => rd3 m c (pt 0) b k (by rw [hb]; rfl)
    rw [e0, e1, e2, e3]
  | succ n =>
    have ht : (pt n).val = n := pt_lt _ (by omega)
    have e0 : (fun k => iblk m c 1 (pt n) (ix2 r k)) = ax m c ⟨(4096 * b.val + (256 * ((n + 1) % 16) + r.val)) % 16384, Nat.mod_lt _ (by decide)⟩ := funext fun k =>
      rd1 m c (pt n) _ r k (by omega) (by show (4096 * b.val + (256 * ((n + 1) % 16) + r.val)) % 16384 = _; rw [ht]; omega)
    have e1 : (fun k => iblk m c 2 (pt n) (ix2 0 k)) = agn m c := funext fun k => rd2 m c (pt n) k
    have e2 : (fun k => iblk m c 6 (pt n) (ix5 0 0 0 0 k)) = asc m c b := funext fun k => rd6 m c (pt n) b k (by omega) (by rw [ht]; exact hb)
    have e3 : (fun k => iblk m c 5 (pt n) (ix5 0 0 0 0 k)) = ash m c b := funext fun k => rd5 m c (pt n) b k (by omega) (by rw [ht]; exact hb)
    rw [← e0, ← e1, ← e2, ← e3]
    show (if r.val < 128 then _ else _) = _
    by_cases h : r.val < 128
    · rw [if_pos h]
      exact rows0_at _ _ _ _ _ k r (by show r.val = r.val % 128; omega)
    · rw [if_neg h]
      exact rows1_at _ _ _ _ _ k r (by show r.val = 128 + r.val % 128; omega)

/-- The product that is convolved, at position `s` of batch `b`. -/
def uat (c : Dev nD) (b : Fin 4) (s : ℕ) : Fin 2048 → EReal := pair (hrow m c b s) (awi m c)

theorem gated_tile (c : Dev nD) (t : Fin cfg0.N) (r : Fin 256) (k : Fin 2048) (b : Fin 4) (hb : b.val = t.val / 16) :
    gated (F := Ideal) (hidden m c t.val) (iblk m c 7 t) (ix2 r k) = uat m c b (256 * (t.val % 16) + r.val) k := by
  have hN : t.val < 64 := lt_of_lt_of_eq t.isLt (show cfg0.N = 64 from N_0)
  refine (gated_at _ _ r k).trans ?_
  unfold uat pair
  exact congrArg₂ (· * ·) (Finset.sum_congr rfl fun p _ => congrArg₂ (· * ·) (hidden_at m c _ hN r p b hb) (rd7 m c t p _))
    (Finset.sum_congr rfl fun p _ => congrArg₂ (· * ·) (hidden_at m c _ hN r p b hb) (rd7 m c t p _))

theorem zero_bits : Ideal.ofBits .f32 0x00000000#32 = (0 : EReal) := czero.trans EReal.coe_zero

/-- The tile's convolved product with the rows before it. -/
theorem ext_tile (c : Dev nD) (t : Fin cfg0.N) (b : Fin 4) (hb : b.val = t.val / 16) (z : Fin 264) (k : Fin 2048) (hz : 6 ≤ z.val) :
    ext (F := Ideal) (k0_pay17 (F := Ideal) (BitVec.ofNat 32 (grid0.coords t 0).val) (carried m c t.val)) (gated (F := Ideal) (hidden m c t.val) (iblk m c 7 t)) (ix2 z k)
      = if 256 * (t.val % 16) + z.val < 8 then 0 else uat m c b (256 * (t.val % 16) + z.val - 8) k := by
  have hN : t.val < 64 := lt_of_lt_of_eq t.isLt (show cfg0.N = 64 from N_0)
  rw [coord0]
  unfold ext
  by_cases h : z.val < 8
  · refine (dif_pos (show ((ix2 z k : S264x2048.Idx) 0).val < 8 from h)).trans ?_
    refine (pay17_at t.val hN _ ⟨z.val, h⟩ k).trans ?_
    by_cases h0 : t.val % 16 = 0
    · rw [if_pos h0, if_pos (by omega)]
      exact zero_bits
    · rw [if_neg h0, if_neg (by omega)]
      have hp : (pt (t.val - 1)).val = t.val - 1 := pt_lt _ (by omega)
      have e : carried m c t.val = k0_pay19 (F := Ideal) (gated (F := Ideal) (hidden m c (pt (t.val - 1)).val) (iblk m c 7 (pt (t.val - 1)))) := by
        rw [hp, show carried m c t.val = carried m c (t.val - 1 + 1) from congrArg (carried m c) (by omega)]
        rfl
      rw [e]
      refine (pay19_at _ ⟨z.val, h⟩ k ⟨248 + z.val, by omega⟩ rfl).trans ?_
      refine (gated_tile m c (pt (t.val - 1)) _ k b (by omega)).trans ?_
      refine congrArg (fun s => uat m c b s k) ?_
      show 256 * ((pt (t.val - 1)).val % 16) + (248 + z.val) = _
      omega
  · refine (dif_neg (show ¬((ix2 z k : S264x2048.Idx) 0).val < 8 from h)).trans ?_
    rw [if_neg (by omega)]
    refine (gated_tile m c t _ k b hb).trans ?_
    refine congrArg (fun s => uat m c b s k) ?_
    show 256 * (t.val % 16) + (z.val - 8) = _
    omega

/-- The whole output array. -/
def convOut (c : Dev nD) : FVec Ideal S16384x2048 .f32 := fun y =>
  row (ax m c (y 0)) (aga m c ⟨(y 0).val / 4096, Nat.div_lt_of_lt_mul (y 0).isLt⟩) (hrow m c ⟨(y 0).val / 4096, Nat.div_lt_of_lt_mul (y 0).isLt⟩ ((y 0).val % 4096))
    (awi m c) (atp m c) (uat m c ⟨(y 0).val / 4096, Nat.div_lt_of_lt_mul (y 0).isLt⟩) ((y 0).val % 4096) (awo m c) (y 1)

theorem outAt_at (c : Dev nD) (t : Fin cfg0.N) (r : Fin 256) (j : Fin 2048) (R : Fin 16384) (hR : R.val = 256 * t.val + r.val) :
    outAt m c t.val (ix2 r j) = convOut m c (ix2 R j) := by
  have hN : t.val < 64 := lt_of_lt_of_eq t.isLt (show cfg0.N = 64 from N_0)
  have hr := r.isLt
  unfold outAt
  rw [pt_val]
  have hb : (⟨R.val / 4096, Nat.div_lt_of_lt_mul R.isLt⟩ : Fin 4).val = t.val / 16 := by show R.val / 4096 = _; omega
  have hs : R.val % 4096 = 256 * (t.val % 16) + r.val := by omega
  refine (outOf_at _ _ _ _ _ _ _ _ (fun z k => if 256 * (t.val % 16) + z < 8 then 0 else uat m c ⟨R.val / 4096, Nat.div_lt_of_lt_mul R.isLt⟩ (256 * (t.val % 16) + z - 8) k)
    r j (ext_tile m c t _ hb)).trans ?_
  show _ = row (ax m c R) (aga m c ⟨R.val / 4096, Nat.div_lt_of_lt_mul R.isLt⟩) (hrow m c ⟨R.val / 4096, Nat.div_lt_of_lt_mul R.isLt⟩ (R.val % 4096))
    (awi m c) (atp m c) (uat m c ⟨R.val / 4096, Nat.div_lt_of_lt_mul R.isLt⟩) (R.val % 4096) (awo m c) j
  generalize (⟨R.val / 4096, Nat.div_lt_of_lt_mul R.isLt⟩ : Fin 4) = b at hb ⊢
  rw [hs]
  unfold row back
  refine congrArg₂ (· + ·) (rd9 m c t R r j hR) (congrArg₂ (· * ·) (rd10 m c t b j hb) (Finset.sum_congr rfl fun k _ => congrArg₂ (· * ·) (congrArg₂ (· * ·) ?_ ?_) (rd11 m c t k j)))
  · exact Finset.sum_congr rfl fun p _ => congrArg₂ (· * ·) (hidden_at m c _ hN r p b hb) (rd7 m c t p _)
  · have e (d a : ℕ) (h : a + d = 8) : (if 256 * (t.val % 16) + (a + r.val) < 8 then (0 : EReal) else uat m c b (256 * (t.val % 16) + (a + r.val) - 8) k)
        = if 256 * (t.val % 16) + r.val < d then 0 else uat m c b (256 * (t.val % 16) + r.val - d) k := by
      rw [show 256 * (t.val % 16) + (a + r.val) - 8 = 256 * (t.val % 16) + r.val - d by omega]
      exact if_congr (by omega) rfl rfl
    exact congrArg₂ (· + ·) (congrArg₂ (· + ·) (congrArg₂ (· * ·) (rd8 m c t 0 k) (e 2 6 rfl)) (congrArg₂ (· * ·) (rd8 m c t 1 k) (e 1 7 rfl)))
      (congrArg₂ (· * ·) (rd8 m c t 2 k) (e 0 8 rfl))

theorem final (c : Dev nD) : (dats m 0 c).arrAt 12 (cfgs 0).N = convOut m c := by
  refine (dats m 0 c).arrAt_eq_of_covers 12 _ (by decide +kernel) fun t hf y => ?_
  blk_simp; rw [after0_12]
  obtain ⟨r, j, rfl⟩ : ∃ (r : Fin 256) (j : Fin 2048), y = ix2 r j := ⟨y 0, y 1, by idx_vars y⟩
  have hN : t.val < 64 := lt_of_lt_of_eq t.isLt (show cfg0.N = 64 from N_0)
  refine (outAt_at m c t r j ⟨256 * t.val + r.val, by omega⟩ rfl).trans ?_
  blk_ext [idxA t]

end Cert.Kernel4Ideal.Conv

end
-- ==== Proof.ConvRef.lean ====
/-
  The gated convolution's reference, read at an index.
-/
module

public import proofs.«01_k».proof.Proof.ConvSpec
public import proofs.«01_k».proof.Proof.Gen.Reference4Ideal.Run
public import Idealize.ShloMosaic.Lib.Pipeline.ValueKit

@[expose] public section

set_option maxRecDepth 16384

noncomputable section

namespace Cert.Reference4Ideal.Conv

open Cert.MlpSpec Cert.ConvSpec Cert.Reference4Ideal Cert.Reference4Ideal.Gen Idealize.ShloMosaic Idealize.ShloMosaic.TcCoe Idealize.SL.Sem

/-- The rows, each over the root of its mean square. -/
def unitRows (x : FVec Ideal S4x4096x2048 .f32) : FVec Ideal S4x4096x2048 .f32 :=
  mulf x (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32)))))

/-- A 2048-wide part of the second layer's modulation. -/
abbrev part0 (y : FVec Ideal S2x4x12288 .f32) : FVec Ideal S4x1x2048 .f32 :=
  broadcastInDim S4x1x2048 ![0, 2] bcast_S4x2048_S4x1x2048_0_2 (shapeCast S4x2048 (extractStridedSlice S1x4x2048 ![1, 0, 0] y slices_S2x4x12288_S1x4x2048_1_0_0) shapeCasts_S1x4x2048_S4x2048)
abbrev part1 (y : FVec Ideal S2x4x12288 .f32) : FVec Ideal S4x1x2048 .f32 :=
  broadcastInDim S4x1x2048 ![0, 2] bcast_S4x2048_S4x1x2048_0_2 (shapeCast S4x2048 (extractStridedSlice S1x4x2048 ![1, 0, 2048] y slices_S2x4x12288_S1x4x2048_1_0_2048) shapeCasts_S1x4x2048_S4x2048)
abbrev part2 (y : FVec Ideal S2x4x12288 .f32) : FVec Ideal S4x1x2048 .f32 :=
  broadcastInDim S4x1x2048 ![0, 2] bcast_S4x2048_S4x1x2048_0_2 (shapeCast S4x2048 (extractStridedSlice S1x4x2048 ![1, 0, 4096] y slices_S2x4x12288_S1x4x2048_1_0_4096) shapeCasts_S1x4x2048_S4x2048)

/-- The normalised and modulated rows. -/
def modRows (n : FVec Ideal S4x4096x2048 .f32) (y : FVec Ideal S2x4x12288 .f32) (g : FVec Ideal S2x2048 .f32) : FVec Ideal S4x4096x2048 .f32 :=
  addf (mulf (mulf n (broadcastInDim S4x4096x2048 ![0, 1, 2] bcast_S1x1x2048_S4x4096x2048_0_1_2 (broadcastInDim S1x1x2048 ![2] bcast_S2048_S1x1x2048_2
      (shapeCast S2048 (extractStridedSlice S1x2048 ![1, 0] g slices_S2x2048_S1x2048_1_0) shapeCasts_S1x2048_S2048))))
    (broadcastInDim S4x4096x2048 ![0, 1, 2] bcast_S4x1x2048_S4x4096x2048_0_1_2 (addf (broadcastInDim S4x1x2048 ![] bcast_S_S4x1x2048 (constant S_ .f32 0x3F800000#32)) (part1 y))))
    (broadcastInDim S4x4096x2048 ![0, 1, 2] bcast_S4x1x2048_S4x4096x2048_0_1_2 (part0 y))

/-- The projection in. -/
def projRows (h : FVec Ideal S4x4096x2048 .f32) (w : FVec Ideal S2048x6144 .bf16) : FVec Ideal S4x4096x6144 .f32 :=
  Host.dotGeneral dot_S4x4096x2048_S2048x6144_S4x4096x6144_2_0_01_1_n_n none h (extf .f32 w bitsLt_bf16_f32)

/-- The product that is convolved. -/
def pairRows (p : FVec Ideal S4x4096x6144 .f32) : FVec Ideal S4x4096x2048 .f32 :=
  mulf (extractStridedSlice S4x4096x2048 ![0, 0, 2048] p slices_S4x4096x6144_S4x4096x2048_0_0_2048)
    (extractStridedSlice S4x4096x2048 ![0, 0, 4096] p slices_S4x4096x6144_S4x4096x2048_0_0_4096)

/-- The same with two rows of zeros in front of each sequence. -/
def padRows (u : FVec Ideal S4x4096x2048 .f32) : FVec Ideal S4x4098x2048 .f32 :=
  pad S4x4098x2048 ![0, 2, 0] ![0, 0, 0] ![0, 0, 0] u (sitofp .f32 (constantI S_ 32 0#32)) pads_S4x4096x2048_S4x4098x2048_000_200_000 h_S_

/-- A tap, one row. -/
abbrev tap0 (t : FVec Ideal S1x3x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast S2048 (extractStridedSlice S1x1x2048 ![0, 0, 0] t slices_S1x3x2048_S1x1x2048_0_0_0) shapeCasts_S1x1x2048_S2048))
abbrev tap1 (t : FVec Ideal S1x3x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast S2048 (extractStridedSlice S1x1x2048 ![0, 1, 0] t slices_S1x3x2048_S1x1x2048_0_1_0) shapeCasts_S1x1x2048_S2048))
abbrev tap2 (t : FVec Ideal S1x3x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast S2048 (extractStridedSlice S1x1x2048 ![0, 2, 0] t slices_S1x3x2048_S1x1x2048_0_2_0) shapeCasts_S1x1x2048_S2048))

/-- The convolution. -/
def convRows (t : FVec Ideal S1x3x2048 .f32) (z : FVec Ideal S4x4098x2048 .f32) : FVec Ideal S4x4096x2048 .f32 :=
  addf (addf (addf (broadcastInDim S4x4096x2048 ![] bcast_S_S4x4096x2048 (constant S_ .f32 0x00000000#32))
    (mulf (tap0 t) (extractStridedSlice S4x4096x2048 ![0, 0, 0] z slices_S4x4098x2048_S4x4096x2048_0_0_0)))
    (mulf (tap1 t) (extractStridedSlice S4x4096x2048 ![0, 1, 0] z slices_S4x4098x2048_S4x4096x2048_0_1_0)))
    (mulf (tap2 t) (extractStridedSlice S4x4096x2048 ![0, 2, 0] z slices_S4x4098x2048_S4x4096x2048_0_2_0))

/-- The residual sum with the gated projection out. -/
def sumRows (x : FVec Ideal S4x4096x2048 .f32) (p : FVec Ideal S4x4096x6144 .f32) (z : FVec Ideal S4x4096x2048 .f32) (y : FVec Ideal S2x4x12288 .f32)
    (wo : FVec Ideal S2048x2048 .bf16) : FVec Ideal S4x4096x2048 .f32 :=
  addf x (mulf (broadcastInDim S4x4096x2048 ![0, 1, 2] bcast_S4x1x2048_S4x4096x2048_0_1_2 (part2 y))
    (Host.dotGeneral dot_S4x4096x2048_S2048x2048_S4x4096x2048_2_0_01_1_n_n none
      (mulf (extractStridedSlice S4x4096x2048 ![0, 0, 0] p slices_S4x4096x6144_S4x4096x2048_0_0_0) z) (extf .f32 wo bitsLt_bf16_f32)))

abbrev byBatch (x : FVec Ideal S16384x2048 .f32) : FVec Ideal S4x4096x2048 .f32 := shapeCast S4x4096x2048 x shapeCasts_S16384x2048_S4x4096x2048

/-- The projection in, of the whole input. -/
abbrev projOf (x : FVec Ideal S16384x2048 .f32) (y : FVec Ideal S2x4x12288 .f32) (g : FVec Ideal S2x2048 .f32) (w : FVec Ideal S2048x6144 .bf16) :
    FVec Ideal S4x4096x6144 .f32 := projRows (modRows (unitRows (byBatch x)) y g) w

/-- The whole reference. -/
def convRef (x : FVec Ideal S16384x2048 .f32) (y : FVec Ideal S2x4x12288 .f32) (g : FVec Ideal S2x2048 .f32) (w : FVec Ideal S2048x6144 .bf16)
    (t : FVec Ideal S1x3x2048 .f32) (wo : FVec Ideal S2048x2048 .bf16) : FVec Ideal S16384x2048 .f32 :=
  shapeCast S16384x2048 (sumRows (byBatch x) (projOf x y g w) (convRows t (padRows (pairRows (projOf x y g w)))) y wo) shapeCasts_S4x4096x2048_S16384x2048

theorem res_eq (m : (ℓ : Loc nD τ sig) → Buf (Elt Ideal) ℓ) (c : Dev nD) :
    Cert.Reference4Ideal.Value.res_main_v66 m c = convRef (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

theorem unitRows_at (x : FVec Ideal S4x4096x2048 .f32) (b : Fin 4) (t : Fin 4096) (k : Fin 2048) :
    unitRows x (ix3 b t k) = x (ix3 b t k) * scaled (fun k => x (ix3 b t k)) := by
  pointwise [unitRows, scaled]

theorem modRows_at (n : FVec Ideal S4x4096x2048 .f32) (y : FVec Ideal S2x4x12288 .f32) (g : FVec Ideal S2x2048 .f32) (b : Fin 4) (t : Fin 4096) (k : Fin 2048) :
    modRows n y g (ix3 b t k) = n (ix3 b t k) * g (ix2 1 k) * (Ideal.ofBits .f32 0x3F800000#32 + y (ix3 1 b ⟨2048 + k.val, by omega⟩)) + y (ix3 1 b ⟨k.val, by omega⟩) := by
  pointwise [modRows]

theorem projRows_at (h : FVec Ideal S4x4096x2048 .f32) (w : FVec Ideal S2048x6144 .bf16) (b : Fin 4) (t : Fin 4096) (u : Fin 6144) :
    projRows h w (ix3 b t u) = ∑ k : Fin 2048, h (ix3 b t k) * w (ix2 k u) := by
  pointwise [projRows]

theorem pairRows_at (p : FVec Ideal S4x4096x6144 .f32) (b : Fin 4) (t : Fin 4096) (k : Fin 2048) :
    pairRows p (ix3 b t k) = p (ix3 b t ⟨2048 + k.val, by omega⟩) * p (ix3 b t ⟨4096 + k.val, by omega⟩) := by
  pointwise [pairRows]

theorem zero_int : (FloatOps.sitofp (F := Ideal) .f32 0#32 : EReal) = 0 := by
  show ((((0#32 : BitVec 32).toInt : ℝ) : EReal)) = 0
  simp

theorem padRows_at (u : FVec Ideal S4x4096x2048 .f32) (b : Fin 4) (z : Fin 4098) (k : Fin 2048) :
    padRows u (ix3 b z k) = if h : z.val < 2 then 0 else u (ix3 b ⟨z.val - 2, by omega⟩ k) := by
  pointwise [padRows]
  by_cases h : z.val < 2
  · rw [dif_pos h, dif_neg (by omega)]
    exact zero_int
  · rw [dif_neg h, dif_pos (by omega)]

theorem convRows_at (t : FVec Ideal S1x3x2048 .f32) (z : FVec Ideal S4x4098x2048 .f32) (b : Fin 4) (s : Fin 4096) (k : Fin 2048) :
    convRows t z (ix3 b s k) = Ideal.ofBits .f32 0x00000000#32 + t (ix3 0 0 k) * z (ix3 b ⟨s.val, by omega⟩ k) + t (ix3 0 1 k) * z (ix3 b ⟨1 + s.val, by omega⟩ k)
      + t (ix3 0 2 k) * z (ix3 b ⟨2 + s.val, by omega⟩ k) := by
  pointwise [convRows]

theorem sumRows_at (x : FVec Ideal S4x4096x2048 .f32) (p : FVec Ideal S4x4096x6144 .f32) (z : FVec Ideal S4x4096x2048 .f32) (y : FVec Ideal S2x4x12288 .f32)
    (wo : FVec Ideal S2048x2048 .bf16) (b : Fin 4) (t : Fin 4096) (j : Fin 2048) :
    sumRows x p z y wo (ix3 b t j) = x (ix3 b t j) + y (ix3 1 b ⟨4096 + j.val, by omega⟩)
      * ∑ k : Fin 2048, p (ix3 b t ⟨k.val, by omega⟩) * z (ix3 b t k) * wo (ix2 k j) := by
  pointwise [sumRows]

theorem byBatch_at (x : FVec Ideal S16384x2048 .f32) (R : Fin 16384) (b : Fin 4) (t : Fin 4096) (k : Fin 2048) (hR : R.val = 4096 * b + t) :
    byBatch x (ix3 b t k) = x (ix2 R k) := by
  unfold byBatch
  pointwise
  exact congrArg (fun R => x (ix2 R k)) (Fin.ext (by show b.val * 4096 + t.val = R.val; omega))

theorem flat_at (z : FVec Ideal S4x4096x2048 .f32) (R : Fin 16384) (b : Fin 4) (t : Fin 4096) (k : Fin 2048) (hR : R.val = 4096 * b + t) :
    shapeCast S16384x2048 z shapeCasts_S4x4096x2048_S16384x2048 (ix2 R k) = z (ix3 b t k) := by
  pointwise
  exact congrArg₂ (fun b t => z (ix3 b t k)) (Fin.ext (by show R.val / 4096 = b.val; omega)) (Fin.ext (by show R.val % 4096 = t.val; omega))

/-- The normalised and modulated row at position `s` of batch `b`. -/
def hrow (x : FVec Ideal S16384x2048 .f32) (y : FVec Ideal S2x4x12288 .f32) (g : FVec Ideal S2x2048 .f32) (b : Fin 4) (s : ℕ) : Fin 2048 → EReal :=
  hid (fun k => x (ix2 ⟨(4096 * b.val + s) % 16384, Nat.mod_lt _ (by decide)⟩ k)) (fun k => g (ix2 1 k)) (fun k => y (ix3 1 b ⟨2048 + k.val, by omega⟩))
    (fun k => y (ix3 1 b ⟨k.val, by omega⟩))

theorem projOf_at (x : FVec Ideal S16384x2048 .f32) (y : FVec Ideal S2x4x12288 .f32) (g : FVec Ideal S2x2048 .f32) (w : FVec Ideal S2048x6144 .bf16)
    (b : Fin 4) (s : Fin 4096) (u : Fin 6144) : projOf x y g w (ix3 b s u) = ∑ k : Fin 2048, hrow x y g b s.val k * w (ix2 k u) := by
  refine (projRows_at _ _ b s u).trans (Finset.sum_congr rfl fun k _ => congrArg (· * _) ?_)
  have hR : (⟨(4096 * b.val + s.val) % 16384, Nat.mod_lt _ (by decide)⟩ : Fin 16384).val = 4096 * b + s := by
    show (4096 * b.val + s.val) % 16384 = 4096 * b.val + s.val
    omega
  simp only [modRows_at, unitRows_at, byBatch_at x _ b s _ hR]
  rfl

/-- The convolved product of batch `b`, by position. -/
def uat (x : FVec Ideal S16384x2048 .f32) (y : FVec Ideal S2x4x12288 .f32) (g : FVec Ideal S2x2048 .f32) (w : FVec Ideal S2048x6144 .bf16)
    (b : Fin 4) (s : ℕ) : Fin 2048 → EReal := pair (hrow x y g b s) (fun k u => w (ix2 k u))

theorem pad_at (x : FVec Ideal S16384x2048 .f32) (y : FVec Ideal S2x4x12288 .f32) (g : FVec Ideal S2x2048 .f32) (w : FVec Ideal S2048x6144 .bf16)
    (b : Fin 4) (s : Fin 4096) (d : ℕ) (z : Fin 4098) (hz : z.val + d = s.val + 2) (k : Fin 2048) :
    padRows (pairRows (projOf x y g w)) (ix3 b z k) = back (uat x y g w b) s.val d k := by
  rw [padRows_at]
  unfold back
  by_cases h : z.val < 2
  · rw [dif_pos h, if_pos (by omega)]
  · rw [dif_neg h, if_neg (by omega), pairRows_at, projOf_at, projOf_at]
    unfold uat pair
    rw [show s.val - d = z.val - 2 by omega]

theorem conv_at (x : FVec Ideal S16384x2048 .f32) (y : FVec Ideal S2x4x12288 .f32) (g : FVec Ideal S2x2048 .f32) (w : FVec Ideal S2048x6144 .bf16)
    (t : FVec Ideal S1x3x2048 .f32) (b : Fin 4) (s : Fin 4096) (k : Fin 2048) :
    convRows t (padRows (pairRows (projOf x y g w))) (ix3 b s k)
      = t (ix3 0 0 k) * back (uat x y g w b) s.val 2 k + t (ix3 0 1 k) * back (uat x y g w b) s.val 1 k + t (ix3 0 2 k) * back (uat x y g w b) s.val 0 k := by
  rw [convRows_at, czero, EReal.coe_zero, zero_add, pad_at x y g w b s 2 ⟨s.val, by omega⟩ rfl k,
    pad_at x y g w b s 1 ⟨1 + s.val, by omega⟩ (by show 1 + s.val + 1 = s.val + 2; omega) k,
    pad_at x y g w b s 0 ⟨2 + s.val, by omega⟩ (by show 2 + s.val + 0 = s.val + 2; omega) k]

theorem batch_at (x : FVec Ideal S16384x2048 .f32) (y : FVec Ideal S2x4x12288 .f32) (g : FVec Ideal S2x2048 .f32) (w : FVec Ideal S2048x6144 .bf16)
    (t : FVec Ideal S1x3x2048 .f32) (wo : FVec Ideal S2048x2048 .bf16) (b : Fin 4) (s : Fin 4096) (R : Fin 16384) (hR : R.val = 4096 * b + s) (j : Fin 2048) :
    sumRows (byBatch x) (projOf x y g w) (convRows t (padRows (pairRows (projOf x y g w)))) y wo (ix3 b s j)
      = row (fun k => x (ix2 R k)) (fun k => y (ix3 1 b ⟨4096 + k.val, by omega⟩)) (hrow x y g b s.val)
      (fun k u => w (ix2 k u)) (fun o k => t (ix3 0 o k)) (uat x y g w b) s.val (fun k j => wo (ix2 k j)) j := by
  rw [sumRows_at, byBatch_at x R b s j hR]
  unfold row
  refine congrArg (_ + ·) (congrArg (_ * ·) (Finset.sum_congr rfl fun k _ => ?_))
  rw [conv_at, projOf_at]

/-- The reference's entry at row `R` of batch `b`. -/
theorem convRef_at (x : FVec Ideal S16384x2048 .f32) (y : FVec Ideal S2x4x12288 .f32) (g : FVec Ideal S2x2048 .f32) (w : FVec Ideal S2048x6144 .bf16)
    (t : FVec Ideal S1x3x2048 .f32) (wo : FVec Ideal S2048x2048 .bf16) (R : Fin 16384) (b : Fin 4) (s : Fin 4096) (hR : R.val = 4096 * b + s) (j : Fin 2048) :
    convRef x y g w t wo (ix2 R j) = row (fun k => x (ix2 R k)) (fun k => y (ix3 1 b ⟨4096 + k.val, by omega⟩)) (hrow x y g b s.val)
      (fun k u => w (ix2 k u)) (fun o k => t (ix3 0 o k)) (uat x y g w b) s.val (fun k j => wo (ix2 k j)) j := by
  unfold convRef
  rw [flat_at _ R b s j hR, batch_at x y g w t wo b s R hR j]

end Cert.Reference4Ideal.Conv

end
-- ==== Proof.Block.lean ====
/-
  One grid point of the attention kernel, as a chain of blocks.

  The kernel unrolls, for each of its eight query blocks, the key blocks up to the diagonal; this module states the one
  step they all repeat (`newMax`, `newAcc`), the chain of steps (`chain`), and shows that each stored piece is the chain
  of its length over the three scratch buffers' loads.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-! ## The step -/

/-- One block of base-two scores: keys by rows, queries by columns. -/
def scores (K : FVec F S512x256 .bf16) (Q : FVec F S256x512 .bf16) : FVec F S512x512 .f32 :=
  matmul dot_S512x256_S256x512_S512x512_1_0_0_1_n_n none K Q (constant S512x512 .f32 0x00000000#32)

/-- The causal mask of a diagonal block at offset `o`: keys after the query are `-inf`. -/
def masked (o : BitVec 32) (s : FVec F S512x512 .f32) : FVec F S512x512 .f32 :=
  select (cmpi .sle (addi (iota .tc S512x512 32 [0] iota_S512x512_d0_w32) (broadcast S512x512 o))
      (addi (iota .tc S512x512 32 [1] iota_S512x512_d1_w32) (broadcast S512x512 o)))
    s (broadcast S512x512 (Scalar.ofBits .f32 0xFF800000#32 : F .f32))

/-- The running row maximum after a block. -/
def newMax (m : FVec F S1x512 .f32) (s : FVec F S512x512 .f32) : FVec F S1x512 .f32 :=
  maximumf m (shapeCast S1x512 (multiReduction .maximumf [0] S512 s 0xFF800000#32 reduces_S512x512_S512 (.inl rfl) rfl)
    shapeCasts_S512_S1x512)

/-- The running sums after a block. -/
def newAcc (m : FVec F S1x512 .f32) (a : FVec F S144x512 .f32) (s : FVec F S512x512 .f32) (V : FVec F S144x512 .bf16) :
    FVec F S144x512 .f32 :=
  addf (mulf (broadcastTo S144x512 (exp2 (subf m (newMax m s))) broadcasts_S1x512_S144x512) a)
    (matmul dot_S144x512_S512x512_S144x512_1_0_0_1_n_n none V
      (truncf .bf16 (exp2 (subf s (broadcastTo S512x512 (newMax m s) broadcasts_S1x512_S512x512))) bitsLt_bf16_f32)
      (constant S144x512 .f32 0x00000000#32))

/-- The running maximum and sums after `n` unmasked blocks. -/
def chain (K : ℕ → FVec F S512x256 .bf16) (V : ℕ → FVec F S144x512 .bf16) (Q : FVec F S256x512 .bf16) :
    ℕ → FVec F S1x512 .f32 × FVec F S144x512 .f32
  | 0 => (broadcast S1x512 (Scalar.ofBits .f32 0xFF800000#32 : F .f32),
      broadcast S144x512 (Scalar.ofBits .f32 0x00000000#32 : F .f32))
  | n + 1 => (newMax (chain K V Q n).1 (scores (K n) Q),
      newAcc (chain K V Q n).1 (chain K V Q n).2 (scores (K n) Q) (V n))

/-- The sums over the denominators, rows back to queries. -/
def finish (a : FVec F S144x512 .f32) : FVec F S1x512x128 .bf16 :=
  shapeCast S1x512x128 (truncf .bf16 (transpose S512x128 [1, 0]
    (mulf (extractStridedSlice S128x512 ![0, 0] a slices_S144x512_o0_0_S128x512)
      (broadcastTo S128x512 (divf (broadcast S1x512 (Scalar.ofBits .f32 0x3F800000#32 : F .f32))
        (extractStridedSlice S1x512 ![128, 0] a slices_S144x512_o128_0_S1x512)) broadcasts_S1x512_S128x512))
    transposes_S128x512_p1_0_S512x128) bitsLt_bf16_f32) shapeCasts_S512x128_S1x512x128

/-- The output of query block `n`: `n` full blocks, then the masked one. -/
def blockOut (n : ℕ) (o : BitVec 32) (K : ℕ → FVec F S512x256 .bf16) (V : ℕ → FVec F S144x512 .bf16)
    (Q : FVec F S256x512 .bf16) : FVec F S1x512x128 .bf16 :=
  finish (newAcc (chain K V Q n).1 (chain K V Q n).2 (masked o (scores (K n) Q)) (V n))

/-! ## The stored pieces as chains -/

section Pieces
variable (K : ℕ → Vec F S512x256 .bf16) (V : ℕ → Vec F S144x512 .bf16) (Q : Vec F S256x512 .bf16)

theorem piece0 : k0_pay73 k0_pay69 (k0_pay70 (K 0) Q) (k0_pay71 (K 0) Q) (k0_pay72 (K 0) Q) (V 0) = blockOut 0 0#32 K V Q := rfl

theorem piece1 : k0_pay79 (iota Kind.tc S512x512 32 [0] iota_S512x512_d0_w32) (iota Kind.tc S512x512 32 [1] iota_S512x512_d1_w32) (k0_pay74 (K 1) Q) (k0_pay76 (k0_pay67 (K 0) Q)) (k0_pay77 (k0_pay67 (K 0) Q) (V 0)) (V 1) = blockOut 1 512#32 K V Q := rfl

theorem piece2 : k0_pay89 (iota Kind.tc S512x512 32 [1] iota_S512x512_d1_w32) (k0_pay83 (K 2) Q) (k0_pay84 (k0_pay78 (K 0) Q) (k0_pay80 (K 1) Q) (FloatOps.ofBits FTy.f32 0xFF800000#32 : F .f32)) (k0_pay85 (k0_pay78 (K 0) Q) (k0_pay80 (K 1) Q) (FloatOps.ofBits FTy.f32 0xFF800000#32 : F .f32) (V 0) (V 1)) (k0_pay87 (iota Kind.tc S512x512 32 [0] iota_S512x512_d0_w32)) k0_pay88 (V 2) = blockOut 2 1024#32 K V Q := rfl

theorem piece3 : k0_pay103 (iota Kind.tc S512x512 32 [0] iota_S512x512_d0_w32) (iota Kind.tc S512x512 32 [1] iota_S512x512_d1_w32) (k0_pay98 (K 3) Q) (k0_pay99 (k0_pay90 (K 1) Q) (k0_pay93 (k0_pay86 (K 0) Q)) (K 2) Q) (k0_pay100 (k0_pay90 (K 1) Q) k0_pay92 (k0_pay93 (k0_pay86 (K 0) Q)) (k0_pay94 (k0_pay86 (K 0) Q)) (k0_pay95 (k0_pay86 (K 0) Q)) (V 0) (K 2) Q (V 1)) (k0_pay101 (k0_pay90 (K 1) Q) (k0_pay93 (k0_pay86 (K 0) Q)) (K 2) Q (V 2)) (V 3) = blockOut 3 1536#32 K V Q := rfl

theorem piece4 : k0_pay117 (k0_pay113 (k0_pay108 (k0_pay102 (K 0) Q) (K 1) Q (constant S512x512 FTy.f32 0#32)) (k0_pay110 (K 3) Q) (k0_pay111 (K 2) Q)) (k0_pay114 (k0_pay107 (K 2) Q) (k0_pay108 (k0_pay102 (K 0) Q) (K 1) Q (constant S512x512 FTy.f32 0#32)) (k0_pay109 (k0_pay102 (K 0) Q) (K 1) Q (constant S512x512 FTy.f32 0#32) (V 0) (V 1)) (k0_pay110 (K 3) Q) (k0_pay111 (K 2) Q) (V 2) (V 3)) (k0_pay116 (iota Kind.tc S512x512 32 [0] iota_S512x512_d0_w32) (iota Kind.tc S512x512 32 [1] iota_S512x512_d1_w32) (K 4) Q) (V 4) = blockOut 4 2048#32 K V Q := rfl

theorem piece5 : k0_pay136 (iota Kind.tc S512x512 32 [1] iota_S512x512_d1_w32) (k0_pay130 (K 5) Q) (k0_pay131 (k0_pay125 (K 3) Q) (k0_pay126 (k0_pay118 (K 1) Q) (k0_pay120 (k0_pay115 (K 0) Q)) (K 2) Q) (K 4) Q) (k0_pay132 (k0_pay125 (K 3) Q) (k0_pay126 (k0_pay118 (K 1) Q) (k0_pay120 (k0_pay115 (K 0) Q)) (K 2) Q) (k0_pay127 (k0_pay118 (K 1) Q) (k0_pay120 (k0_pay115 (K 0) Q)) (k0_pay121 (k0_pay115 (K 0) Q)) (V 0) (k0_pay122 (k0_pay115 (K 0) Q)) (K 2) Q (V 1) (V 2)) (K 4) Q (V 3) (V 4)) (k0_pay134 (iota Kind.tc S512x512 32 [0] iota_S512x512_d0_w32)) k0_pay135 (V 5) = blockOut 5 2560#32 K V Q := rfl

theorem piece6 : k0_pay158 (k0_pay156 (iota Kind.tc S512x512 32 [0] iota_S512x512_d0_w32) (iota Kind.tc S512x512 32 [1] iota_S512x512_d1_w32) (k0_pay151 (K 5) Q) (k0_pay152 (k0_pay145 (K 3) Q) (k0_pay146 (k0_pay137 (K 1) Q) (k0_pay140 (k0_pay133 (K 0) Q)) (K 2) Q) (K 4) Q) (k0_pay153 (k0_pay145 (K 3) Q) (k0_pay146 (k0_pay137 (K 1) Q) (k0_pay140 (k0_pay133 (K 0) Q)) (K 2) Q) (k0_pay147 (k0_pay137 (K 1) Q) k0_pay139 (k0_pay140 (k0_pay133 (K 0) Q)) (k0_pay141 (k0_pay133 (K 0) Q)) (k0_pay142 (k0_pay133 (K 0) Q)) (V 0) (K 2) Q (V 1)) (k0_pay148 (k0_pay137 (K 1) Q) (k0_pay140 (k0_pay133 (K 0) Q)) (K 2) Q (V 2)) (K 4) Q (V 3) (V 4)) (K 6) Q (constant S512x512 FTy.f32 0#32) (V 5) (V 6)) (k0_pay157 (iota Kind.tc S512x512 32 [0] iota_S512x512_d0_w32) (iota Kind.tc S512x512 32 [1] iota_S512x512_d1_w32) (k0_pay151 (K 5) Q) (k0_pay152 (k0_pay145 (K 3) Q) (k0_pay146 (k0_pay137 (K 1) Q) (k0_pay140 (k0_pay133 (K 0) Q)) (K 2) Q) (K 4) Q) (k0_pay153 (k0_pay145 (K 3) Q) (k0_pay146 (k0_pay137 (K 1) Q) (k0_pay140 (k0_pay133 (K 0) Q)) (K 2) Q) (k0_pay147 (k0_pay137 (K 1) Q) k0_pay139 (k0_pay140 (k0_pay133 (K 0) Q)) (k0_pay141 (k0_pay133 (K 0) Q)) (k0_pay142 (k0_pay133 (K 0) Q)) (V 0) (K 2) Q (V 1)) (k0_pay148 (k0_pay137 (K 1) Q) (k0_pay140 (k0_pay133 (K 0) Q)) (K 2) Q (V 2)) (K 4) Q (V 3) (V 4)) (K 6) Q (constant S512x512 FTy.f32 0#32) (V 5) (V 6)) = blockOut 6 3072#32 K V Q := rfl

theorem piece7 : k0_pay177 (iota Kind.tc S512x512 32 [0] iota_S512x512_d0_w32) (iota Kind.tc S512x512 32 [1] iota_S512x512_d1_w32) (k0_pay173 (K 6) Q) (k0_pay174 (k0_pay168 (K 4) Q) (k0_pay169 (k0_pay162 (K 2) Q) (k0_pay163 (k0_pay154 (K 0) Q) (K 1) Q) (K 3) Q) (K 5) Q) (k0_pay175 (k0_pay168 (K 4) Q) (k0_pay169 (k0_pay162 (K 2) Q) (k0_pay163 (k0_pay154 (K 0) Q) (K 1) Q) (K 3) Q) (k0_pay170 (k0_pay162 (K 2) Q) (k0_pay163 (k0_pay154 (K 0) Q) (K 1) Q) (k0_pay164 (k0_pay154 (K 0) Q) (K 1) Q) (k0_pay165 (k0_pay154 (K 0) Q) (K 1) Q (V 0)) (V 1) (K 3) Q (V 2) (V 3)) (K 5) Q (V 4) (V 5)) (k0_pay176 (K 7) Q) (V 6) (V 7) = blockOut 7 3584#32 K V Q := rfl

end Pieces

/-! ## The scratch buffers -/

/-- The row numbers of an eight-row tile. -/
def rowIds : IVec S8x1 32 := iota .tc S8x1 32 [0] iota_S8x1_d0_w32

section Scratch
variable (i : grid0.Coords) (x0 x1 x2 : Vec F S1x4096x128 .bf16) (x3 : Vec F S1x3x16x4096 .f32)

/-- What the key scratch is filled with: keys beside the forget-gate terms. -/
def kFill : List (View.Piece (Elt F) S4096x256 .bf16) :=
  [⟨Rect.unit ![3584, 128] ![512, 128] inb_S4096x256_S512x128_3584_128, k0_pay61 (k0_pay57 rowIds (View.ld x3 (Rect.unit (k0_off23 i) S1x1x1x512.size (k0_off23_inb i))) (View.ld x3 (Rect.unit (k0_off24 i) S1x1x1x512.size (k0_off24_inb i)))) (k0_pay58 rowIds) (k0_pay59 (View.ld x3 (Rect.unit (k0_off22 i) S1x1x1x512.size (k0_off22_inb i))))⟩,
    ⟨Rect.unit ![3584, 0] ![512, 128] inb_S4096x256_S512x128_3584_0, k0_pay60 (View.ld x1 (Rect.unit ![0, 3584, 0] ![1, 512, 128] inb_S1x4096x128_S1x512x128_0_3584_0))⟩,
    ⟨Rect.unit ![3072, 128] ![512, 128] inb_S4096x256_S512x128_3072_128, k0_pay53 rowIds (k0_pay49 rowIds) (k0_pay50 (View.ld x3 (Rect.unit (k0_off19 i) S1x1x1x512.size (k0_off19_inb i)))) (k0_pay51 rowIds) (View.ld x3 (Rect.unit (k0_off20 i) S1x1x1x512.size (k0_off20_inb i))) (View.ld x3 (Rect.unit (k0_off21 i) S1x1x1x512.size (k0_off21_inb i)))⟩,
    ⟨Rect.unit ![3072, 0] ![512, 128] inb_S4096x256_S512x128_3072_0, k0_pay52 (View.ld x1 (Rect.unit ![0, 3072, 0] ![1, 512, 128] inb_S1x4096x128_S1x512x128_0_3072_0))⟩,
    ⟨Rect.unit ![2560, 128] ![512, 128] inb_S4096x256_S512x128_2560_128, k0_pay46 (k0_pay42 rowIds (View.ld x3 (Rect.unit (k0_off17 i) S1x1x1x512.size (k0_off17_inb i))) (View.ld x3 (Rect.unit (k0_off18 i) S1x1x1x512.size (k0_off18_inb i)))) (k0_pay43 rowIds) (k0_pay44 (View.ld x3 (Rect.unit (k0_off16 i) S1x1x1x512.size (k0_off16_inb i))))⟩,
    ⟨Rect.unit ![2560, 0] ![512, 128] inb_S4096x256_S512x128_2560_0, k0_pay45 (View.ld x1 (Rect.unit ![0, 2560, 0] ![1, 512, 128] inb_S1x4096x128_S1x512x128_0_2560_0))⟩,
    ⟨Rect.unit ![2048, 128] ![512, 128] inb_S4096x256_S512x128_2048_128, k0_pay38 rowIds (k0_pay34 rowIds) (k0_pay35 (View.ld x3 (Rect.unit (k0_off13 i) S1x1x1x512.size (k0_off13_inb i)))) (k0_pay36 rowIds) (View.ld x3 (Rect.unit (k0_off14 i) S1x1x1x512.size (k0_off14_inb i))) (View.ld x3 (Rect.unit (k0_off15 i) S1x1x1x512.size (k0_off15_inb i)))⟩,
    ⟨Rect.unit ![2048, 0] ![512, 128] inb_S4096x256_S512x128_2048_0, k0_pay37 (View.ld x1 (Rect.unit ![0, 2048, 0] ![1, 512, 128] inb_S1x4096x128_S1x512x128_0_2048_0))⟩,
    ⟨Rect.unit ![1536, 128] ![512, 128] inb_S4096x256_S512x128_1536_128, k0_pay31 (k0_pay27 rowIds (View.ld x3 (Rect.unit (k0_off11 i) S1x1x1x512.size (k0_off11_inb i))) (View.ld x3 (Rect.unit (k0_off12 i) S1x1x1x512.size (k0_off12_inb i)))) (k0_pay28 rowIds) (k0_pay29 (View.ld x3 (Rect.unit (k0_off10 i) S1x1x1x512.size (k0_off10_inb i))))⟩,
    ⟨Rect.unit ![1536, 0] ![512, 128] inb_S4096x256_S512x128_1536_0, k0_pay30 (View.ld x1 (Rect.unit ![0, 1536, 0] ![1, 512, 128] inb_S1x4096x128_S1x512x128_0_1536_0))⟩,
    ⟨Rect.unit ![1024, 128] ![512, 128] inb_S4096x256_S512x128_1024_128, k0_pay23 rowIds (k0_pay19 rowIds) (k0_pay20 (View.ld x3 (Rect.unit (k0_off7 i) S1x1x1x512.size (k0_off7_inb i)))) (k0_pay21 rowIds) (View.ld x3 (Rect.unit (k0_off8 i) S1x1x1x512.size (k0_off8_inb i))) (View.ld x3 (Rect.unit (k0_off9 i) S1x1x1x512.size (k0_off9_inb i)))⟩,
    ⟨Rect.unit ![1024, 0] ![512, 128] inb_S4096x256_S512x128_1024_0, k0_pay22 (View.ld x1 (Rect.unit ![0, 1024, 0] ![1, 512, 128] inb_S1x4096x128_S1x512x128_0_1024_0))⟩,
    ⟨Rect.unit ![512, 128] ![512, 128] inb_S4096x256_S512x128_512_128, k0_pay16 (k0_pay12 rowIds (View.ld x3 (Rect.unit (k0_off5 i) S1x1x1x512.size (k0_off5_inb i))) (View.ld x3 (Rect.unit (k0_off6 i) S1x1x1x512.size (k0_off6_inb i)))) (k0_pay13 rowIds) (k0_pay14 (View.ld x3 (Rect.unit (k0_off4 i) S1x1x1x512.size (k0_off4_inb i))))⟩,
    ⟨Rect.unit ![512, 0] ![512, 128] inb_S4096x256_S512x128_512_0, k0_pay15 (View.ld x1 (Rect.unit ![0, 512, 0] ![1, 512, 128] inb_S1x4096x128_S1x512x128_0_512_0))⟩,
    ⟨Rect.unit ![0, 128] ![512, 128] inb_S4096x256_S512x128_0_128, k0_pay8 rowIds k0_pay4 (k0_pay5 (View.ld x3 (Rect.unit (k0_off1 i) S1x1x1x512.size (k0_off1_inb i)))) k0_pay6 (View.ld x3 (Rect.unit (k0_off2 i) S1x1x1x512.size (k0_off2_inb i))) (View.ld x3 (Rect.unit (k0_off3 i) S1x1x1x512.size (k0_off3_inb i)))⟩,
    ⟨Rect.unit ![0, 0] ![512, 128] inb_S4096x256_S512x128_0_0, k0_pay7 (View.ld x1 (Rect.unit ![0, 0, 0] ![1, 512, 128] inb_S1x4096x128_S1x512x128_0_0_0))⟩]

/-- What the value scratch is filled with: values above the row of ones. -/
def vFill : List (View.Piece (Elt F) S144x4096 .bf16) :=
  [⟨Rect.unit ![128, 0] ![16, 4096] inb_S144x4096_S16x4096_128_0, k0_pay65 k0_pay64⟩,
    ⟨Rect.unit ![0, 3584] ![128, 512] inb_S144x4096_S128x512_0_3584, k0_pay62 (View.ld x2 (Rect.unit ![0, 3584, 0] ![1, 512, 128] inb_S1x4096x128_S1x512x128_0_3584_0))⟩,
    ⟨Rect.unit ![0, 3072] ![128, 512] inb_S144x4096_S128x512_0_3072, k0_pay55 (k0_pay54 (View.ld x2 (Rect.unit ![0, 3072, 0] ![1, 512, 128] inb_S1x4096x128_S1x512x128_0_3072_0)))⟩,
    ⟨Rect.unit ![0, 2560] ![128, 512] inb_S144x4096_S128x512_0_2560, k0_pay47 (View.ld x2 (Rect.unit ![0, 2560, 0] ![1, 512, 128] inb_S1x4096x128_S1x512x128_0_2560_0))⟩,
    ⟨Rect.unit ![0, 2048] ![128, 512] inb_S144x4096_S128x512_0_2048, k0_pay40 (k0_pay39 (View.ld x2 (Rect.unit ![0, 2048, 0] ![1, 512, 128] inb_S1x4096x128_S1x512x128_0_2048_0)))⟩,
    ⟨Rect.unit ![0, 1536] ![128, 512] inb_S144x4096_S128x512_0_1536, k0_pay32 (View.ld x2 (Rect.unit ![0, 1536, 0] ![1, 512, 128] inb_S1x4096x128_S1x512x128_0_1536_0))⟩,
    ⟨Rect.unit ![0, 1024] ![128, 512] inb_S144x4096_S128x512_0_1024, k0_pay25 (k0_pay24 (View.ld x2 (Rect.unit ![0, 1024, 0] ![1, 512, 128] inb_S1x4096x128_S1x512x128_0_1024_0)))⟩,
    ⟨Rect.unit ![0, 512] ![128, 512] inb_S144x4096_S128x512_0_512, k0_pay17 (View.ld x2 (Rect.unit ![0, 512, 0] ![1, 512, 128] inb_S1x4096x128_S1x512x128_0_512_0))⟩,
    ⟨Rect.unit ![0, 0] ![128, 512] inb_S144x4096_S128x512_0_0, k0_pay10 (k0_pay9 (View.ld x2 (Rect.unit ![0, 0, 0] ![1, 512, 128] inb_S1x4096x128_S1x512x128_0_0_0)))⟩]

/-- What the query scratch is filled with: queries above the three rows of ones. -/
def qFill : List (View.Piece (Elt F) S256x4096 .bf16) :=
  [⟨Rect.unit ![128, 0] ![128, 4096] inb_S256x4096_S128x4096_128_0, k0_pay66⟩,
    ⟨Rect.unit ![0, 3584] ![128, 512] inb_S256x4096_S128x512_0_3584, k0_pay63 (View.ld x0 (Rect.unit ![0, 3584, 0] ![1, 512, 128] inb_S1x4096x128_S1x512x128_0_3584_0))⟩,
    ⟨Rect.unit ![0, 3072] ![128, 512] inb_S256x4096_S128x512_0_3072, k0_pay56 (View.ld x0 (Rect.unit ![0, 3072, 0] ![1, 512, 128] inb_S1x4096x128_S1x512x128_0_3072_0))⟩,
    ⟨Rect.unit ![0, 2560] ![128, 512] inb_S256x4096_S128x512_0_2560, k0_pay48 (View.ld x0 (Rect.unit ![0, 2560, 0] ![1, 512, 128] inb_S1x4096x128_S1x512x128_0_2560_0))⟩,
    ⟨Rect.unit ![0, 2048] ![128, 512] inb_S256x4096_S128x512_0_2048, k0_pay41 (View.ld x0 (Rect.unit ![0, 2048, 0] ![1, 512, 128] inb_S1x4096x128_S1x512x128_0_2048_0))⟩,
    ⟨Rect.unit ![0, 1536] ![128, 512] inb_S256x4096_S128x512_0_1536, k0_pay33 (View.ld x0 (Rect.unit ![0, 1536, 0] ![1, 512, 128] inb_S1x4096x128_S1x512x128_0_1536_0))⟩,
    ⟨Rect.unit ![0, 1024] ![128, 512] inb_S256x4096_S128x512_0_1024, k0_pay26 (View.ld x0 (Rect.unit ![0, 1024, 0] ![1, 512, 128] inb_S1x4096x128_S1x512x128_0_1024_0))⟩,
    ⟨Rect.unit ![0, 512] ![128, 512] inb_S256x4096_S128x512_0_512, k0_pay18 (View.ld x0 (Rect.unit ![0, 512, 0] ![1, 512, 128] inb_S1x4096x128_S1x512x128_0_512_0))⟩,
    ⟨Rect.unit ![0, 0] ![128, 512] inb_S256x4096_S128x512_0_0, k0_pay11 (View.ld x0 (Rect.unit ![0, 0, 0] ![1, 512, 128] inb_S1x4096x128_S1x512x128_0_0_0))⟩]

/-- Key block `j`. -/
def kLd : ℕ → Vec F S512x256 .bf16
  | 0 => fun x => View.canon (kFill i x1 x3) ((Rect.unit (s := S4096x256) ![0, 0] S512x256.size inb_S4096x256_S512x256_0_0).toLoadRect.idx x)
  | 1 => fun x => View.canon (kFill i x1 x3) ((Rect.unit (s := S4096x256) ![512, 0] S512x256.size inb_S4096x256_S512x256_512_0).toLoadRect.idx x)
  | 2 => fun x => View.canon (kFill i x1 x3) ((Rect.unit (s := S4096x256) ![1024, 0] S512x256.size inb_S4096x256_S512x256_1024_0).toLoadRect.idx x)
  | 3 => fun x => View.canon (kFill i x1 x3) ((Rect.unit (s := S4096x256) ![1536, 0] S512x256.size inb_S4096x256_S512x256_1536_0).toLoadRect.idx x)
  | 4 => fun x => View.canon (kFill i x1 x3) ((Rect.unit (s := S4096x256) ![2048, 0] S512x256.size inb_S4096x256_S512x256_2048_0).toLoadRect.idx x)
  | 5 => fun x => View.canon (kFill i x1 x3) ((Rect.unit (s := S4096x256) ![2560, 0] S512x256.size inb_S4096x256_S512x256_2560_0).toLoadRect.idx x)
  | 6 => fun x => View.canon (kFill i x1 x3) ((Rect.unit (s := S4096x256) ![3072, 0] S512x256.size inb_S4096x256_S512x256_3072_0).toLoadRect.idx x)
  | _ => fun x => View.canon (kFill i x1 x3) ((Rect.unit (s := S4096x256) ![3584, 0] S512x256.size inb_S4096x256_S512x256_3584_0).toLoadRect.idx x)

/-- Value block `j`. -/
def vLd : ℕ → Vec F S144x512 .bf16
  | 0 => fun x => View.canon (vFill x2) ((Rect.unit (s := S144x4096) ![0, 0] S144x512.size inb_S144x4096_S144x512_0_0).toLoadRect.idx x)
  | 1 => fun x => View.canon (vFill x2) ((Rect.unit (s := S144x4096) ![0, 512] S144x512.size inb_S144x4096_S144x512_0_512).toLoadRect.idx x)
  | 2 => fun x => View.canon (vFill x2) ((Rect.unit (s := S144x4096) ![0, 1024] S144x512.size inb_S144x4096_S144x512_0_1024).toLoadRect.idx x)
  | 3 => fun x => View.canon (vFill x2) ((Rect.unit (s := S144x4096) ![0, 1536] S144x512.size inb_S144x4096_S144x512_0_1536).toLoadRect.idx x)
  | 4 => fun x => View.canon (vFill x2) ((Rect.unit (s := S144x4096) ![0, 2048] S144x512.size inb_S144x4096_S144x512_0_2048).toLoadRect.idx x)
  | 5 => fun x => View.canon (vFill x2) ((Rect.unit (s := S144x4096) ![0, 2560] S144x512.size inb_S144x4096_S144x512_0_2560).toLoadRect.idx x)
  | 6 => fun x => View.canon (vFill x2) ((Rect.unit (s := S144x4096) ![0, 3072] S144x512.size inb_S144x4096_S144x512_0_3072).toLoadRect.idx x)
  | _ => fun x => View.canon (vFill x2) ((Rect.unit (s := S144x4096) ![0, 3584] S144x512.size inb_S144x4096_S144x512_0_3584).toLoadRect.idx x)

/-- Query block `j`. -/
def qLd : ℕ → Vec F S256x512 .bf16
  | 0 => fun x => View.canon (qFill x0) ((Rect.unit (s := S256x4096) ![0, 0] S256x512.size inb_S256x4096_S256x512_0_0).toLoadRect.idx x)
  | 1 => fun x => View.canon (qFill x0) ((Rect.unit (s := S256x4096) ![0, 512] S256x512.size inb_S256x4096_S256x512_0_512).toLoadRect.idx x)
  | 2 => fun x => View.canon (qFill x0) ((Rect.unit (s := S256x4096) ![0, 1024] S256x512.size inb_S256x4096_S256x512_0_1024).toLoadRect.idx x)
  | 3 => fun x => View.canon (qFill x0) ((Rect.unit (s := S256x4096) ![0, 1536] S256x512.size inb_S256x4096_S256x512_0_1536).toLoadRect.idx x)
  | 4 => fun x => View.canon (qFill x0) ((Rect.unit (s := S256x4096) ![0, 2048] S256x512.size inb_S256x4096_S256x512_0_2048).toLoadRect.idx x)
  | 5 => fun x => View.canon (qFill x0) ((Rect.unit (s := S256x4096) ![0, 2560] S256x512.size inb_S256x4096_S256x512_0_2560).toLoadRect.idx x)
  | 6 => fun x => View.canon (qFill x0) ((Rect.unit (s := S256x4096) ![0, 3072] S256x512.size inb_S256x4096_S256x512_0_3072).toLoadRect.idx x)
  | _ => fun x => View.canon (qFill x0) ((Rect.unit (s := S256x4096) ![0, 3584] S256x512.size inb_S256x4096_S256x512_0_3584).toLoadRect.idx x)

/-- The eight stored pieces. -/
def outFill : List (View.Piece (Elt F) S1x4096x128 .bf16) :=
  [⟨Rect.unit (s := S1x4096x128) ![0, 3584, 0] S1x512x128.size inb_S1x4096x128_S1x512x128_0_3584_0, blockOut 7 3584#32 (kLd i x1 x3) (vLd x2) (qLd x0 7)⟩,
    ⟨Rect.unit (s := S1x4096x128) ![0, 3072, 0] S1x512x128.size inb_S1x4096x128_S1x512x128_0_3072_0, blockOut 6 3072#32 (kLd i x1 x3) (vLd x2) (qLd x0 6)⟩,
    ⟨Rect.unit (s := S1x4096x128) ![0, 2560, 0] S1x512x128.size inb_S1x4096x128_S1x512x128_0_2560_0, blockOut 5 2560#32 (kLd i x1 x3) (vLd x2) (qLd x0 5)⟩,
    ⟨Rect.unit (s := S1x4096x128) ![0, 2048, 0] S1x512x128.size inb_S1x4096x128_S1x512x128_0_2048_0, blockOut 4 2048#32 (kLd i x1 x3) (vLd x2) (qLd x0 4)⟩,
    ⟨Rect.unit (s := S1x4096x128) ![0, 1536, 0] S1x512x128.size inb_S1x4096x128_S1x512x128_0_1536_0, blockOut 3 1536#32 (kLd i x1 x3) (vLd x2) (qLd x0 3)⟩,
    ⟨Rect.unit (s := S1x4096x128) ![0, 1024, 0] S1x512x128.size inb_S1x4096x128_S1x512x128_0_1024_0, blockOut 2 1024#32 (kLd i x1 x3) (vLd x2) (qLd x0 2)⟩,
    ⟨Rect.unit (s := S1x4096x128) ![0, 512, 0] S1x512x128.size inb_S1x4096x128_S1x512x128_0_512_0, blockOut 1 512#32 (kLd i x1 x3) (vLd x2) (qLd x0 1)⟩,
    ⟨Rect.unit (s := S1x4096x128) ![0, 0, 0] S1x512x128.size inb_S1x4096x128_S1x512x128_0_0_0, blockOut 0 0#32 (kLd i x1 x3) (vLd x2) (qLd x0 0)⟩]

end Scratch

set_option maxHeartbeats 2000000 in
/-- The attention output's contents at a grid point are the eight chains' pieces. -/
theorem out9_eq (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x3x16x4096 .f32) (harg5 : arg5.IsWhole) (arg6 : Memref sig .tc .vmem S64x8192 .f32) (harg6 : arg6.IsWhole) (arg7 : Memref sig .tc .vmem S256x2048 .f32) (harg7 : arg7.IsWhole) (arg8 : Memref sig .tc .vmem S16x2048 .f32) (harg8 : arg8.IsWhole) (arg9 : Memref sig .tc .vmem S1x2048x256 .f32) (harg9 : arg9.IsWhole) (arg10 : Memref sig .tc .vmem S1x1x256 .f32) (harg10 : arg10.IsWhole) (arg11 : Memref sig .tc .vmem S1x4096x128 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S16x256 .f32) (harg14 : arg14.IsWhole) (arg15 : Memref sig .tc .vmem S4096x256 .bf16) (harg15 : arg15.IsWhole) (arg16 : Memref sig .tc .vmem S144x4096 .bf16) (harg16 : arg16.IsWhole) (arg17 : Memref sig .tc .vmem S256x4096 .bf16) (harg17 : arg17.IsWhole)
    (x0 : Vec F S1x4096x128 .bf16) (x1 : Vec F S1x4096x128 .bf16) (x2 : Vec F S1x4096x128 .bf16) (x3 : Vec F S1x3x16x4096 .f32) (x4 : Vec F S64x8192 .f32) (x5 : Vec F S256x2048 .f32) (x6 : Vec F S16x2048 .f32) (x7 : Vec F S1x2048x256 .f32) (x8 : Vec F S1x1x256 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon (outFill i x0 x1 x2 x3) := by
  frame_out
  simp only [View.readCov_eq_canon']
  refine congrArg View.canon ?_
  refine congrArg₂ List.cons (congrArg (Sigma.mk (Rect.unit (s := S1x4096x128) ![0, 3584, 0] S1x512x128.size inb_S1x4096x128_S1x512x128_0_3584_0)) (piece7 (kLd i x1 x3) (vLd x2) (qLd x0 7))) ?_
  refine congrArg₂ List.cons (congrArg (Sigma.mk (Rect.unit (s := S1x4096x128) ![0, 3072, 0] S1x512x128.size inb_S1x4096x128_S1x512x128_0_3072_0)) (piece6 (kLd i x1 x3) (vLd x2) (qLd x0 6))) ?_
  refine congrArg₂ List.cons (congrArg (Sigma.mk (Rect.unit (s := S1x4096x128) ![0, 2560, 0] S1x512x128.size inb_S1x4096x128_S1x512x128_0_2560_0)) (piece5 (kLd i x1 x3) (vLd x2) (qLd x0 5))) ?_
  refine congrArg₂ List.cons (congrArg (Sigma.mk (Rect.unit (s := S1x4096x128) ![0, 2048, 0] S1x512x128.size inb_S1x4096x128_S1x512x128_0_2048_0)) (piece4 (kLd i x1 x3) (vLd x2) (qLd x0 4))) ?_
  refine congrArg₂ List.cons (congrArg (Sigma.mk (Rect.unit (s := S1x4096x128) ![0, 1536, 0] S1x512x128.size inb_S1x4096x128_S1x512x128_0_1536_0)) (piece3 (kLd i x1 x3) (vLd x2) (qLd x0 3))) ?_
  refine congrArg₂ List.cons (congrArg (Sigma.mk (Rect.unit (s := S1x4096x128) ![0, 1024, 0] S1x512x128.size inb_S1x4096x128_S1x512x128_0_1024_0)) (piece2 (kLd i x1 x3) (vLd x2) (qLd x0 2))) ?_
  refine congrArg₂ List.cons (congrArg (Sigma.mk (Rect.unit (s := S1x4096x128) ![0, 512, 0] S1x512x128.size inb_S1x4096x128_S1x512x128_0_512_0)) (piece1 (kLd i x1 x3) (vLd x2) (qLd x0 1))) ?_
  refine congrArg₂ List.cons (congrArg (Sigma.mk (Rect.unit (s := S1x4096x128) ![0, 0, 0] S1x512x128.size inb_S1x4096x128_S1x512x128_0_0_0)) (piece0 (kLd i x1 x3) (vLd x2) (qLd x0 0))) ?_
  rfl

end Cert.KernelIdeal.Attn

end
-- ==== Proof.Fill.lean ====
/-
  The scratch buffers of the attention kernel, read at an index: keys beside the forget-gate terms, values above a row
  of ones, queries above three rows of ones.
-/
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe Idealize.SL.Sem

theorem ix_ext4 {n₀ n₁ n₂ n₃ : ℕ} {a a' : Fin n₀} {b b' : Fin n₁} {c c' : Fin n₂} {d d' : Fin n₃} (h0 : a = a') (h1 : b = b')
    (h2 : c = c') (h3 : d = d') : ix4 a b c d = ix4 a' b' c' d' := by subst h0 h1 h2 h3; rfl

theorem one_word : Ideal.ofBits .f32 0x3F800000#32 = 1 := by simp [Ideal.ofBits, Ideal.ieee, -EReal.coe_mul]; norm_num

theorem qFill_cover (x0 : Vec Ideal S1x4096x128 .bf16) (y : S256x4096.Idx) : ∃ p ∈ qFill x0, y ∈ p.1.set := by
  by_contra hn
  simp only [not_exists, not_and, qFill, List.forall_mem_cons] at hn
  obtain ⟨h0, h1, h2, h3, h4, h5, h6, h7, h8, -⟩ := hn
  rw [Rect.mem_set_unit] at h0 h1 h2 h3 h4 h5 h6 h7 h8
  simp only [Fin.forall_fin_two] at h0 h1 h2 h3 h4 h5 h6 h7 h8
  have : (y 0 : ℕ) < 256 := (y 0).isLt
  have : (y 1 : ℕ) < 4096 := (y 1).isLt
  simp at h0 h1 h2 h3 h4 h5 h6 h7 h8
  omega

set_option maxHeartbeats 2000000 in
theorem qFill_apply (x0 : Vec Ideal S1x4096x128 .bf16) (y : S256x4096.Idx) :
    View.canon (qFill x0) y = (if h : (y 0 : ℕ) < 128 then x0 (ix3 0 (y 1) ⟨(y 0 : ℕ), h⟩)
      else if (y 0 : ℕ) < 131 then 1 else 0 : EReal) := by
  unfold qFill
  canon_tiles z h using qFill_cover x0 y
  all_goals open_payloads
  all_goals (idx_vars z; idx_vars y; pointwise)
  · rw [WordCmp.cmpi_slt_ofNat (by omega) (by omega), dif_neg (by omega)]
    by_cases hz : (z0 : ℕ) < 3
    · simp [hz, Scalar.select, show (y0 : ℕ) < 131 by omega]
    · simp [hz, Scalar.select, show ¬ (y0 : ℕ) < 131 by omega]
  all_goals
    rw [dif_pos (by omega)]
    exact congrArg x0 (congrArg₂ (ix3 0) (Fin.ext h1.symm) (Fin.ext h0.symm))

theorem vFill_cover (x2 : Vec Ideal S1x4096x128 .bf16) (y : S144x4096.Idx) : ∃ p ∈ vFill x2, y ∈ p.1.set := by
  by_contra hn
  simp only [not_exists, not_and, vFill, List.forall_mem_cons] at hn
  obtain ⟨h0, h1, h2, h3, h4, h5, h6, h7, h8, -⟩ := hn
  rw [Rect.mem_set_unit] at h0 h1 h2 h3 h4 h5 h6 h7 h8
  simp only [Fin.forall_fin_two] at h0 h1 h2 h3 h4 h5 h6 h7 h8
  have : (y 0 : ℕ) < 144 := (y 0).isLt
  have : (y 1 : ℕ) < 4096 := (y 1).isLt
  simp at h0 h1 h2 h3 h4 h5 h6 h7 h8
  omega

set_option maxHeartbeats 2000000 in
theorem vFill_apply (x2 : Vec Ideal S1x4096x128 .bf16) (y : S144x4096.Idx) :
    View.canon (vFill x2) y = (if h : (y 0 : ℕ) < 128 then x2 (ix3 0 (y 1) ⟨(y 0 : ℕ), h⟩)
      else if (y 0 : ℕ) = 128 then 1 else 0 : EReal) := by
  unfold vFill
  canon_tiles z h using vFill_cover x2 y
  all_goals open_payloads
  all_goals (idx_vars z; idx_vars y; pointwise)
  · rw [WordCmp.cmpi_eq_ofNat (by omega) (by omega), dif_neg (by omega)]
    by_cases hz : (z0 : ℕ) = 0
    · simp [hz, Scalar.select, show (y0 : ℕ) = 128 by omega]
    · simp [hz, Scalar.select, show ¬ (y0 : ℕ) = 128 by omega]
  all_goals
    rw [dif_pos (by omega)]
    exact congrArg x2 (congrArg₂ (ix3 0) (Fin.ext h1.symm) (Fin.ext h0.symm))

/-- An element of the key scratch. -/
def kVal (i : grid0.Coords) (x1 : Vec Ideal S1x4096x128 .bf16) (x3 : Vec Ideal S1x3x16x4096 .f32) (k : Fin 4096)
    (d : Fin 256) : EReal :=
  if h : (d : ℕ) < 128 then x1 (ix3 0 k ⟨d, h⟩)
    else if h' : (d : ℕ) - 128 < 3 then x3 (ix4 0 ⟨(d : ℕ) - 128, h'⟩ (i 1) k) else 0

theorem rowIds_apply (z : Fin 8) : rowIds (ix2 z 0) = BitVec.ofNat 32 z := by pointwise [rowIds]

/-- The row an aligned column of forget-gate terms holds. -/
theorem term_pick (i : grid0.Coords) (x1 : Vec Ideal S1x4096x128 .bf16) (x3 : Vec Ideal S1x3x16x4096 .f32) (k : Fin 4096)
    (d : Fin 256) (z : Fin 128) (hd : (d : ℕ) = 128 + z) (a b c : EReal)
    (ha : a = x3 (ix4 0 0 (i 1) k)) (hb : b = x3 (ix4 0 1 (i 1) k)) (hc : c = x3 (ix4 0 2 (i 1) k)) :
    (if h : (z : ℕ) < 8 then
      Scalar.select (IntOp.cmpi .eq (BitVec.ofNat 32 (z : ℕ)) 0#32) a
        (Scalar.select (IntOp.cmpi .eq (BitVec.ofNat 32 (z : ℕ)) 1#32) b
          (Scalar.select (IntOp.cmpi .eq (BitVec.ofNat 32 (z : ℕ)) 2#32) c (0 : EReal)))
    else (0 : EReal)) = kVal i x1 x3 k d := by
  have hz := z.isLt
  subst ha hb hc
  unfold kVal
  rw [dif_neg (show ¬ (d : ℕ) < 128 by omega)]
  by_cases h3 : (z : ℕ) < 3
  · rw [dif_pos (show (z : ℕ) < 8 by omega), dif_pos (show (d : ℕ) - 128 < 3 by omega)]
    rw [WordCmp.cmpi_eq_ofNat (by omega) (by omega), WordCmp.cmpi_eq_ofNat (by omega) (by omega),
      WordCmp.cmpi_eq_ofNat (by omega) (by omega)]
    have e : ∀ h, (⟨(d : ℕ) - 128, h⟩ : Fin 3) = ⟨z, h3⟩ := fun h => Fin.ext (by simp only; omega)
    rw [e]
    rcases z with ⟨_ | _ | _ | z, hz'⟩
    · rfl
    · rfl
    · rfl
    · simp at h3
      omega
  · rw [dif_neg (show ¬ (d : ℕ) - 128 < 3 by omega)]
    by_cases h8 : (z : ℕ) < 8
    · rw [dif_pos h8, WordCmp.cmpi_eq_ofNat (by omega) (by omega), WordCmp.cmpi_eq_ofNat (by omega) (by omega),
        WordCmp.cmpi_eq_ofNat (by omega) (by omega), decide_eq_false (by omega), decide_eq_false (by omega),
        decide_eq_false (by omega)]
      rfl
    · rw [dif_neg h8]

theorem head_word (i : grid0.Coords) : (BitVec.ofNat 32 (i 1).val).toNat = (i 1).val := by
  have : (i 1).val < 16 := (i 1).isLt
  exact BitVec.toNat_ofNat .. ▸ Nat.mod_eq_of_lt (by omega)

set_option maxHeartbeats 4000000 in
theorem kFill_apply (i : grid0.Coords) (x1 : Vec Ideal S1x4096x128 .bf16) (x3 : Vec Ideal S1x3x16x4096 .f32) (y : S4096x256.Idx) :
    View.canon (kFill i x1 x3) y = kVal i x1 x3 (y 0) (y 1) := by
  unfold kFill
  canon_tiles z h
  all_goals open_payloads
  all_goals (idx_vars z; idx_vars y; pointwise)
  all_goals first
    | (unfold kVal
       rw [dif_pos (show (y1 : ℕ) < 128 by omega)]
       exact congrArg x1 (congrArg₂ (ix3 0) (Fin.ext h0.symm) (Fin.ext h1.symm)))
    | (simp only [rowIds_apply]
       refine term_pick i x1 x3 _ _ z1 h1 _ _ _ ?_ ?_ ?_ <;>
        exact congrArg x3 (ix_ext4 rfl rfl (Fin.ext (head_word i)) (by first | exact Fin.ext h0.symm | exact Fin.ext ((Nat.zero_add _).trans h0.symm))))

end Cert.KernelIdeal.Attn

end
-- ==== Proof.Online.lean ====
/-
  Softmax taken chunk by chunk, over the extended reals: one row of scores, one column of values.

  `Inv S W N m a` says what the running maximum `m` and the running sum `a` hold once the first `N` scores have been
  taken in. `Inv.step` takes in one more chunk; `Inv.final` divides by the running denominator and compares with the
  softmax written over all scores at once, in natural units.
-/
module

public import Idealize.ShloMosaic.PureOps.Ideal
public import Mathlib.Data.EReal.Operations
public import Mathlib.Data.EReal.Inv
public import Mathlib.Analysis.SpecialFunctions.Pow.Real

@[expose] public section

noncomputable section

namespace Cert.Online

open Idealize.ShloMosaic

/-- Every extended real but `⊤` is `⊥` or real. -/
theorem bot_or_real {x : EReal} (h : x ≠ ⊤) : x = ⊥ ∨ ∃ r : ℝ, x = r := by
  induction x with
  | bot => exact .inl rfl
  | coe r => exact .inr ⟨r, rfl⟩
  | top => exact absurd rfl h

/-- `2 ^ (s - m)` as a real weight: zero at a score of `⊥`. -/
def wt (s : EReal) (m : ℝ) : ℝ := if s = ⊥ then 0 else Real.rpow 2 (s.toReal - m)

theorem wt_nonneg (s : EReal) (m : ℝ) : 0 ≤ wt s m := by
  unfold wt; split
  · exact le_rfl
  · exact (Real.rpow_pos_of_pos two_pos _).le

theorem wt_pos {s : EReal} (h : s ≠ ⊥) (m : ℝ) : 0 < wt s m := by
  unfold wt; rw [if_neg h]; exact Real.rpow_pos_of_pos two_pos _

theorem exp2_sub {s : EReal} (h : s ≠ ⊤) (m : ℝ) : Ideal.exp2 (s - (m : EReal)) = (wt s m : EReal) := by
  rcases bot_or_real h with rfl | ⟨r, rfl⟩
  · simp [wt]
  · rw [← EReal.coe_sub, Ideal.exp2_coe, wt, if_neg (EReal.coe_ne_bot r), EReal.toReal_coe]

theorem wt_rescale (s : EReal) (m m' : ℝ) : Real.rpow 2 (m - m') * wt s m = wt s m' := by
  unfold wt
  split
  · simp
  · show (2 : ℝ) ^ (m - m') * (2 : ℝ) ^ (s.toReal - m) = (2 : ℝ) ^ (s.toReal - m')
    rw [← Real.rpow_add two_pos]; congr 1; ring

/-- The natural exponential of a score in natural units is the same weight. -/
theorem exp_sub {s : EReal} (h : s ≠ ⊤) (m : ℝ) :
    Ideal.exp (s * ((Real.log 2 : ℝ) : EReal) - (m : EReal) * ((Real.log 2 : ℝ) : EReal)) = (wt s m : EReal) := by
  have hl : (0 : ℝ) < Real.log 2 := Real.log_pos one_lt_two
  rcases bot_or_real h with rfl | ⟨r, rfl⟩
  · rw [EReal.bot_mul_coe_of_pos hl, ← EReal.coe_mul]; simp [wt]
  · rw [← EReal.coe_mul, ← EReal.coe_mul, ← EReal.coe_sub, Ideal.exp_coe, wt, if_neg (EReal.coe_ne_bot r),
      EReal.toReal_coe]
    congr 1
    show Real.exp _ = (2 : ℝ) ^ (r - m)
    rw [Real.rpow_def_of_pos two_pos]; congr 1; ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real nonnegative factor goes into a sum of extended reals. -/
theorem mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem fold_max_bot {n : ℕ} (f : ℕ → EReal) :
    (Finset.univ : Finset (Fin n)).fold max ⊥ (fun r : Fin n => f r) = (Finset.range n).sup f := by
  show (Finset.univ : Finset (Fin n)).sup (fun r : Fin n => f r) = _
  refine le_antisymm (Finset.sup_le fun r _ => Finset.le_sup (f := f) (Finset.mem_range.mpr r.isLt)) ?_
  exact Finset.sup_le fun k hk => Finset.le_sup (f := fun r : Fin n => f r) (b := ⟨k, Finset.mem_range.mp hk⟩) (Finset.mem_univ _)

/-- After the first `N` scores: the running maximum and the running weighted sum. -/
structure Inv (S W : ℕ → EReal) (N : ℕ) (m a : EReal) : Prop where
  max_eq : m = (Finset.range N).sup S
  sum_eq : a = ∑ k ∈ Finset.range N, Ideal.exp2 (S k - m) * W k

theorem Inv.zero (S W : ℕ → EReal) : Inv S W 0 ⊥ 0 := ⟨by simp, by simp⟩

theorem range_add_sup (S : ℕ → EReal) (N n : ℕ) :
    (Finset.range (N + n)).sup S = max ((Finset.range N).sup S) ((Finset.range n).sup fun r => S (N + r)) := by
  refine le_antisymm (Finset.sup_le fun k hk => ?_) (max_le ?_ ?_)
  · rcases lt_or_ge k N with h | h
    · exact le_max_of_le_left (Finset.le_sup (Finset.mem_range.mpr h))
    · have hk' := Finset.mem_range.mp hk
      refine le_max_of_le_right ?_
      have := Finset.le_sup (f := fun r => S (N + r)) (s := Finset.range n) (b := k - N) (Finset.mem_range.mpr (by omega))
      simpa [Nat.add_sub_cancel' h] using this
  · exact Finset.sup_le fun k hk => Finset.le_sup (Finset.mem_range.mpr (by have := Finset.mem_range.mp hk; omega))
  · exact Finset.sup_le fun k hk => Finset.le_sup (f := S) (b := N + k) (Finset.mem_range.mpr (by have := Finset.mem_range.mp hk; omega))

theorem sup_real {S : ℕ → EReal} (hS : ∀ k, S k ≠ ⊤) (h0 : S 0 ≠ ⊥) {N : ℕ} (hN : 0 < N) :
    ∃ r : ℝ, (Finset.range N).sup S = r := by
  have ht : (Finset.range N).sup S ≠ ⊤ := by
    intro h
    have : (Finset.range N).sup S < ⊤ := (Finset.sup_lt_iff (by exact bot_lt_top)).mpr fun k _ => lt_top_iff_ne_top.mpr (hS k)
    exact absurd h this.ne
  rcases bot_or_real ht with h | h
  · exact absurd (le_bot_iff.mp (h ▸ Finset.le_sup (f := S) (Finset.mem_range.mpr hN))) h0
  · exact h

theorem Inv.step {S W : ℕ → EReal} (hS : ∀ k, S k ≠ ⊤) (h0 : S 0 ≠ ⊥) {N n : ℕ} (hn : 0 < n) {m a m' a' : EReal}
    (h : Inv S W N m a) (hm : m' = max m ((Finset.range n).sup fun r => S (N + r)))
    (ha : a' = Ideal.exp2 (m - m') * a + ∑ r ∈ Finset.range n, W (N + r) * Ideal.exp2 (S (N + r) - m')) :
    Inv S W (N + n) m' a' := by
  have hm' : m' = (Finset.range (N + n)).sup S := by rw [hm, h.max_eq, range_add_sup]
  refine ⟨hm', ?_⟩
  obtain ⟨r', hr'⟩ := sup_real hS h0 (N := N + n) (by omega)
  rw [Finset.sum_range_add, ha]
  congr 1
  · rcases Nat.eq_zero_or_pos N with rfl | hN
    · rw [h.sum_eq]; simp
    · obtain ⟨r, hr⟩ := sup_real hS h0 hN
      rw [h.sum_eq, h.max_eq, hm', hr, hr', ← EReal.coe_sub, Ideal.exp2_coe,
        mul_sum _ _ (c := Real.rpow 2 (r - r')) (Real.rpow_pos_of_pos two_pos _).le]
      refine Finset.sum_congr rfl fun k _ => ?_
      rw [exp2_sub (hS k), exp2_sub (hS k), ← mul_assoc, ← EReal.coe_mul, wt_rescale]
  · exact Finset.sum_congr rfl fun k _ => mul_comm _ _

/-- The running denominator (`W` all ones) is the real sum of the weights, and it is positive. -/
theorem den_real {S : ℕ → EReal} (hS : ∀ k, S k ≠ ⊤) (h0 : S 0 ≠ ⊥) {N : ℕ} (hN : 0 < N) (r : ℝ) :
    0 < ∑ k ∈ Finset.range N, wt (S k) r :=
  Finset.sum_pos' (fun k _ => wt_nonneg _ _) ⟨0, Finset.mem_range.mpr hN, wt_pos h0 r⟩

theorem sup_trunc {S : ℕ → EReal} {N T : ℕ} (hNT : N ≤ T) (hz : ∀ k, N ≤ k → k < T → S k = ⊥) :
    (Finset.range T).sup S = (Finset.range N).sup S := by
  refine le_antisymm (Finset.sup_le fun k hk => ?_) (Finset.sup_mono (by simpa using hNT))
  rcases lt_or_ge k N with h | h
  · exact Finset.le_sup (Finset.mem_range.mpr h)
  · rw [hz k h (Finset.mem_range.mp hk)]; exact bot_le

theorem sup_mul_log {S : ℕ → EReal} {T : ℕ} {c : ℝ} (hc : 0 < c) :
    (Finset.range T).sup (fun k => S k * (c : EReal)) = (Finset.range T).sup S * (c : EReal) := by
  have hm : Monotone fun x : EReal => x * (c : EReal) := fun x y hxy =>
    mul_le_mul_of_nonneg_right hxy (EReal.coe_nonneg.mpr hc.le)
  exact (Finset.comp_sup_eq_sup_comp_of_is_total (fun x : EReal => x * (c : EReal)) hm
    (EReal.bot_mul_coe_of_pos hc)).symm

/-- The running sum over the running denominator is the softmax over all `T` scores, in natural units, applied to the
    values: the scores past the first `N` are `⊥`. -/
theorem Inv.final {S V : ℕ → EReal} (hS : ∀ k, S k ≠ ⊤) (h0 : S 0 ≠ ⊥) {N T : ℕ} (hN : 0 < N) (hNT : N ≤ T)
    (hz : ∀ k, N ≤ k → k < T → S k = ⊥) {m a l : EReal} (ha : Inv S V N m a) (hl : Inv S (fun _ => 1) N m l)
    (X : ℕ → EReal) (hX : ∀ k, X k = S k * ((Real.log 2 : ℝ) : EReal)) (M L : EReal)
    (hM : M = (Finset.range T).sup X) (hL : L = ∑ k ∈ Finset.range T, Ideal.exp (X k - M)) :
    a * Ideal.div 1 l = ∑ k ∈ Finset.range T, Ideal.div (Ideal.exp (X k - M)) L * V k := by
  obtain ⟨r, hr⟩ := sup_real hS h0 hN
  have hln : (0 : ℝ) < Real.log 2 := Real.log_pos one_lt_two
  have hM' : M = (r : EReal) * ((Real.log 2 : ℝ) : EReal) := by
    rw [hM, show X = fun k => S k * ((Real.log 2 : ℝ) : EReal) from funext hX, sup_mul_log hln, sup_trunc hNT hz, hr]
  have hw : ∀ k, Ideal.exp (X k - M) = (wt (S k) r : EReal) := fun k => by rw [hX, hM', exp_sub (hS k)]
  have hw0 : ∀ k, N ≤ k → k < T → wt (S k) r = 0 := fun k h h' => by rw [hz k h h']; simp [wt]
  set D : ℝ := ∑ k ∈ Finset.range N, wt (S k) r with hD
  have hDpos : 0 < D := den_real hS h0 hN r
  have hlD : l = (D : EReal) := by
    rw [hl.sum_eq, hl.max_eq, hr, hD, coe_sum]
    exact Finset.sum_congr rfl fun k _ => by rw [exp2_sub (hS k), mul_one]
  have hsub : Finset.range N ⊆ Finset.range T := by simpa using hNT
  have hLD : L = (D : EReal) := by
    rw [hL, hD, coe_sum]
    refine (Finset.sum_subset hsub fun k hk hk' => ?_).symm.trans ?_ |> fun h => h
    · rw [hw, hw0 k (by simpa using hk') (by simpa using hk)]; rfl
    · exact Finset.sum_congr rfl fun k _ => hw k
  have hi : (0 : ℝ) ≤ 1 / D := (one_div_pos.mpr hDpos).le
  rw [hlD, hLD, Ideal.div_coe hDpos.ne', one_mul, mul_comm, ha.sum_eq, mul_sum _ _ hi, ha.max_eq, hr]
  rw [← Finset.sum_subset hsub fun k hk hk' => by
    rw [hw, hw0 k (by simpa using hk') (by simpa using hk), Ideal.div_coe hDpos.ne']; simp]
  refine Finset.sum_congr rfl fun k _ => ?_
  rw [hw, exp2_sub (hS k), Ideal.div_coe hDpos.ne', ← mul_assoc, mul_comm (((1 / D : ℝ)) : EReal)]

end Cert.Online

end
-- ==== Proof.Steps.lean ====
/-
  One step of the attention kernel's chain, at an index, over the extended reals.
-/
module

public import proofs.«01_k».proof.Proof.Block
public import proofs.«01_k».proof.Proof.Online

@[expose] public section

set_option maxRecDepth 16384

noncomputable section

namespace Cert.KernelIdeal.Attn

open Cert.KernelIdeal Cert.KernelIdeal.Gen Idealize.ShloMosaic Idealize.ShloMosaic.TcCoe Idealize.SL.Sem

theorem neg_inf : Ideal.ofBits .f32 0xFF800000#32 = ⊥ := by simp [Ideal.ofBits, Ideal.ieee]

theorem newMax_apply (m : FVec Ideal S1x512 .f32) (s : FVec Ideal S512x512 .f32) (q : Fin 512) :
    newMax m s (ix2 0 q) = max (m (ix2 0 q)) ((Finset.univ : Finset (Fin 512)).fold max ⊥ fun r => s (ix2 r q)) := by
  pointwise [newMax]
  rw [neg_inf]

theorem newAcc_apply (m : FVec Ideal S1x512 .f32) (a : FVec Ideal S144x512 .f32) (s : FVec Ideal S512x512 .f32)
    (V : FVec Ideal S144x512 .bf16) (d : Fin 144) (q : Fin 512) :
    newAcc m a s V (ix2 d q) = Ideal.exp2 (m (ix2 0 q) - newMax m s (ix2 0 q)) * a (ix2 d q)
      + ∑ r : Fin 512, V (ix2 d r) * Ideal.exp2 (s (ix2 r q) - newMax m s (ix2 0 q)) := by
  pointwise [newAcc]
  rfl

theorem masked_apply (qi : Fin 8) (s : FVec Ideal S512x512 .f32) (r q : Fin 512) :
    masked (BitVec.ofNat 32 (512 * qi)) s (ix2 r q) = if r ≤ q then s (ix2 r q) else (⊥ : EReal) := by
  pointwise [masked]
  have hr := r.isLt
  have hq := q.isLt
  have hi := qi.isLt
  rw [neg_inf, show IntOp.addi (BitVec.ofNat 32 r) (BitVec.ofNat 32 (512 * qi)) = BitVec.ofNat 32 (r + 512 * qi) from
      (BitVec.ofNat_add ..).symm,
    show IntOp.addi (BitVec.ofNat 32 q) (BitVec.ofNat 32 (512 * qi)) = BitVec.ofNat 32 (q + 512 * qi) from
      (BitVec.ofNat_add ..).symm,
    WordCmp.cmpi_sle_ofNat (by omega) (by omega)]
  by_cases h : r ≤ q
  · have : (r : ℕ) + 512 * qi ≤ q + 512 * qi := by have := Fin.le_def.mp h; omega
    simp [h, this, Scalar.select]
  · have : ¬ (r : ℕ) + 512 * qi ≤ q + 512 * qi := by have := fun h' => h (Fin.le_def.mpr h'); omega
    simp [h, this, Scalar.select]

theorem finish_apply (a : FVec Ideal S144x512 .f32) (q : Fin 512) (d : Fin 128) :
    finish a (ix3 0 q d) = a (ix2 ⟨d, by omega⟩ q) * Ideal.div 1 (a (ix2 128 q)) := by
  pointwise [finish]

theorem scores_apply (K : FVec Ideal S512x256 .bf16) (Q : FVec Ideal S256x512 .bf16) (r q : Fin 512) :
    scores K Q (ix2 r q) = ∑ k : Fin 256, K (ix2 r k) * Q (ix2 k q) := by
  pointwise [scores]

end Cert.KernelIdeal.Attn

end
-- ==== Proof.Loads.lean ====
/-
  The blocks of keys, values and queries the kernel reads back from its scratch, and the scores they give.
-/
module

public import proofs.«01_k».proof.Proof.Fill
public import proofs.«01_k».proof.Proof.Steps

@[expose] public section

set_option maxRecDepth 16384

noncomputable section

namespace Cert.KernelIdeal.Attn

open Cert.KernelIdeal Cert.KernelIdeal.Gen Idealize.ShloMosaic Idealize.ShloMosaic.TcCoe Idealize.SL.Sem

/-- Position `r` of block `j`. -/
def pos (j : Fin 8) (r : Fin 512) : Fin 4096 := ⟨512 * j + r, by omega⟩

theorem kLd_apply (i : grid0.Coords) (x1 : Vec Ideal S1x4096x128 .bf16) (x3 : Vec Ideal S1x3x16x4096 .f32) (j : Fin 8)
    (r : Fin 512) (d : Fin 256) : kLd i x1 x3 j (ix2 r d) = kVal i x1 x3 (pos j r) d := by
  rcases j with ⟨_ | _ | _ | _ | _ | _ | _ | _ | j, hj⟩
  case succ.succ.succ.succ.succ.succ.succ.succ => omega
  all_goals
    refine (kFill_apply i x1 x3 _).trans (congrArg₂ (kVal i x1 x3) (Fin.ext ?_) (Fin.ext ?_))
    · exact (Rect.idx_unit_val ..).trans rfl
    · exact (Rect.idx_unit_val ..).trans (Nat.zero_add _)

/-- An element of the query scratch. -/
def qVal (x0 : Vec Ideal S1x4096x128 .bf16) (t : Fin 4096) (d : Fin 256) : EReal :=
  if h : (d : ℕ) < 128 then x0 (ix3 0 t ⟨d, h⟩) else if (d : ℕ) < 131 then 1 else 0

theorem qLd_apply (x0 : Vec Ideal S1x4096x128 .bf16) (j : Fin 8) (d : Fin 256) (q : Fin 512) :
    qLd x0 j (ix2 d q) = qVal x0 (pos j q) d := by
  have hf : ∀ y, View.canon (qFill x0) y = qVal x0 (y 1) (y 0) := qFill_apply x0
  rcases j with ⟨_ | _ | _ | _ | _ | _ | _ | _ | j, hj⟩
  case succ.succ.succ.succ.succ.succ.succ.succ => omega
  all_goals
    refine (hf _).trans (congrArg₂ (qVal x0) (Fin.ext ?_) (Fin.ext ?_))
    · exact (Rect.idx_unit_val ..).trans rfl
    · exact (Rect.idx_unit_val ..).trans (Nat.zero_add _)

/-- An element of the value scratch. -/
def vVal (x2 : Vec Ideal S1x4096x128 .bf16) (t : Fin 4096) (d : Fin 144) : EReal :=
  if h : (d : ℕ) < 128 then x2 (ix3 0 t ⟨d, h⟩) else if (d : ℕ) = 128 then 1 else 0

theorem vLd_apply (x2 : Vec Ideal S1x4096x128 .bf16) (j : Fin 8) (d : Fin 144) (r : Fin 512) :
    vLd x2 j (ix2 d r) = vVal x2 (pos j r) d := by
  have hf : ∀ y, View.canon (vFill x2) y = vVal x2 (y 1) (y 0) := vFill_apply x2
  rcases j with ⟨_ | _ | _ | _ | _ | _ | _ | _ | j, hj⟩
  case succ.succ.succ.succ.succ.succ.succ.succ => omega
  all_goals
    refine (hf _).trans (congrArg₂ (vVal x2) (Fin.ext ?_) (Fin.ext ?_))
    · exact (Rect.idx_unit_val ..).trans rfl
    · exact (Rect.idx_unit_val ..).trans (Nat.zero_add _)

/-- The score of query `t` at key `k`, in base two. -/
def raw (i : grid0.Coords) (x0 x1 : Vec Ideal S1x4096x128 .bf16) (x3 : Vec Ideal S1x3x16x4096 .f32) (t k : Fin 4096) : EReal :=
  (∑ d : Fin 128, x1 (ix3 0 k d) * x0 (ix3 0 t d)) + ∑ p : Fin 3, x3 (ix4 0 p (i 1) k)

theorem raw_eq (i : grid0.Coords) (x0 x1 : Vec Ideal S1x4096x128 .bf16) (x3 : Vec Ideal S1x3x16x4096 .f32) (j qi : Fin 8)
    (r q : Fin 512) : scores (kLd i x1 x3 j) (qLd x0 qi) (ix2 r q) = raw i x0 x1 x3 (pos qi q) (pos j r) := by
  rw [scores_apply, Fin.sum_univ_add (a := 128) (b := 128) (fun k : Fin 256 => _ * _)]
  refine congrArg₂ (· + ·) (Finset.sum_congr rfl fun d _ => ?_) ?_
  · rw [kLd_apply, qLd_apply]
    unfold kVal qVal
    rw [dif_pos (show ((Fin.castAdd 128 d : Fin 256) : ℕ) < 128 from d.isLt)]
    rw [dif_pos (show ((Fin.castAdd 128 d : Fin 256) : ℕ) < 128 from d.isLt)]
    rfl
  · rw [Fin.sum_univ_add (a := 3) (b := 125) (fun k : Fin 128 => _ * _)]
    refine (congrArg₂ (· + ·) (Finset.sum_congr rfl fun p _ => ?_) (Finset.sum_eq_zero fun p _ => ?_)).trans (add_zero _)
    · rw [kLd_apply, qLd_apply]
      have e : ((Fin.natAdd 128 (Fin.castAdd 125 p : Fin 128) : Fin 256) : ℕ) = 128 + p := rfl
      have hp := p.isLt
      unfold kVal qVal
      rw [dif_neg (by omega), dif_pos (by omega), dif_neg (by omega), if_pos (by omega), mul_one]
      exact congrArg x3 (ix_ext4 rfl (Fin.ext (by simp)) rfl rfl)
    · rw [kLd_apply]
      have e : ((Fin.natAdd 128 (Fin.natAdd 3 p : Fin 128) : Fin 256) : ℕ) = 128 + (3 + p) := rfl
      unfold kVal
      rw [dif_neg (by omega), dif_neg (by omega), zero_mul]

end Cert.KernelIdeal.Attn

end
-- ==== Proof.Spec.lean ====
/-
  What the attention computes, row by row, over the extended reals.
-/
module

public import Idealize.ShloMosaic.Lib.Pipeline.ValueKit

@[expose] public section

set_option maxRecDepth 16384

noncomputable section

namespace Cert.Spec

open Idealize.ShloMosaic

/-- The softmax of the logits `X`, applied to the values `V`. -/
def softRow (X V : Fin 4096 → EReal) : EReal :=
  ∑ k, Ideal.div (Ideal.exp (X k - (Finset.univ.fold max ⊥ X)))
    (∑ k', Ideal.exp (X k' - (Finset.univ.fold max ⊥ X))) * V k

/-- Scores up to the query, `-inf` after it. -/
def causal (s : Fin 4096 → EReal) (t : Fin 4096) (k : Fin 4096) : EReal := if k ≤ t then s k else ⊥

/-- Row `4096 * b + k` of the projections. -/
def tok (b : Fin 4) (k : Fin 4096) : Fin 16384 := ⟨4096 * b + k, by omega⟩

/-- Column `2048 * o + 128 * h + d` of the projections: queries at `o = 0`, keys at `1`, values at `2`. -/
def col (o : Fin 3) (h : Fin 16) (d : Fin 128) : Fin 6144 := ⟨2048 * o + 128 * h + d, by omega⟩

/-- The score of query `t` at key `k`, in base two. -/
def score (x : FVec Ideal ⟨2, ![16384, 6144]⟩ .bf16) (f : FVec Ideal ⟨4, ![4, 3, 16, 4096]⟩ .f32) (b : Fin 4) (h : Fin 16)
    (t k : Fin 4096) : EReal :=
  (∑ d : Fin 128, x (ix2 (tok b k) (col 1 h d)) * x (ix2 (tok b t) (col 0 h d))) + ∑ p : Fin 3, f (ix4 b p h k)

/-- The attention of query `t` in head `h`, at coordinate `d`. -/
def attn (x : FVec Ideal ⟨2, ![16384, 6144]⟩ .bf16) (f : FVec Ideal ⟨4, ![4, 3, 16, 4096]⟩ .f32) (b : Fin 4) (h : Fin 16)
    (t : Fin 4096) (d : Fin 128) : EReal :=
  softRow (fun k => causal (score x f b h t) t k * ((Real.log 2 : ℝ) : EReal)) (fun k => x (ix2 (tok b k) (col 2 h d)))

/-- The whole attention output. -/
def attnOut (x : FVec Ideal ⟨2, ![16384, 6144]⟩ .bf16) (f : FVec Ideal ⟨4, ![4, 3, 16, 4096]⟩ .f32) :
    FVec Ideal ⟨3, ![4, 4096, 2048]⟩ .bf16 := fun y =>
  attn x f (y 0) ⟨(y 2 : ℕ) / 128, Nat.div_lt_of_lt_mul (y 2).isLt⟩ (y 1) ⟨(y 2 : ℕ) % 128, Nat.mod_lt _ (by decide)⟩

theorem attnOut_at (x : FVec Ideal ⟨2, ![16384, 6144]⟩ .bf16) (f : FVec Ideal ⟨4, ![4, 3, 16, 4096]⟩ .f32) (b : Fin 4)
    (t : Fin 4096) (j : Fin 2048) (h : Fin 16) (d : Fin 128) (hj : (j : ℕ) = 128 * h + d) :
    attnOut x f (ix3 b t j) = attn x f b h t d := by
  have h1 : ∀ p, (⟨(j : ℕ) / 128, p⟩ : Fin 16) = h := fun p => Fin.ext (by show (j : ℕ) / 128 = h; omega)
  have h2 : ∀ p, (⟨(j : ℕ) % 128, p⟩ : Fin 128) = d := fun p => Fin.ext (by show (j : ℕ) % 128 = d; omega)
  exact (congrArg₂ (fun h d => attn x f b h t d) (h1 _) (h2 _))

end Cert.Spec

end
-- ==== Proof.Row.lean ====
/-
  A row of the attention kernel's output: the chain of blocks is the softmax of the masked scores.
-/
module

public import proofs.«01_k».proof.Proof.Loads
public import proofs.«01_k».proof.Proof.Spec
@[expose] public section

set_option maxRecDepth 16384

noncomputable section

namespace Cert.KernelIdeal.Attn

open Cert.Spec Cert.KernelIdeal Cert.KernelIdeal.Gen Idealize.ShloMosaic Idealize.ShloMosaic.TcCoe Idealize.SL.Sem

/-- A function of key positions, continued by `z` past the last one. -/
def ext (z : EReal) (f : Fin 4096 → EReal) (k : ℕ) : EReal := if h : k < 4096 then f ⟨k, h⟩ else z

theorem ext_fin (z : EReal) (f : Fin 4096 → EReal) (k : Fin 4096) : ext z f k = f k := dif_pos k.isLt

theorem ext_pos (z : EReal) (f : Fin 4096 → EReal) (n : Fin 8) (r : Fin 512) : ext z f (512 * n + r) = f (pos n r) :=
  ext_fin z f (pos n r)

theorem causal_zero (s : Fin 4096 → EReal) (t : Fin 4096) : ext ⊥ (causal s t) 0 = s 0 := by
  show causal s t 0 = s 0
  exact if_pos (Fin.zero_le t)

section Row
variable {K : ℕ → FVec Ideal S512x256 .bf16} {V : ℕ → FVec Ideal S144x512 .bf16} {Q : FVec Ideal S256x512 .bf16}
variable {s : Fin 4096 → EReal} {w : Fin 144 → Fin 4096 → EReal} {q : Fin 512} {qi : Fin 8}

theorem step_eq (hs : ∀ k, ∃ r : ℝ, s k = r) {t : Fin 4096} (S : FVec Ideal S512x512 .f32) (n : Fin 8) (d : Fin 144)
    (hS : ∀ r, S (ix2 r q) = causal s t (pos n r)) (hV : ∀ r, V n (ix2 d r) = w d (pos n r))
    (m : FVec Ideal S1x512 .f32) (a : FVec Ideal S144x512 .f32)
    (h : Online.Inv (ext ⊥ (causal s t)) (ext 1 (w d)) (512 * n) (m (ix2 0 q)) (a (ix2 d q))) :
    Online.Inv (ext ⊥ (causal s t)) (ext 1 (w d)) (512 * (n + 1)) (newMax m S (ix2 0 q)) (newAcc m a S (V n) (ix2 d q)) := by
  rw [show 512 * ((n : ℕ) + 1) = 512 * (n : ℕ) + 512 by ring]
  refine Online.Inv.step (N := 512 * (n : ℕ)) (n := 512) ?_ ?_ (by omega) h ?_ ?_
  · intro k
    unfold ext causal
    split_ifs with h1 h2
    · obtain ⟨r, hr⟩ := hs ⟨k, h1⟩; rw [hr]; exact EReal.coe_ne_top r
    · exact bot_ne_top
    · exact bot_ne_top
  · obtain ⟨r, hr⟩ := hs 0
    rw [causal_zero, hr]
    exact EReal.coe_ne_bot r
  · rw [newMax_apply, ← Online.fold_max_bot (fun r => ext ⊥ (causal s t) (512 * n + r))]
    simp only [ext_pos, hS]
  · rw [newAcc_apply, Finset.sum_range]
    simp only [ext_pos, hS, hV]

theorem chain_inv (hs : ∀ k, ∃ r : ℝ, s k = r) (hK : ∀ n : Fin 8, ∀ r, scores (K n) Q (ix2 r q) = s (pos n r))
    (hV : ∀ n : Fin 8, ∀ d r, V n (ix2 d r) = w d (pos n r)) (d : Fin 144) : ∀ n : ℕ, n ≤ qi →
    Online.Inv (ext ⊥ (causal s (pos qi q))) (ext 1 (w d)) (512 * n) ((chain K V Q n).1 (ix2 0 q)) ((chain K V Q n).2 (ix2 d q))
  | 0, _ => by
    have h1 : (chain K V Q 0).1 (ix2 0 q) = (⊥ : EReal) := neg_inf
    have h2 : (chain K V Q 0).2 (ix2 d q) = (0 : EReal) := by show Ideal.ofBits .f32 0x00000000#32 = 0; simp [Ideal.ofBits, Ideal.ieee]
    rw [h1, h2]
    exact Online.Inv.zero _ _
  | n + 1, hn => by
    refine step_eq hs (scores (K n) Q) ⟨n, by omega⟩ d (fun r => ?_) (hV ⟨n, by omega⟩ d) _ _
      (chain_inv hs hK hV d n (by omega))
    rw [hK ⟨n, by omega⟩ r]
    refine (if_pos (Fin.le_def.mpr ?_)).symm
    show 512 * n + (r : ℕ) ≤ 512 * qi + q
    omega

theorem row_eq (hs : ∀ k, ∃ r : ℝ, s k = r) (hK : ∀ n : Fin 8, ∀ r, scores (K n) Q (ix2 r q) = s (pos n r))
    (hV : ∀ n : Fin 8, ∀ d r, V n (ix2 d r) = w d (pos n r)) (h1 : ∀ k, w 128 k = 1) (d : Fin 128) :
    blockOut qi (BitVec.ofNat 32 (512 * qi)) K V Q (ix3 0 q d)
      = softRow (fun k => causal s (pos qi q) k * ((Real.log 2 : ℝ) : EReal)) (w ⟨d, by omega⟩) := by
  have inv : ∀ d : Fin 144, Online.Inv (ext ⊥ (causal s (pos qi q))) (ext 1 (w d)) (512 * (qi + 1)) _ _ := fun d =>
    step_eq hs (masked (BitVec.ofNat 32 (512 * qi)) (scores (K qi) Q)) qi d (fun r => by
      rw [masked_apply, hK]
      exact if_congr (by simp only [Fin.le_def, pos]; omega) rfl rfl) (hV qi d) _ _ (chain_inv hs hK hV d qi le_rfl)
  have one : ext 1 (w 128) = fun _ => 1 := funext fun k => by
    unfold ext
    split_ifs with h
    · exact h1 _
    · rfl
  have inv1 := inv 128
  rw [one] at inv1
  unfold blockOut
  rw [finish_apply]
  have hX : ∀ k : Fin 4096, ext ⊥ (causal s (pos qi q)) k = causal s (pos qi q) k := ext_fin _ _
  rw [Online.Inv.final (T := 4096) ?_ ?_ (by omega) (by omega) ?_ (inv ⟨d, by omega⟩) inv1
    (fun k => ext ⊥ (causal s (pos qi q)) k * ((Real.log 2 : ℝ) : EReal)) (fun k => rfl) _ _ rfl rfl]
  · unfold softRow
    rw [← Online.fold_max_bot, Finset.sum_range, Finset.sum_range]
    simp only [ext_fin]
  · intro k
    unfold ext causal
    split_ifs with h1 h2
    · obtain ⟨r, hr⟩ := hs ⟨k, h1⟩; rw [hr]; exact EReal.coe_ne_top r
    · exact bot_ne_top
    · exact bot_ne_top
  · obtain ⟨r, hr⟩ := hs 0
    rw [causal_zero, hr]
    exact EReal.coe_ne_bot r
  · intro k h1 h2
    unfold ext causal
    rw [dif_pos h2, if_neg]
    simp only [Fin.le_def, pos]
    omega

end Row

/-- A row of the kernel's output. -/
theorem outRow_eq (i : grid0.Coords) (x0 x1 x2 : Vec Ideal S1x4096x128 .bf16) (x3 : Vec Ideal S1x3x16x4096 .f32) (qi : Fin 8)
    (q : Fin 512) (d : Fin 128) (hs : ∀ k, ∃ r : ℝ, raw i x0 x1 x3 (pos qi q) k = r) :
    blockOut qi (BitVec.ofNat 32 (512 * qi)) (kLd i x1 x3) (vLd x2) (qLd x0 qi) (ix3 0 q d)
      = softRow (fun k => causal (raw i x0 x1 x3 (pos qi q)) (pos qi q) k * ((Real.log 2 : ℝ) : EReal))
          (fun k => x2 (ix3 0 k d)) := by
  rw [row_eq (w := fun d k => vVal x2 k d) hs (fun n r => raw_eq i x0 x1 x3 n qi r q) (fun n d r => vLd_apply x2 n d r)
    (fun k => rfl) d]
  refine congrArg (softRow _) (funext fun k => ?_)
  exact dif_pos d.isLt

theorem outRow_at (i : grid0.Coords) (x0 x1 x2 : Vec Ideal S1x4096x128 .bf16) (x3 : Vec Ideal S1x3x16x4096 .f32)
    (hs : ∀ t k, ∃ r : ℝ, raw i x0 x1 x3 t k = r) (n : ℕ) (o : BitVec 32) (qi : Fin 8) (hn : (qi : ℕ) = n)
    (ho : o = BitVec.ofNat 32 (512 * qi)) (q : Fin 512) (d : Fin 128) (t : Fin 4096) (ht : (t : ℕ) = 512 * n + q) (d' : Fin 128)
    (hd : (d' : ℕ) = d) :
    blockOut n o (kLd i x1 x3) (vLd x2) (qLd x0 n) (ix3 0 q d)
      = softRow (fun k => causal (raw i x0 x1 x3 t) t k * ((Real.log 2 : ℝ) : EReal)) (fun k => x2 (ix3 0 k d')) := by
  subst hn ho
  obtain rfl : d' = d := Fin.ext hd
  obtain rfl : t = pos qi q := Fin.ext ht
  exact outRow_eq i x0 x1 x2 x3 qi q d' (hs _)

theorem outFill_apply (i : grid0.Coords) (x0 x1 x2 : Vec Ideal S1x4096x128 .bf16) (x3 : Vec Ideal S1x3x16x4096 .f32)
    (hs : ∀ t k, ∃ r : ℝ, raw i x0 x1 x3 t k = r) (y : S1x4096x128.Idx) :
    View.canon (outFill i x0 x1 x2 x3) y
      = softRow (fun k => causal (raw i x0 x1 x3 (y 1)) (y 1) k * ((Real.log 2 : ℝ) : EReal)) (fun k => x2 (ix3 0 k (y 2))) := by
  unfold outFill
  canon_tiles z h
  all_goals idx_vars z
  all_goals idx_vars y
  all_goals obtain rfl : z0 = 0 := Subsingleton.elim _ _
  · exact outRow_at i x0 x1 x2 x3 hs 7 3584#32 7 (by rfl) (by rfl) z1 z2 y1 (by omega) y2 h2
  · exact outRow_at i x0 x1 x2 x3 hs 6 3072#32 6 (by rfl) (by rfl) z1 z2 y1 (by omega) y2 h2
  · exact outRow_at i x0 x1 x2 x3 hs 5 2560#32 5 (by rfl) (by rfl) z1 z2 y1 (by omega) y2 h2
  · exact outRow_at i x0 x1 x2 x3 hs 4 2048#32 4 (by rfl) (by rfl) z1 z2 y1 (by omega) y2 h2
  · exact outRow_at i x0 x1 x2 x3 hs 3 1536#32 3 (by rfl) (by rfl) z1 z2 y1 (by omega) y2 h2
  · exact outRow_at i x0 x1 x2 x3 hs 2 1024#32 2 (by rfl) (by rfl) z1 z2 y1 (by omega) y2 h2
  · exact outRow_at i x0 x1 x2 x3 hs 1 512#32 1 (by rfl) (by rfl) z1 z2 y1 (by omega) y2 h2
  · exact outRow_at i x0 x1 x2 x3 hs 0 0#32 0 (by rfl) (by rfl) z1 z2 y1 (by omega) y2 h2

end Cert.KernelIdeal.Attn

end
-- ==== Proof.Windows.lean ====
/-
  The arrays the attention kernel leaves, as functions of its arguments.
-/
module

public import proofs.«01_k».proof.Proof.Row
public import proofs.«01_k».proof.Proof.Gen.KernelIdeal.Value
public import Idealize.ShloMosaic.Lib.Pipeline.ValueKit

@[expose] public section

set_option maxRecDepth 16384

noncomputable section

namespace Cert.KernelIdeal.Attn

open Cert.Spec Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![(grid0.coords t 0).val, 0, (grid0.coords t 1).val]
    ∧ win0_1.index t = ![(grid0.coords t 0).val, 0, 16 + (grid0.coords t 1).val]
    ∧ win0_2.index t = ![(grid0.coords t 0).val, 0, 32 + (grid0.coords t 1).val]
    ∧ win0_3.index t = ![(grid0.coords t 0).val, 0, 0, 0]
    ∧ win0_4.index t = ![(grid0.coords t 0).val * 16 + (grid0.coords t 1).val, 0]
    ∧ win0_5.index t = ![(grid0.coords t 0).val * 16 + (grid0.coords t 1).val, 0]
    ∧ win0_6.index t = ![0, 0]
    ∧ win0_9.index t = ![(grid0.coords t 0).val, 0, (grid0.coords t 1).val]
    ∧ win0_10.index t = ![(grid0.coords t 0).val * 16 + (grid0.coords t 1).val, 0]
    ∧ win0_11.index t = ![(grid0.coords t 0).val * 16 + (grid0.coords t 1).val, 0] :=
  (by decide +kernel : ∀ t : Fin grid0.N, _)

theorem idx_ada : ∀ t : Fin cfg0.N, win0_7.index t = ![1, 0, min t.val 47] ∧ win0_8.index t = ![1, 0, min t.val 47]
    ∧ win0_12.index t = ![0, min t.val 47] :=
  (by decide +kernel : ∀ t : Fin grid0.N, _)

/-- The up-projection weights, both layers stacked. -/
abbrev upCast (w : FVec Ideal S2x2048x8192 .f32) : FVec Ideal S4096x8192 .bf16 :=
  truncf .bf16 (shapeCast S4096x8192 w shapeCasts_S2x2048x8192_S4096x8192) bitsLt_bf16_f32

/-- The down-projection weights, both layers stacked. -/
abbrev downCast (w : FVec Ideal S2x8192x2048 .f32) : FVec Ideal S16384x2048 .bf16 :=
  truncf .bf16 (shapeCast S16384x2048 w shapeCasts_S2x8192x2048_S16384x2048) bitsLt_bf16_f32

/-- The conditioning rows, padded to sixteen. -/
abbrev padCond (x : FVec Ideal S4x2048 .f32) : FVec Ideal S16x2048 .f32 :=
  pad S16x2048 ![0, 0] ![12, 0] ![0, 0] x (sitofp .f32 (constantI S_ 32 0#32)) pads_S4x2048_S16x2048_0120_000 h_S_

theorem V_v0 (c : Dev nD) : (V m c main_v0 : FVec Ideal S16x2048 .f32) = padCond (m ((c : Thread nD τ).loc main_arg4)) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp <;> rfl

theorem V_v1 (c : Dev nD) : (V m c main_v1 : FVec Ideal S2x1x12288 .f32) = shapeCast S2x1x12288 (m ((c : Thread nD τ).loc main_arg6) : FVec Ideal S2x12288 .f32) shapeCasts_S2x12288_S2x1x12288 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp <;> rfl

theorem V_v2 (c : Dev nD) : (V m c main_v2 : FVec Ideal S4x4096x6144 .bf16) = shapeCast S4x4096x6144 (m ((c : Thread nD τ).loc main_arg0) : FVec Ideal S16384x6144 .bf16) shapeCasts_S16384x6144_S4x4096x6144 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp <;> rfl

theorem V_v3 (c : Dev nD) : (V m c main_v3 : FVec Ideal S4096x8192 .f32) = shapeCast S4096x8192 (m ((c : Thread nD τ).loc main_arg2) : FVec Ideal S2x2048x8192 .f32) shapeCasts_S2x2048x8192_S4096x8192 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp <;> rfl

theorem V_v4 (c : Dev nD) : (V m c main_v4 : FVec Ideal S16384x2048 .f32) = shapeCast S16384x2048 (m ((c : Thread nD τ).loc main_arg3) : FVec Ideal S2x8192x2048 .f32) shapeCasts_S2x8192x2048_S16384x2048 := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  after_results_simp <;> rfl

theorem final10 (c : Dev nD) : (dats m 0 c).arrAt 10 (cfgs 0).N = upCast (m ((c : Thread nD τ).loc main_arg2)) := by
  refine (dats m 0 c).arrAt_eq_of_covers 10 _ (by decide +kernel) fun t hf y => ?_
  blk_simp; rw [after0_10]
  rw [outsAt0]; dsimp only
  frame_out
  have e : V m c (Pipeline.arrRef spec0 4) = _ := V_v3 m c
  unfold k0_pay1 iblk upCast
  rw [e, shapeCast_self]
  refine congrArg (shapeCast S4096x8192 (m ((c : Thread nD τ).loc main_arg2) : FVec Ideal S2x2048x8192 .f32) shapeCasts_S2x2048x8192_S4096x8192) ?_
  blk_ext [idx t]

theorem final11 (c : Dev nD) : (dats m 0 c).arrAt 11 (cfgs 0).N = downCast (m ((c : Thread nD τ).loc main_arg3)) := by
  refine (dats m 0 c).arrAt_eq_of_covers 11 _ (by decide +kernel) fun t hf y => ?_
  blk_simp; rw [after0_11]
  rw [outsAt0]; dsimp only
  frame_out
  have e : V m c (Pipeline.arrRef spec0 5) = _ := V_v4 m c
  unfold k0_pay2 iblk downCast
  rw [e, shapeCast_self]
  refine congrArg (shapeCast S16384x2048 (m ((c : Thread nD τ).loc main_arg3) : FVec Ideal S2x8192x2048 .f32) shapeCasts_S2x8192x2048_S16384x2048) ?_
  blk_ext [idx t]

/-- The projections by batch. -/
abbrev qkv4 (x : FVec Ideal S16384x6144 .bf16) : FVec Ideal S4x4096x6144 .bf16 :=
  shapeCast S4x4096x6144 x shapeCasts_S16384x6144_S4x4096x6144

theorem qkv4_at (x : FVec Ideal S16384x6144 .bf16) (b : Fin 4) (k : Fin 4096) (j : Fin 6144) :
    qkv4 x (ix3 b k j) = x (ix2 (tok b k) j) := by
  unfold qkv4
  pointwise
  refine congrArg x (congrArg₂ ix2 (Fin.ext ?_) rfl)
  show (b : ℕ) * 4096 + k = 4096 * (b : ℕ) + k
  omega

theorem rd0 (c : Dev nD) (t : Fin cfg0.N) (k : Fin 4096) (d : Fin 128) : iblk m c 0 t (ix3 0 k d)
    = m ((c : Thread nD τ).loc main_arg0) (ix2 (tok (grid0.coords t 0) k) (col 0 (grid0.coords t 1) d)) := by
  have e : V m c (Pipeline.arrRef spec0 0) = _ := V_v2 m c
  unfold iblk
  rw [e]
  refine Eq.trans ?_ (qkv4_at _ _ _ _)
  refine congrArg (qkv4 (m ((c : Thread nD τ).loc main_arg0))) ?_
  unfold col
  blk_ext [idx t]

theorem rd1 (c : Dev nD) (t : Fin cfg0.N) (k : Fin 4096) (d : Fin 128) : iblk m c 1 t (ix3 0 k d)
    = m ((c : Thread nD τ).loc main_arg0) (ix2 (tok (grid0.coords t 0) k) (col 1 (grid0.coords t 1) d)) := by
  have e : V m c (Pipeline.arrRef spec0 1) = _ := V_v2 m c
  unfold iblk
  rw [e]
  refine Eq.trans ?_ (qkv4_at _ _ _ _)
  refine congrArg (qkv4 (m ((c : Thread nD τ).loc main_arg0))) ?_
  unfold col
  blk_ext [idx t]

theorem rd2 (c : Dev nD) (t : Fin cfg0.N) (k : Fin 4096) (d : Fin 128) : iblk m c 2 t (ix3 0 k d)
    = m ((c : Thread nD τ).loc main_arg0) (ix2 (tok (grid0.coords t 0) k) (col 2 (grid0.coords t 1) d)) := by
  have e : V m c (Pipeline.arrRef spec0 2) = _ := V_v2 m c
  unfold iblk
  rw [e]
  refine Eq.trans ?_ (qkv4_at _ _ _ _)
  refine congrArg (qkv4 (m ((c : Thread nD τ).loc main_arg0))) ?_
  unfold col
  blk_ext [idx t]

theorem rd3 (c : Dev nD) (t : Fin cfg0.N) (p : Fin 3) (h : Fin 16) (k : Fin 4096) : iblk m c 3 t (ix4 0 p h k)
    = m ((c : Thread nD τ).loc main_arg1) (ix4 (grid0.coords t 0) p h k) := by
  blk_ext [iblk, V, idx t]

theorem final9 (c : Dev nD) (hs : ∀ b h t k, ∃ r : ℝ, score (m ((c : Thread nD τ).loc main_arg0)) (m ((c : Thread nD τ).loc main_arg1)) b h t k = r) :
    (dats m 0 c).arrAt 9 (cfgs 0).N = attnOut (m ((c : Thread nD τ).loc main_arg0)) (m ((c : Thread nD τ).loc main_arg1)) := by
  refine (dats m 0 c).arrAt_eq_of_covers 9 _ (by decide +kernel) fun t hf y => ?_
  have hraw : raw (grid0.coords t) (iblk m c 0 t) (iblk m c 1 t) (iblk m c 3 t)
      = score (m ((c : Thread nD τ).loc main_arg0)) (m ((c : Thread nD τ).loc main_arg1)) (grid0.coords t 0) (grid0.coords t 1) := by
    funext tq k
    unfold raw score
    exact congrArg₂ (· + ·) (Finset.sum_congr rfl fun d _ => congrArg₂ (· * ·) (rd1 m c t k d) (rd0 m c t tq d))
      (Finset.sum_congr rfl fun p _ => rd3 m c t p _ k)
  blk_simp; rw [after0_9]
  rw [outsAt0]; dsimp only
  rw [out9_eq]
  refine (outFill_apply _ _ _ _ _ (fun tq k => ?_) _).trans ?_
  · rw [hraw]; exact hs _ _ _ _
  · rw [hraw]
    refine (congrArg (softRow _) (funext fun k => rd2 m c t k (y 2))).trans ?_
    have hj : 128 * (grid0.coords t 1 : ℕ) + (y 2 : ℕ) < 2048 := by
      have h1 : (grid0.coords t 1 : ℕ) < 16 := (grid0.coords t 1).isLt
      have h2 : (y 2 : ℕ) < 128 := (y 2).isLt
      omega
    refine (attnOut_at _ _ (grid0.coords t 0) (y 1) ⟨128 * (grid0.coords t 1 : ℕ) + (y 2 : ℕ), hj⟩ (grid0.coords t 1) (y 2) rfl).symm.trans ?_
    refine congrArg (attnOut _ _) ?_
    blk_ext [idx t]

end Cert.KernelIdeal.Attn

end
-- ==== Proof.RefSide.lean ====
/-
  The reference's attention, read at an index.
-/
module

public import proofs.«01_k».proof.Proof.Spec
public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.ReferenceIdeal.Attn

open Cert.Spec Cert.ReferenceIdeal Cert.ReferenceIdeal.Gen Idealize.ShloMosaic Idealize.ShloMosaic.TcCoe Idealize.SL.Sem

/-- The projections by batch. -/
def byBatch (x : FVec Ideal S16384x6144 .bf16) : FVec Ideal S4x4096x6144 .f32 :=
  shapeCast S4x4096x6144 (extf .f32 x bitsLt_bf16_f32) shapeCasts_S16384x6144_S4x4096x6144

/-- A third of the projections, by heads. -/
def byHead (y : FVec Ideal S4x4096x2048 .f32) : FVec Ideal S4x16x4096x128 .f32 :=
  transpose S4x16x4096x128 [0, 2, 1, 3] (shapeCast S4x4096x16x128 y shapeCasts_S4x4096x2048_S4x4096x16x128)
    transposes_S4x4096x16x128_S4x16x4096x128_0_2_1_3

/-- The masked scores. -/
def logits (q k : FVec Ideal S4x16x4096x128 .f32) (f : FVec Ideal S4x3x16x4096 .f32) : FVec Ideal S4x16x4096x4096 .f32 :=
  select (broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (addf (Host.dotGeneral dot_S4x16x4096x128_S4x16x4096x128_S4x16x4096x4096_3_3_2_2_01_01 none q k)
      (broadcastInDim S4x16x4096x4096 ![0, 1, 2, 3] bcast_S4x16x1x4096_S4x16x4096x4096_0_1_2_3 (broadcastInDim S4x16x1x4096 ![0, 1, 3] bcast_S4x16x4096_S4x16x1x4096_0_1_3 (Host.reduceAdd f (constant S_ .f32 0x00000000#32) reducesTo_S4x3x16x4096_S4x16x4096_d1 h_S_))))
      (broadcastInDim S4x16x4096x4096 ![] bcast_S_S4x16x4096x4096 (Host.log (constant S_ .f32 0x40000000#32))))
    (broadcastInDim S4x16x4096x4096 ![] bcast_S_S4x16x4096x4096 (id (constant S_ .f32 0xFF800000#32)))

/-- The greatest of a row. -/
def rawMax (s : FVec Ideal S4x16x4096x4096 .f32) : FVec Ideal S4x16x4096 .f32 :=
  Host.reduce FloatOps.maximumf s (constant S_ .f32 0xFF800000#32) reducesTo_S4x16x4096x4096_S4x16x4096_d3 h_S_

/-- A row's maximum. -/
def rowMax (s : FVec Ideal S4x16x4096x4096 .f32) : FVec Ideal S4x16x4096 .f32 :=
  maximumf (broadcastInDim S4x16x4096 ![] bcast_S_S4x16x4096 (constant S_ .f32 0xFF800000#32)) (rawMax s)

/-- The exponentials of a row, its maximum taken off. -/
def expRow (s : FVec Ideal S4x16x4096x4096 .f32) : FVec Ideal S4x16x4096x4096 .f32 :=
  Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 (rowMax s))))

/-- The softmax of a row. -/
def weights (s : FVec Ideal S4x16x4096x4096 .f32) : FVec Ideal S4x16x4096x4096 .f32 :=
  Host.divf (expRow s) (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd (expRow s) (constant S_ .f32 0x00000000#32) reducesTo_S4x16x4096x4096_S4x16x4096_d3 h_S_)))

/-- The weighted values, heads side by side. -/
def mix (p : FVec Ideal S4x16x4096x4096 .f32) (v : FVec Ideal S4x16x4096x128 .f32) : FVec Ideal S4x4096x2048 .bf16 :=
  truncf .bf16 (shapeCast S4x4096x2048 (transpose S4x4096x16x128 [0, 2, 1, 3]
    (Host.dotGeneral dot_S4x16x4096x4096_S4x16x4096x128_S4x16x4096x128_3_2_2_3_01_01 none p v)
    transposes_S4x16x4096x128_S4x4096x16x128_0_2_1_3) shapeCasts_S4x4096x16x128_S4x4096x2048) bitsLt_bf16_f32

/-- The whole attention. -/
def attnRef (x : FVec Ideal S16384x6144 .bf16) (f : FVec Ideal S4x3x16x4096 .f32) : FVec Ideal S4x4096x2048 .bf16 :=
  mix (weights (logits (byHead (extractStridedSlice S4x4096x2048 ![0, 0, 0] (byBatch x) slices_S4x4096x6144_S4x4096x2048_0_0_0))
      (byHead (extractStridedSlice S4x4096x2048 ![0, 0, 2048] (byBatch x) slices_S4x4096x6144_S4x4096x2048_0_0_2048)) f))
    (byHead (extractStridedSlice S4x4096x2048 ![0, 0, 4096] (byBatch x) slices_S4x4096x6144_S4x4096x2048_0_0_4096))

theorem res_eq (m : (ℓ : Loc nD τ sig) → Buf (Elt Ideal) ℓ) (c : Dev nD) :
    Cert.ReferenceIdeal.Value.res_main_v40 m c = attnRef (m ((c.tc : Thread nD τ).loc main_arg0)) (m ((c.tc : Thread nD τ).loc main_arg1)) := rfl

/-- A maximum over the last of four axes, from `c`. -/
theorem hostMax_last {n0 n1 n2 n3 : ℕ} {u : Shape} (s : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (a : Fin n0) (b : Fin n1) (d : Fin n2) :
    (Host.reduce FloatOps.maximumf s c h hu) (ix3 a b d)
      = (Finset.univ : Finset (Fin n3)).fold max (c (Shape.Idx.first hu)) fun k => s (ix4 a b d k) := by
  pointwise

theorem rawMax_apply (s : FVec Ideal S4x16x4096x4096 .f32) (b : Fin 4) (h : Fin 16) (t : Fin 4096) :
    rawMax s (ix3 b h t) =
      (Finset.fold max ((constant (F := Ideal) S_ .f32 0xFF800000#32) (Shape.Idx.first h_S_)) (fun x => s (ix4 b h t x)) Finset.univ) :=
  hostMax_last (n0 := 4) (n1 := 16) (n2 := 4096) (n3 := 4096) s (constant S_ .f32 0xFF800000#32) reducesTo_S4x16x4096x4096_S4x16x4096_d3 h_S_ b h t

/-- A maximum against a constant, at an index. -/
theorem maxConst_at (B : FVec Ideal S4x16x4096 .f32) (w : BitVec 32) (j : S4x16x4096.Idx) :
    maximumf (broadcastInDim S4x16x4096 ![] bcast_S_S4x16x4096 (constant S_ .f32 w)) B j = max (Ideal.ofBits .f32 w) (B j) := by
  rfl

theorem constAt (w : BitVec 32) (j : S_.Idx) : constant (F := Ideal) S_ .f32 w j = Ideal.ofBits .f32 w := rfl

theorem neg_inf : Ideal.ofBits .f32 0xFF800000#32 = (⊥ : EReal) := by
  simp [Ideal.ofBits, Ideal.ieee]

theorem rowMax_apply (s : FVec Ideal S4x16x4096x4096 .f32) (b : Fin 4) (h : Fin 16) (t : Fin 4096) :
    rowMax s (ix3 b h t) = (Finset.univ.fold max ⊥ fun x => s (ix4 b h t x)) := by
  unfold rowMax
  rw [maxConst_at, rawMax_apply, constAt, neg_inf]
  exact max_eq_right bot_le

theorem head0 (x : FVec Ideal S16384x6144 .bf16) (b : Fin 4) (h : Fin 16) (t : Fin 4096) (d : Fin 128) :
    byHead (extractStridedSlice S4x4096x2048 ![0, 0, 0] (byBatch x) slices_S4x4096x6144_S4x4096x2048_0_0_0) (ix4 b h t d)
      = x (ix2 (tok b t) (col 0 h d)) := by
  pointwise [byHead, byBatch]
  exact congrArg x (congrArg₂ ix2 (Fin.ext (by simp only [tok]; omega)) (Fin.ext (by simp only [col, Fin.isValue, Fin.val_zero, Fin.val_one, Fin.val_two]; omega)))

theorem head1 (x : FVec Ideal S16384x6144 .bf16) (b : Fin 4) (h : Fin 16) (t : Fin 4096) (d : Fin 128) :
    byHead (extractStridedSlice S4x4096x2048 ![0, 0, 2048] (byBatch x) slices_S4x4096x6144_S4x4096x2048_0_0_2048) (ix4 b h t d)
      = x (ix2 (tok b t) (col 1 h d)) := by
  pointwise [byHead, byBatch]
  exact congrArg x (congrArg₂ ix2 (Fin.ext (by simp only [tok]; omega)) (Fin.ext (by simp only [col, Fin.isValue, Fin.val_zero, Fin.val_one, Fin.val_two]; omega)))

theorem head2 (x : FVec Ideal S16384x6144 .bf16) (b : Fin 4) (h : Fin 16) (t : Fin 4096) (d : Fin 128) :
    byHead (extractStridedSlice S4x4096x2048 ![0, 0, 4096] (byBatch x) slices_S4x4096x6144_S4x4096x2048_0_0_4096) (ix4 b h t d)
      = x (ix2 (tok b t) (col 2 h d)) := by
  pointwise [byHead, byBatch]
  exact congrArg x (congrArg₂ ix2 (Fin.ext (by simp only [tok]; omega)) (Fin.ext (by simp only [col, Fin.isValue, Fin.val_zero, Fin.val_one, Fin.val_two]; omega)))

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  show (if (2 : ℝ) ≤ 0 then (⊥ : EReal) else ((Real.log 2 : ℝ) : EReal)) = _
  rw [if_neg (by norm_num)]

/-- The mask's choice. -/
theorem select_causal (t j : Fin 4096) (X B : EReal) (hB : B = ⊥) :
    Scalar.select (IntOp.cmpi .sle (BitVec.ofNat 32 (j : ℕ)) (BitVec.ofNat 32 (t : ℕ))) (X * Ideal.log (Ideal.ofBits .f32 0x40000000#32)) B
      = causal (fun _ => X) t j * ((Real.log 2 : ℝ) : EReal) := by
  have hj := j.isLt
  have ht := t.isLt
  unfold Scalar.select causal
  rw [log_two, hB]
  by_cases hjt : j ≤ t
  · rw [if_pos hjt]
    exact (if_pos ((WordCmp.cmpi_sle_ofNat_eq_one_iff (w := 32) (by omega) (by omega)).2 hjt))
  · rw [if_neg hjt, EReal.bot_mul_coe_of_pos (Real.log_pos (by norm_num))]
    exact if_neg (fun e => hjt ((WordCmp.cmpi_sle_ofNat_eq_one_iff (w := 32) (by omega) (by omega)).1 e))

theorem logits_apply (q k : FVec Ideal S4x16x4096x128 .f32) (f : FVec Ideal S4x3x16x4096 .f32) (b : Fin 4) (h : Fin 16)
    (t j : Fin 4096) : logits q k f (ix4 b h t j)
      = causal (fun j => (∑ d : Fin 128, k (ix4 b h j d) * q (ix4 b h t d)) + ∑ p : Fin 3, f (ix4 b p h j)) t j
        * ((Real.log 2 : ℝ) : EReal) := by
  pointwise [logits]
  refine (select_causal t j _ _ neg_inf).trans ?_
  unfold causal
  refine congrArg (· * _) (if_congr Iff.rfl (congrArg (· + _) (Finset.sum_congr rfl fun d _ => mul_comm _ _)) rfl)

theorem expRow_apply (s : FVec Ideal S4x16x4096x4096 .f32) (b : Fin 4) (h : Fin 16) (t j : Fin 4096) :
    expRow s (ix4 b h t j) = Ideal.exp (s (ix4 b h t j) - rowMax s (ix3 b h t)) := by
  pointwise [expRow]

theorem sum_apply (s : FVec Ideal S4x16x4096x4096 .f32) (b : Fin 4) (h : Fin 16) (t : Fin 4096) :
    (Host.reduceAdd s (constant S_ .f32 0x00000000#32) reducesTo_S4x16x4096x4096_S4x16x4096_d3 h_S_ : FVec Ideal S4x16x4096 .f32) (ix3 b h t)
      = ∑ j : Fin 4096, s (ix4 b h t j) := by
  pointwise

theorem weights_div (s : FVec Ideal S4x16x4096x4096 .f32) (b : Fin 4) (h : Fin 16) (t j : Fin 4096) :
    weights s (ix4 b h t j) = Ideal.div (expRow s (ix4 b h t j)) ((Host.reduceAdd (expRow s) (constant S_ .f32 0x00000000#32) reducesTo_S4x16x4096x4096_S4x16x4096_d3 h_S_ : FVec Ideal S4x16x4096 .f32) (ix3 b h t)) := by
  unfold weights
  generalize (Host.reduceAdd (expRow s) (constant S_ .f32 0x00000000#32) reducesTo_S4x16x4096x4096_S4x16x4096_d3 h_S_ : FVec Ideal S4x16x4096 .f32) = z
  generalize expRow s = e
  pointwise

theorem weights_apply (s : FVec Ideal S4x16x4096x4096 .f32) (b : Fin 4) (h : Fin 16) (t j : Fin 4096) :
    weights s (ix4 b h t j) = Ideal.div (Ideal.exp (s (ix4 b h t j) - Finset.univ.fold max ⊥ fun j : Fin 4096 => s (ix4 b h t j)))
      (∑ j' : Fin 4096, Ideal.exp (s (ix4 b h t j') - Finset.univ.fold max ⊥ fun j : Fin 4096 => s (ix4 b h t j))) := by
  rw [weights_div, sum_apply]
  simp only [expRow_apply, rowMax_apply]

theorem mix_apply (p : FVec Ideal S4x16x4096x4096 .f32) (v : FVec Ideal S4x16x4096x128 .f32) (b : Fin 4) (h : Fin 16) (t : Fin 4096)
    (d : Fin 128) (j : Fin 2048) (hj : (j : ℕ) = 128 * h + d) :
    mix p v (ix3 b t j) = ∑ k : Fin 4096, p (ix4 b h t k) * v (ix4 b h k d) := by
  have h1 : ∀ p, (⟨(j : ℕ) / 128, p⟩ : Fin 16) = h := fun p => Fin.ext (by show (j : ℕ) / 128 = h; omega)
  have h2 : ∀ p, (⟨(j : ℕ) % 128, p⟩ : Fin 128) = d := fun p => Fin.ext (by show (j : ℕ) % 128 = d; omega)
  pointwise [mix]
  refine Finset.sum_congr rfl fun k _ => congrArg₂ (· * ·) (congrArg (fun h => p (ix4 b h t k)) (h1 _)) (congrArg₂ (fun h d => v (ix4 b h k d)) (h1 _) (h2 _))

/-- The reference's attention is the attention. -/
theorem attnRef_eq (x : FVec Ideal S16384x6144 .bf16) (f : FVec Ideal S4x3x16x4096 .f32) : attnRef x f = attnOut x f := by
  funext y
  obtain ⟨b, t, j, rfl⟩ : ∃ (b : Fin 4) (t : Fin 4096) (j : Fin 2048), y = ix3 b t j := ⟨y 0, y 1, y 2, by idx_vars y⟩
  have hj : (j : ℕ) < 2048 := j.isLt
  have ha : (j : ℕ) = 128 * ((⟨(j : ℕ) / 128, by omega⟩ : Fin 16) : ℕ) + ((⟨(j : ℕ) % 128, by omega⟩ : Fin 128) : ℕ) := by
    show (j : ℕ) = 128 * ((j : ℕ) / 128) + (j : ℕ) % 128
    omega
  unfold attnRef
  rw [mix_apply _ _ b _ t _ j ha, attnOut_at x f b t j _ _ ha]
  unfold attn softRow
  simp only [weights_apply, logits_apply, head0, head1, head2]
  rfl

end Cert.ReferenceIdeal.Attn

end
-- ==== Proof.Modulation.lean ====
/-
  The modulation rows the attention kernel leaves, and the ones its reference leaves.
-/
module

public import proofs.«01_k».proof.Proof.Windows
public import proofs.«01_k».proof.Proof.Gen.ReferenceIdeal.Run
public import proofs.«01_k».proof.Proof.Gen.KernelIdeal.Value
public import Idealize.ShloMosaic.Lib.Pipeline.ValueKit

@[expose] public section

set_option maxRecDepth 16384

noncomputable section

namespace Cert.KernelIdeal.Attn

open Cert.Spec Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The modulation at row `r`, column `j`: the sigmoid-weighted conditions against the layer's weights, plus its bias. -/
def modulation (x : FVec Ideal S16x2048 .f32) (w : FVec Ideal S2x2048x12288 .f32) (b : FVec Ideal S2x12288 .f32) :
    FVec Ideal S16x12288 .f32 := fun y =>
  (∑ k : Fin 2048, x (ix2 (y 0) k) * Ideal.logistic (x (ix2 (y 0) k)) * w (ix3 1 k (y 1))) + b (ix2 1 (y 1))

theorem pay3_apply (x : Vec Ideal S16x2048 .f32) (w : Vec Ideal S1x2048x256 .f32) (b : Vec Ideal S1x1x256 .f32) (r : Fin 16) (j : Fin 256) :
    k0_pay3 (F := Ideal) x w b (ix2 r j)
      = (∑ k : Fin 2048, x (ix2 r k) * Ideal.logistic (x (ix2 r k)) * w (ix3 0 k j)) + b (ix3 0 0 j) := by
  pointwise [k0_pay3]

theorem bias_at (b : FVec Ideal S2x12288 .f32) (j : Fin 12288) :
    shapeCast S2x1x12288 b shapeCasts_S2x12288_S2x1x12288 (ix3 1 0 j) = b (ix2 1 j) := by
  pointwise

theorem final12 (c : Dev nD) : (dats m 0 c).arrAt 12 (cfgs 0).N
    = modulation (padCond (m ((c : Thread nD τ).loc main_arg4))) (m ((c : Thread nD τ).loc main_arg5)) (m ((c : Thread nD τ).loc main_arg6)) := by
  refine (dats m 0 c).arrAt_eq_of_covers 12 _ (by decide +kernel) fun t hf y => ?_
  blk_simp; rw [after0_12]
  rw [outsAt0]; dsimp only
  frame_out
  obtain ⟨r, j, rfl⟩ : ∃ (r : Fin 16) (j : Fin 256), y = ix2 r j := ⟨y 0, y 1, by idx_vars y⟩
  have hb : 256 * min t.val 47 + (j : ℕ) < 12288 := by have := j.isLt; omega
  have hy : ((View.whole main_v5_3).slice (win0_12.rect t)).emb (ix2 r j) = ix2 r ⟨256 * min t.val 47 + (j : ℕ), hb⟩ := by
    blk_ext [idx_ada t]
  have e0 : ∀ k : Fin 2048, iblk m c 6 t (ix2 r k) = padCond (m ((c : Thread nD τ).loc main_arg4)) (ix2 r k) := fun k => by
    have e : V m c (Pipeline.arrRef spec0 6) = _ := V_v0 m c
    unfold iblk
    rw [e]
    refine congrArg (padCond (m ((c : Thread nD τ).loc main_arg4))) ?_
    blk_ext [idx t]
  have e1 : ∀ k : Fin 2048, iblk m c 7 t (ix3 0 k j) = m ((c : Thread nD τ).loc main_arg5) (ix3 1 k ⟨256 * min t.val 47 + (j : ℕ), hb⟩) := fun k => by
    blk_ext [iblk, V, idx_ada t]
  have e2 : iblk m c 8 t (ix3 0 0 j) = m ((c : Thread nD τ).loc main_arg6) (ix2 1 ⟨256 * min t.val 47 + (j : ℕ), hb⟩) := by
    have e : V m c (Pipeline.arrRef spec0 8) = _ := V_v1 m c
    unfold iblk
    rw [e]
    refine Eq.trans ?_ (bias_at _ _)
    refine congrArg (shapeCast S2x1x12288 (m ((c : Thread nD τ).loc main_arg6) : FVec Ideal S2x12288 .f32) shapeCasts_S2x12288_S2x1x12288) ?_
    blk_ext [idx_ada t]
  refine (pay3_apply _ _ _ _ _).trans ?_
  refine Eq.trans ?_ (congrArg (modulation _ _ _) hy.symm)
  exact congrArg₂ (· + ·) (Finset.sum_congr rfl fun k _ => congrArg₂ (· * ·) (congrArg₂ (· * ·) (e0 k) (congrArg Ideal.logistic (e0 k))) (e1 k)) e2

end Cert.KernelIdeal.Attn

namespace Cert.ReferenceIdeal.Attn

open Cert.ReferenceIdeal Cert.ReferenceIdeal.Gen Idealize.ShloMosaic Idealize.ShloMosaic.TcCoe Idealize.SL.Sem

theorem mod_apply (x : FVec Ideal S16x2048 .f32) (w : FVec Ideal S2x2048x12288 .f32) (b : FVec Ideal S2x12288 .f32) :
    (addf (Host.dotGeneral dot_S16x2048_S2048x12288_S16x12288_1_0_0_1_n_n none (mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))) (shapeCast S2048x12288 (extractStridedSlice S1x2048x12288 ![1, 0, 0] w slices_S2x2048x12288_S1x2048x12288_1_0_0) shapeCasts_S1x2048x12288_S2048x12288)) (broadcastInDim S16x12288 ![0, 1] bcast_S1x12288_S16x12288_0_1 (broadcastInDim S1x12288 ![1] bcast_S12288_S1x12288_1 (shapeCast S12288 (extractStridedSlice S1x12288 ![1, 0] b slices_S2x12288_S1x12288_1_0) shapeCasts_S1x12288_S12288))) : FVec Ideal S16x12288 .f32)
      = Cert.KernelIdeal.Attn.modulation x w b := by
  funext y
  obtain ⟨r, j, rfl⟩ : ∃ (r : Fin 16) (j : Fin 12288), y = ix2 r j := ⟨y 0, y 1, by idx_vars y⟩
  pointwise [Cert.KernelIdeal.Attn.modulation]
  rfl

end Cert.ReferenceIdeal.Attn

end
-- ==== Proof.Finite.lean ====
/-
  What the precondition gives: every score is a real number.
-/
module

public import proofs.«01_k».proof.Proof.Spec
public import proofs.«01_k».proof.Pre_finite_logits
public import Idealize.ShloMosaic.Lib.Pipeline.ValueKit
public import Idealize.ShloMosaic.Lib.WordCmp
public import Idealize.ShloMosaic.Lib.ReduceAll

@[expose] public section

set_option maxRecDepth 16384

noncomputable section

namespace Cert.Pre_finite_logits

open Cert.Spec Idealize.ShloMosaic

instance facts : Facts where
  slices_S16384x6144_S16384x4096_0_0 := by decide +kernel
  bitsLt_bf16_f32 := by decide
  bcast_S_S16384x4096 := by decide +kernel
  reducesTo_S16384x4096_S_d0_1 := by decide +kernel
  h_S_ := by decide
  bcast_S_S4x3x16x4096 := by decide +kernel
  reducesTo_S4x3x16x4096_S_d0_1_2_3 := by decide +kernel

/-- Below `+inf` in magnitude: a real number. -/
theorem real_of_lt (x : EReal) (h : (FloatOps.cmpf (F := Ideal) .olt (φ := .f32) (max x (-x) : EReal) (Ideal.ofBits .f32 0x7F800000#32)) = 1#1) : ∃ r : ℝ, x = r := by
  have hi : Ideal.ofBits .f32 0x7F800000#32 = (⊤ : EReal) := by simp [Ideal.ofBits, Ideal.ieee]
  rw [hi] at h
  induction x using EReal.rec with
  | bot => exact absurd h (by simp [FloatOps.cmpf, Ideal.cmp])
  | top => exact absurd h (by simp [FloatOps.cmpf, Ideal.cmp])
  | coe r => exact ⟨r, rfl⟩

/-- A sum of real numbers is one. -/
theorem real_sum {ι : Type} [Fintype ι] (g : ι → EReal) (h : ∀ i, ∃ r : ℝ, g i = r) : ∃ r : ℝ, ∑ i, g i = r := by
  choose r hr using h
  refine ⟨∑ i, r i, (Finset.sum_congr rfl fun i _ => hr i).trans ?_⟩
  exact (map_sum (⟨⟨Real.toEReal, EReal.coe_zero⟩, EReal.coe_add⟩ : ℝ →+ EReal) r _).symm

theorem real_of_fn (x : FVec Ideal S16384x6144 .bf16) (f : FVec Ideal S4x3x16x4096 .f32) (a2 : FVec Ideal S2x2048x8192 .f32)
    (a3 : FVec Ideal S2x8192x2048 .f32) (a4 : FVec Ideal S4x2048 .f32) (a5 : FVec Ideal S2x2048x12288 .f32) (a6 : FVec Ideal S2x12288 .f32)
    (h : fn (F := Ideal) x f a2 a3 a4 a5 a6 = fun _ => 1#1) :
    (∀ (r : Fin 16384) (j : Fin 4096), ∃ v : ℝ, x (ix2 r ⟨j, by omega⟩) = v) ∧ ∀ i, ∃ v : ℝ, f i = v := by
  have h0 := congrFun h ix0
  obtain ⟨h1, h2⟩ := IntOp.andi_eq_one.1 h0
  have h1 := Host.reduce_andi_all _ _ _ _ _ h1
  have h2 := Host.reduce_andi_all _ _ _ _ _ h2
  constructor
  · intro r j
    obtain ⟨v, hv⟩ := real_of_lt _ (h1 (ix2 r j))
    refine ⟨v, Eq.trans ?_ hv⟩
    pointwise
  · intro i
    exact real_of_lt _ (h2 i)

/-- Under the precondition every score is a real number. -/
theorem real_score (x : FVec Ideal S16384x6144 .bf16) (f : FVec Ideal S4x3x16x4096 .f32) (a2 : FVec Ideal S2x2048x8192 .f32)
    (a3 : FVec Ideal S2x8192x2048 .f32) (a4 : FVec Ideal S4x2048 .f32) (a5 : FVec Ideal S2x2048x12288 .f32) (a6 : FVec Ideal S2x12288 .f32)
    (h : fn (F := Ideal) x f a2 a3 a4 a5 a6 = fun _ => 1#1) (b : Fin 4) (g : Fin 16) (t k : Fin 4096) : ∃ r : ℝ, score x f b g t k = r := by
  obtain ⟨hx, hf⟩ := real_of_fn x f a2 a3 a4 a5 a6 h
  have hc : ∀ (o : Fin 3) (d : Fin 128) (r : Fin 16384), (o : ℕ) < 2 → ∃ v : ℝ, x (ix2 r (col o g d)) = v := fun o d r ho => by
    have hg := g.isLt
    have hd := d.isLt
    exact hx r ⟨2048 * o + 128 * g + d, by omega⟩
  obtain ⟨p, hp⟩ := real_sum (fun d : Fin 128 => x (ix2 (tok b k) (col 1 g d)) * x (ix2 (tok b t) (col 0 g d))) fun d => by
    obtain ⟨u, hu⟩ := hc 1 d (tok b k) (by decide)
    obtain ⟨v, hv⟩ := hc 0 d (tok b t) (by decide)
    exact ⟨u * v, by rw [hu, hv, EReal.coe_mul]⟩
  obtain ⟨q, hq⟩ := real_sum (fun p : Fin 3 => f (ix4 b p g k)) fun p => hf _
  exact ⟨p + q, (congrArg₂ (· + ·) hp hq).trans (EReal.coe_add p q).symm⟩

end Cert.Pre_finite_logits

end
-- ==== Proof.MlpConds.lean ====
/-
The last MLP's kernel: which branches its body takes at each grid point, when the output block is
first met, and short names for the staging buffers and the scratch.  Grid point `t` is row tile
`t / 4`, slice `t % 4`.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 128 = 0)

abbrev cond0_1 (i : grid0.Coords) : Prop := k0_cond2 i = 1#1
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

abbrev cond0_2 (i : grid0.Coords) : Prop := k0_cond3 i = 1#1
theorem hcond0_2 : ∀ t : Fin cfg0.N, cond0_2 (grid0.coords t) ↔ 1 ≤ t.val % 4 :=
  (by decide +kernel : ∀ t : Fin grid0.N, cond0_2 (grid0.coords t) ↔ 1 ≤ t.val % 4)

abbrev cond0_3 (i : grid0.Coords) : Prop := k0_cond4 i = 1#1
theorem hcond0_3 : ∀ t : Fin cfg0.N, cond0_3 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl

abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := ¬cond0_0 i ∧ cond0_1 i ∧ ¬cond0_2 i ∧ ¬cond0_3 i
instance conds0_D.dec (i : grid0.Coords) : Decidable (conds0_D i) :=
  @instDecidableAnd _ _ inferInstance (@instDecidableAnd _ _ inferInstance (@instDecidableAnd _ _ inferInstance inferInstance))
def freshTab0_12 : ℕ → Bool
  | 0 => true
  | n + 1 => (0x88888888888888888888888888888888 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → cond0_1 (grid0.coords t) → ¬cond0_2 (grid0.coords t) → ¬cond0_3 (grid0.coords t) → cfg0.idle 12 (grid0.coords t) = false :=
  fun t h0 h1 h2 h3 => (by decide +kernel : ∀ t : Fin cfg0.N, conds0_A (grid0.coords t) → cfg0.idle 12 (grid0.coords t) = false) t ⟨h0, h1, h2, h3⟩
theorem liveAt0_12_B : ∀ t : Fin cfg0.N, ¬cond0_0 (grid0.coords t) → ¬cond0_1 (grid0.coords t) → cond0_2 (grid0.coords t) → ¬cond0_3 (grid0.coords t) → cfg0.idle 12 (grid0.coords t) = false :=
  fun t h0 h1 h2 h3 => (by decide +kernel : ∀ t : Fin cfg0.N, conds0_B (grid0.coords t) → cfg0.idle 12 (grid0.coords t) = false) t ⟨h0, h1, h2, h3⟩
theorem notFresh0_12_B : ∀ t : Fin cfg0.N, ¬cond0_0 (grid0.coords t) → ¬cond0_1 (grid0.coords t) → cond0_2 (grid0.coords t) → ¬cond0_3 (grid0.coords t) → cfg0.fresh 12 t.val = false :=
  fun t h0 h1 h2 h3 => (by intro t; rw [fresh0_12_eq t]; revert t; decide +kernel : ∀ t : Fin cfg0.N, conds0_B (grid0.coords t) → cfg0.fresh 12 t.val = false) t ⟨h0, h1, h2, h3⟩
theorem liveAt0_12_C : ∀ t : Fin cfg0.N, ¬cond0_0 (grid0.coords t) → ¬cond0_1 (grid0.coords t) → cond0_2 (grid0.coords t) → cond0_3 (grid0.coords t) → cfg0.idle 12 (grid0.coords t) = false :=
  fun t h0 h1 h2 h3 => (by decide +kernel : ∀ t : Fin cfg0.N, conds0_C (grid0.coords t) → cfg0.idle 12 (grid0.coords t) = false) t ⟨h0, h1, h2, h3⟩
theorem notFresh0_12_C : ∀ t : Fin cfg0.N, ¬cond0_0 (grid0.coords t) → ¬cond0_1 (grid0.coords t) → cond0_2 (grid0.coords t) → cond0_3 (grid0.coords t) → cfg0.fresh 12 t.val = false :=
  fun t h0 h1 h2 h3 => (by intro t; rw [fresh0_12_eq t]; revert t; decide +kernel : ∀ t : Fin cfg0.N, conds0_C (grid0.coords t) → cfg0.fresh 12 t.val = false) t ⟨h0, h1, h2, h3⟩
theorem liveAt0_12_D : ∀ t : Fin cfg0.N, ¬cond0_0 (grid0.coords t) → cond0_1 (grid0.coords t) → ¬cond0_2 (grid0.coords t) → ¬cond0_3 (grid0.coords t) → cfg0.idle 12 (grid0.coords t) = false :=
  fun t h0 h1 h2 h3 => (by decide +kernel : ∀ t : Fin cfg0.N, conds0_D (grid0.coords t) → cfg0.idle 12 (grid0.coords t) = false) t ⟨h0, h1, h2, h3⟩

abbrev VO0_12 : View sig .tc .vmem S512x2048 .f32 := (Memref.whole cc0_stg12_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1x1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x2048 .f32 := win0_12.stage (cfg0.slots t 12)
abbrev hs0_12 (t : Fin cfg0.N) : (ms0_12 t).IsWhole := hstage0_12 ((cfg0.slots t 12).cast nbuf0_12)
abbrev scM0_0 : Memref sig .tc .vmem S2x512x2048 .bf16 := Memref.whole cc0_scratch0
abbrev VS0_0 : View sig .tc .vmem S2x512x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The slot of the scratch that a tile reads: the parity of the tile's number. -/
theorem off1_eq (i : grid0.Coords) : k0_off1 i = ![(i 0).val % 2, 0, 0] := by revert i; decide +kernel
/-- The rows of the other slot that a point fills for the next tile. -/
theorem off2_eq (i : grid0.Coords) : k0_off2 i = ![1 - (i 0).val % 2, 128 * (i 1).val, 0] := by revert i; decide +kernel
/-- As `off1_eq`, at the later slices. -/
theorem off5_eq (i : grid0.Coords) : k0_off5 i = ![(i 0).val % 2, 0, 0] := by revert i; decide +kernel
/-- As `off2_eq`, at the later slices. -/
theorem off6_eq (i : grid0.Coords) : k0_off6 i = ![1 - (i 0).val % 2, 128 * (i 1).val, 0] := by revert i; decide +kernel

instance closed1 (i : grid0.Coords) : ClosedOff (k0_off1 i) := ⟨![(i 0).val % 2, 0, 0], off1_eq i⟩
instance closed2 (i : grid0.Coords) : ClosedOff (k0_off2 i) := ⟨![1 - (i 0).val % 2, 128 * (i 1).val, 0], off2_eq i⟩
instance closed5 (i : grid0.Coords) : ClosedOff (k0_off5 i) := ⟨![(i 0).val % 2, 0, 0], off5_eq i⟩
instance closed6 (i : grid0.Coords) : ClosedOff (k0_off6 i) := ⟨![1 - (i 0).val % 2, 128 * (i 1).val, 0], off6_eq i⟩

end Cert.Kernel2Ideal.Mlp

end
-- ==== Proof.MlpStep.lean ====
/-
What one grid point of the last MLP's kernel does to the output block and to the scratch, in the
body's own arithmetic.
-/
module

public import proofs.«01_k».proof.Proof.MlpConds
public import Idealize.ShloMosaic.Lib.Pipeline.ValueKit
public import Idealize.ShloMosaic.Lib.VecWindow

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A slot of the scratch, as the body reads it: the rows of the current row tile. -/
def slot (i : grid0.Coords) (xs : Vec F S2x512x2048 .bf16) : Vec F S1x512x2048 .bf16 :=
  fun y => xs (ix3 ⟨(i 0).val % 2, Nat.mod_lt _ (by decide)⟩ (y 1) (y 2))

/-- The scratch after 128 rows of the other slot have been replaced by `w`. -/
def upd (i : grid0.Coords) (xs : Vec F S2x512x2048 .bf16) (w : Vec F S1x128x2048 .bf16) : Vec F S2x512x2048 .bf16 :=
  VecWindow.put xs ![1 - (i 0).val % 2, 128 * (i 1).val, 0] ![1, 128, 2048] w

/-- The scratch after its first slot has been replaced by `w`. -/
def first (xs : Vec F S2x512x2048 .bf16) (w : Vec F S1x512x2048 .bf16) : Vec F S2x512x2048 .bf16 :=
  VecWindow.put xs ![0, 0, 0] ![1, 512, 2048] w

/-- The output block after the residual rows `x1` have been added at the point's 128 rows. -/
def resid (i : grid0.Coords) (o : Vec F S512x2048 .f32) (x1 : Vec F S128x2048 .f32) : Vec F S512x2048 .f32 :=
  VecWindow.put o ![128 * (i 1).val, 0] ![128, 2048]
    (k0_pay3 (fun z => o (ix2 ⟨(128 * (i 1).val + (z 0).val) % 512, Nat.mod_lt _ (by decide)⟩ (z 1))) x1)

/-- A quarter of the up weights' columns. -/
abbrev up0 (x9 : Vec F S1x2048x2048 .bf16) := View.ld x9 (Rect.unit (s := S1x2048x2048) ![0, 0, 0] S1x2048x512.size inb_S1x2048x2048_S1x2048x512_0_0_0)
abbrev up1 (x9 : Vec F S1x2048x2048 .bf16) := View.ld x9 (Rect.unit (s := S1x2048x2048) ![0, 0, 512] S1x2048x512.size inb_S1x2048x2048_S1x2048x512_0_0_512)
abbrev up2 (x9 : Vec F S1x2048x2048 .bf16) := View.ld x9 (Rect.unit (s := S1x2048x2048) ![0, 0, 1024] S1x2048x512.size inb_S1x2048x2048_S1x2048x512_0_0_1024)
abbrev up3 (x9 : Vec F S1x2048x2048 .bf16) := View.ld x9 (Rect.unit (s := S1x2048x2048) ![0, 0, 1536] S1x2048x512.size inb_S1x2048x2048_S1x2048x512_0_0_1536)
/-- A half of the down weights' rows. -/
abbrev down0 (x10 : Vec F S1x2048x2048 .bf16) := View.ld x10 (Rect.unit (s := S1x2048x2048) ![0, 0, 0] S1x1024x2048.size inb_S1x2048x2048_S1x1024x2048_0_0_0)
abbrev down1 (x10 : Vec F S1x2048x2048 .bf16) := View.ld x10 (Rect.unit (s := S1x2048x2048) ![0, 1024, 0] S1x1024x2048.size inb_S1x2048x2048_S1x1024x2048_0_1024_0)

/-- The first slice's contribution, which starts the output block. -/
def start (h : Vec F S1x512x2048 .bf16) (x8 : Vec F S1x1x1x1x2048 .f32) (x9 x10 : Vec F S1x2048x2048 .bf16) : Vec F S512x2048 .f32 :=
  k0_pay2 (k0_pay9 h (up2 x9)) k0_pay10 h (up3 x9) x8 (down1 x10) (k0_pay8 (k0_pay5 h (up0 x9)) h (up1 x9) x8 (down0 x10))

/-- A later slice's contribution, added to the output block `o`. -/
def more (h : Vec F S1x512x2048 .bf16) (x8 : Vec F S1x1x1x1x2048 .f32) (x9 x10 : Vec F S1x2048x2048 .bf16) (o : Vec F S512x2048 .f32) : Vec F S512x2048 .f32 :=
  k0_pay19 h (up2 x9) h (up3 x9) x8 (down1 x10) (k0_pay18 (k0_pay12 h (up0 x9)) h (up1 x9) x8 (down0 x10) o)

/-- The normalised and modulated rows a point prepares for the next tile. -/
def prep (x2 : Vec F S128x2048 .f32) (x3 : Vec F S1x2048 .f32) (x6 x7 : Vec F S1x1x1x1x2048 .f32) : Vec F S1x128x2048 .bf16 :=
  k0_pay7 (k0_pay6 x2 x3 x6 x7)

theorem prep_eq (x2 : Vec F S128x2048 .f32) (x3 : Vec F S1x2048 .f32) (x6 x7 : Vec F S1x1x1x1x2048 .f32) :
    k0_pay17 x2 (k0_pay13 x3) (k0_pay14 x6) (k0_pay15 x7) (k0_pay16 x2) = prep x2 x3 x6 x7 := rfl

theorem ld_slot {off : Fin 3 → ℕ} (i : grid0.Coords) (h : off = ![(i 0).val % 2, 0, 0])
    (inb : ∀ a, off a + S1x512x2048.size a ≤ S2x512x2048.size a) (xs : Vec F S2x512x2048 .bf16) :
    View.ld xs (Rect.unit (s := S2x512x2048) off S1x512x2048.size inb) = slot i xs := by
  subst h
  funext y
  refine congrArg xs (funext fun a => Fin.ext ?_)
  have h0 : (y 0).val = 0 := by have := (y 0).isLt; change (y 0).val < 1 at this; omega
  refine (Rect.idx_unit_val ..).trans ?_
  fin_cases a
  · show (i 0).val % 2 + (y 0).val = _; rw [h0]; rfl
  · show 0 + (y 1).val = _; rw [Nat.zero_add]; rfl
  · show 0 + (y 2).val = _; rw [Nat.zero_add]; rfl

theorem slot_upd (i : grid0.Coords) (xs : Vec F S2x512x2048 .bf16) (w : Vec F S1x128x2048 .bf16) :
    slot i (upd i xs w) = slot i xs := by
  funext y
  unfold slot upd VecWindow.put
  refine dif_neg fun h => ?_
  have h0 := h 0
  change 1 - (i 0).val % 2 ≤ (i 0).val % 2 ∧ (i 0).val % 2 < 1 - (i 0).val % 2 + 1 at h0
  omega

theorem slot_first (i : grid0.Coords) (hz : (i 0).val = 0) (xs : Vec F S2x512x2048 .bf16) (w : Vec F S1x512x2048 .bf16) :
    slot i (first xs w) = w := by
  funext y
  unfold slot first VecWindow.put
  have h1 : (y 0).val = 0 := by have := (y 0).isLt; change (y 0).val < 1 at this; omega
  refine (dif_pos fun a => ?_).trans (congrArg w (funext fun a => Fin.ext ?_))
  · fin_cases a
    · show 0 ≤ (i 0).val % 2 ∧ (i 0).val % 2 < 0 + 1; omega
    · exact ⟨Nat.zero_le _, by show (y 1).val < 0 + 512; have := (y 1).isLt; change (y 1).val < 512 at this; omega⟩
    · exact ⟨Nat.zero_le _, by show (y 2).val < 0 + 2048; have := (y 2).isLt; change (y 2).val < 2048 at this; omega⟩
  · rw [Rect.unitLocal_val]
    fin_cases a
    · show (i 0).val % 2 - 0 = (y 0).val; omega
    · rfl
    · rfl

theorem ld_rows {off : Fin 2 → ℕ} (i : grid0.Coords) (h : off = ![128 * (i 1).val, 0])
    (inb : ∀ a, off a + S128x2048.size a ≤ S512x2048.size a) (o : Vec F S512x2048 .f32) :
    View.ld o (Rect.unit (s := S512x2048) off S128x2048.size inb)
      = fun z => o (ix2 ⟨(128 * (i 1).val + (z 0).val) % 512, Nat.mod_lt _ (by decide)⟩ (z 1)) := by
  subst h
  funext y
  refine congrArg o (funext fun a => Fin.ext ?_)
  have h0 : (y 0).val < 128 := (y 0).isLt
  have h1 : (i 1).val < 4 := (i 1).isLt
  refine (Rect.idx_unit_val ..).trans ?_
  fin_cases a
  · show 128 * (i 1).val + (y 0).val = (128 * (i 1).val + (y 0).val) % 512; omega
  · show 0 + (y 1).val = _; rw [Nat.zero_add]; rfl

theorem upd_eq {off : Fin 3 → ℕ} (i : grid0.Coords) (h : off = ![1 - (i 0).val % 2, 128 * (i 1).val, 0])
    (v : View sig .tc .vmem S2x512x2048 .bf16) (f) (inb : ∀ a, off a + S1x128x2048.size a ≤ S2x512x2048.size a)
    (w : Vec F S1x128x2048 .bf16) (L : List (View.Piece (Elt F) S2x512x2048 .bf16)) :
    v.read (Elt F) (v.writes (Elt F) f (⟨Rect.unit (s := S2x512x2048) off S1x128x2048.size inb, w⟩ :: L))
      = upd i (v.read (Elt F) (v.writes (Elt F) f L)) w :=
  View.read_writes_cons_put v f inb w L h

theorem first_eq (v : View sig .tc .vmem S2x512x2048 .bf16) (f) (w : Vec F S1x512x2048 .bf16) :
    v.read (Elt F) (v.writes (Elt F) f [⟨Rect.unit (s := S2x512x2048) ![0, 0, 0] S1x512x2048.size inb_S2x512x2048_S1x512x2048_0_0_0, w⟩])
      = first (v.read (Elt F) f) w :=
  (View.read_writes_cons_put v f _ w [] rfl).trans rfl

theorem resid_eq {off : Fin 2 → ℕ} (i : grid0.Coords) (h : off = ![128 * (i 1).val, 0])
    (v : View sig .tc .vmem S512x2048 .f32) (f) (inb : ∀ a, off a + S128x2048.size a ≤ S512x2048.size a)
    (x1 : Vec F S128x2048 .f32) (L : List (View.Piece (Elt F) S512x2048 .f32)) (o : Vec F S512x2048 .f32)
    (ho : v.read (Elt F) (v.writes (Elt F) f L) = o) :
    v.read (Elt F) (v.writes (Elt F) f (⟨Rect.unit (s := S512x2048) off S128x2048.size inb,
        k0_pay3 (View.ld o (Rect.unit (s := S512x2048) off S128x2048.size inb)) x1⟩ :: L)) = resid i o x1 := by
  rw [ld_rows i h inb o]
  exact (View.read_writes_cons_put v f inb _ L h).trans (by rw [ho]; rfl)

theorem canon_resid {off : Fin 2 → ℕ} (i : grid0.Coords) (h : off = ![128 * (i 1).val, 0])
    (inb : ∀ a, off a + S128x2048.size a ≤ S512x2048.size a)
    (x1 : Vec F S128x2048 .f32) (L : List (View.Piece (Elt F) S512x2048 .f32)) (o : Vec F S512x2048 .f32) :
    View.canon (⟨Rect.unit (s := S512x2048) off S128x2048.size inb,
        k0_pay3 (View.ld o (Rect.unit (s := S512x2048) off S128x2048.size inb)) x1⟩
      :: ⟨Rect.unit (s := S512x2048) ![0, 0] S512x2048.size inb_S512x2048_S512x2048_0_0, o⟩ :: L) = resid i o x1 := by
  rw [← View.read_writes_junk_eq_canon VO0_12]
  exact resid_eq i h _ _ inb x1 _ o (View.read_writes_full _ _ _ _ _)

end Cert.Kernel2Ideal.Mlp

end
-- ==== Proof.MlpPay.lean ====
/-
  The last MLP's payloads, read at an index.
-/
module

public import proofs.«01_k».proof.Proof.MlpSpec
public import proofs.«01_k».proof.Proof.MlpStep
public import Idealize.ShloMosaic.Lib.Pipeline.ValueKit

@[expose] public section

set_option maxRecDepth 16384

noncomputable section

namespace Cert.Kernel2Ideal.Mlp

open Cert.MlpSpec Cert.Kernel2Ideal Cert.Kernel2Ideal.Gen Idealize.ShloMosaic Idealize.ShloMosaic.TcCoe

theorem pay1_at (x : FVec Ideal S512x2048 .f32) (g : FVec Ideal S1x2048 .f32) (a b : FVec Ideal S1x1x1x1x2048 .f32) (r : Fin 512) (k : Fin 2048) :
    k0_pay1 (F := Ideal) x g a b (ix3 0 r k)
      = hid (fun k => x (ix2 r k)) (fun k => g (ix2 0 k)) (fun k => b (ix5 0 0 0 0 k)) (fun k => a (ix5 0 0 0 0 k)) k := by
  pointwise [k0_pay1, hid, scaled]

theorem prep_at (x : FVec Ideal S128x2048 .f32) (g : FVec Ideal S1x2048 .f32) (a b : FVec Ideal S1x1x1x1x2048 .f32) (r : Fin 128) (k : Fin 2048) :
    prep (F := Ideal) x g a b (ix3 0 r k)
      = hid (fun k => x (ix2 r k)) (fun k => g (ix2 0 k)) (fun k => b (ix5 0 0 0 0 k)) (fun k => a (ix5 0 0 0 0 k)) k := by
  pointwise [prep, k0_pay6, k0_pay7, hid, scaled]

theorem pay4_at (x : FVec Ideal S512x2048 .f32) (g : FVec Ideal S1x2048 .f32) (r : Fin 512) (k : Fin 2048) :
    k0_pay4 (F := Ideal) x g (ix2 r k) = fin (fun k => x (ix2 r k)) (fun k => g (ix2 0 k)) k := by
  pointwise [k0_pay4, fin, scaled]

/-- The hidden rows a half of a slice gives: two products side by side, each rectified. -/
def pairUp (h : FVec Ideal S1x512x2048 .bf16) (a b : FVec Ideal S1x2048x512 .bf16) : FVec Ideal S512x1024 .f32 :=
  concatenate S512x1024 1 [⟨S512x512, k0_pay5 (F := Ideal) h a⟩, ⟨S512x512, k0_pay5 (F := Ideal) h b⟩] concatenates_S512x512_S512x512_S512x1024_d1

/-- The gated product of a half of a slice. -/
def half (h : FVec Ideal S1x512x2048 .bf16) (a b : FVec Ideal S1x2048x512 .bf16) (ga : FVec Ideal S1x1x1x1x2048 .f32)
    (d : FVec Ideal S1x1024x2048 .bf16) : FVec Ideal S512x2048 .f32 :=
  k0_pay8 (F := Ideal) (k0_pay5 (F := Ideal) h a) h b ga d

theorem pay5_at (h : FVec Ideal S1x512x2048 .bf16) (a : FVec Ideal S1x2048x512 .bf16) (r : Fin 512) (q : Fin 512) :
    k0_pay5 (F := Ideal) h a (ix2 r q) = max (∑ k : Fin 2048, h (ix3 0 r k) * a (ix3 0 k q)) (Ideal.ofBits .f32 0x00000000#32) := by
  pointwise [k0_pay5]

theorem pairUp_at (h : FVec Ideal S1x512x2048 .bf16) (a b : FVec Ideal S1x2048x512 .bf16) (r : Fin 512) (p : Fin 1024) :
    pairUp h a b (ix2 r p) = if hp : p.val < 512 then k0_pay5 (F := Ideal) h a (ix2 r ⟨p, hp⟩) else k0_pay5 (F := Ideal) h b (ix2 r ⟨p.val - 512, by omega⟩) := by
  unfold pairUp
  generalize k0_pay5 (F := Ideal) h a = A
  generalize k0_pay5 (F := Ideal) h b = B
  pointwise

theorem half_eq (h : FVec Ideal S1x512x2048 .bf16) (a b : FVec Ideal S1x2048x512 .bf16) (ga : FVec Ideal S1x1x1x1x2048 .f32)
    (d : FVec Ideal S1x1024x2048 .bf16) (r : Fin 512) (j : Fin 2048) :
    half h a b ga d (ix2 r j) = ga (ix5 0 0 0 0 j) * ∑ p : Fin 1024, pairUp h a b (ix2 r p) * pairUp h a b (ix2 r p) * d (ix3 0 p j) := by
  have e : half h a b ga d = mulf (broadcastTo S512x2048 (shapeCast S1x2048 ga shapeCasts_S1x1x1x1x2048_S1x2048) broadcasts_S1x2048_S512x2048)
    (matmul dot_S512x1024_S1024x2048_S512x2048_1_0_0_1_n_n none (truncf .bf16 (mulf (pairUp h a b) (pairUp h a b)) bitsLt_bf16_f32)
      (shapeCast S1024x2048 d shapeCasts_S1x1024x2048_S1024x2048) (constant S512x2048 .f32 0x00000000#32)) := rfl
  rw [e]
  generalize pairUp h a b = P
  pointwise

theorem start_eq (h : FVec Ideal S1x512x2048 .bf16) (x8 : FVec Ideal S1x1x1x1x2048 .f32) (x9 x10 : FVec Ideal S1x2048x2048 .bf16) :
    start (F := Ideal) h x8 x9 x10 = addf (half h (up0 (F := Ideal) x9) (up1 (F := Ideal) x9) x8 (down0 (F := Ideal) x10)) (half h (up2 (F := Ideal) x9) (up3 (F := Ideal) x9) x8 (down1 (F := Ideal) x10)) := by
  have e : start (F := Ideal) h x8 x9 x10 = addf (shapeCast S512x2048 (half h (up0 (F := Ideal) x9) (up1 (F := Ideal) x9) x8 (down0 (F := Ideal) x10)) shapeCasts_S512x2048_S512x2048) (half h (up2 (F := Ideal) x9) (up3 (F := Ideal) x9) x8 (down1 (F := Ideal) x10)) := rfl
  rw [e, shapeCast_self]

theorem more_eq (h : FVec Ideal S1x512x2048 .bf16) (x8 : FVec Ideal S1x1x1x1x2048 .f32) (x9 x10 : FVec Ideal S1x2048x2048 .bf16) (o : FVec Ideal S512x2048 .f32) :
    more (F := Ideal) h x8 x9 x10 o = addf (addf o (half h (up0 (F := Ideal) x9) (up1 (F := Ideal) x9) x8 (down0 (F := Ideal) x10))) (half h (up2 (F := Ideal) x9) (up3 (F := Ideal) x9) x8 (down1 (F := Ideal) x10)) := by
  have e : more (F := Ideal) h x8 x9 x10 o = addf (shapeCast S512x2048 (addf (shapeCast S512x2048 o shapeCasts_S512x2048_S512x2048) (half h (up0 (F := Ideal) x9) (up1 (F := Ideal) x9) x8 (down0 (F := Ideal) x10))) shapeCasts_S512x2048_S512x2048) (half h (up2 (F := Ideal) x9) (up3 (F := Ideal) x9) x8 (down1 (F := Ideal) x10)) := rfl
  rw [e, shapeCast_self, shapeCast_self]

/-- What half `n` of a slice contributes to an output entry. -/
def contrib (h : FVec Ideal S1x512x2048 .bf16) (x8 : FVec Ideal S1x1x1x1x2048 .f32) (x9 x10 : FVec Ideal S1x2048x2048 .bf16)
    (n : Fin 2) (r : Fin 512) (j : Fin 2048) : EReal :=
  x8 (ix5 0 0 0 0 j) * ∑ p : Fin 1024, act (fun k => h (ix3 0 r k)) (fun k => x9 (ix3 0 k ⟨1024 * n + p, by omega⟩))
    * x10 (ix3 0 ⟨1024 * n + p, by omega⟩ j)

theorem up_at (x9 : FVec Ideal S1x2048x2048 .bf16) (o : ℕ) (inb : ∀ a, (![0, 0, o] : Fin 3 → ℕ) a + S1x2048x512.size a ≤ S1x2048x2048.size a)
    (k : Fin 2048) (q : Fin 512) (u : Fin 2048) (hu : u.val = o + q) :
    View.ld (Val := Elt Ideal) (e' := .bf16) x9 (Rect.unit (s := S1x2048x2048) ![0, 0, o] S1x2048x512.size inb) (ix3 0 k q) = x9 (ix3 0 k u) := by
  refine congrArg x9 (funext fun a => Fin.ext ?_)
  refine (Rect.idx_unit_val ..).trans ?_
  fin_cases a
  · rfl
  · show 0 + k.val = k.val; omega
  · show o + q.val = u.val; omega

theorem down_at (x10 : FVec Ideal S1x2048x2048 .bf16) (o : ℕ) (inb : ∀ a, (![0, o, 0] : Fin 3 → ℕ) a + S1x1024x2048.size a ≤ S1x2048x2048.size a)
    (p : Fin 1024) (j : Fin 2048) (u : Fin 2048) (hu : u.val = o + p) :
    View.ld (Val := Elt Ideal) (e' := .bf16) x10 (Rect.unit (s := S1x2048x2048) ![0, o, 0] S1x1024x2048.size inb) (ix3 0 p j) = x10 (ix3 0 u j) := by
  refine congrArg x10 (funext fun a => Fin.ext ?_)
  refine (Rect.idx_unit_val ..).trans ?_
  fin_cases a
  · rfl
  · show o + p.val = u.val; omega
  · show 0 + j.val = j.val; omega

theorem half0_at (h : FVec Ideal S1x512x2048 .bf16) (x8 : FVec Ideal S1x1x1x1x2048 .f32) (x9 x10 : FVec Ideal S1x2048x2048 .bf16) (r : Fin 512) (j : Fin 2048) :
    half h (up0 (F := Ideal) x9) (up1 (F := Ideal) x9) x8 (down0 (F := Ideal) x10) (ix2 r j) = contrib h x8 x9 x10 0 r j := by
  rw [half_eq]
  unfold contrib
  refine congrArg (_ * ·) (Finset.sum_congr rfl fun p _ => congrArg₂ (· * ·) ?_ ?_)
  · have e : pairUp h (up0 (F := Ideal) x9) (up1 (F := Ideal) x9) (ix2 r p)
        = max (∑ k : Fin 2048, h (ix3 0 r k) * x9 (ix3 0 k ⟨1024 * (0 : Fin 2) + p, by omega⟩)) (Ideal.ofBits .f32 0x00000000#32) := by
      rw [pairUp_at]
      split
      · rw [pay5_at]
        refine congrArg (max · _) (Finset.sum_congr rfl fun k _ => congrArg (_ * ·) ?_)
        exact up_at _ 0 _ _ _ _ (by show 1024 * 0 + p.val = 0 + p.val; omega)
      · rw [pay5_at]
        refine congrArg (max · _) (Finset.sum_congr rfl fun k _ => congrArg (_ * ·) ?_)
        exact up_at _ 512 _ _ _ _ (by show 1024 * 0 + p.val = 512 + (p.val - 512); omega)
    rw [e]; rfl
  · exact down_at _ 0 _ _ _ _ (by show 1024 * 0 + p.val = _; omega)

theorem half1_at (h : FVec Ideal S1x512x2048 .bf16) (x8 : FVec Ideal S1x1x1x1x2048 .f32) (x9 x10 : FVec Ideal S1x2048x2048 .bf16) (r : Fin 512) (j : Fin 2048) :
    half h (up2 (F := Ideal) x9) (up3 (F := Ideal) x9) x8 (down1 (F := Ideal) x10) (ix2 r j) = contrib h x8 x9 x10 1 r j := by
  rw [half_eq]
  unfold contrib
  refine congrArg (_ * ·) (Finset.sum_congr rfl fun p _ => congrArg₂ (· * ·) ?_ ?_)
  · have e : pairUp h (up2 (F := Ideal) x9) (up3 (F := Ideal) x9) (ix2 r p)
        = max (∑ k : Fin 2048, h (ix3 0 r k) * x9 (ix3 0 k ⟨1024 * (1 : Fin 2) + p, by omega⟩)) (Ideal.ofBits .f32 0x00000000#32) := by
      rw [pairUp_at]
      split
      · rw [pay5_at]
        refine congrArg (max · _) (Finset.sum_congr rfl fun k _ => congrArg (_ * ·) ?_)
        exact up_at _ 1024 _ _ _ _ (by show 1024 * 1 + p.val = 1024 + p.val; omega)
      · rw [pay5_at]
        refine congrArg (max · _) (Finset.sum_congr rfl fun k _ => congrArg (_ * ·) ?_)
        exact up_at _ 1536 _ _ _ _ (by show 1024 * 1 + p.val = 1536 + (p.val - 512); omega)
    rw [e]; rfl
  · exact down_at _ 1024 _ _ _ _ (by show 1024 * 1 + p.val = _; omega)

theorem start_at (h : FVec Ideal S1x512x2048 .bf16) (x8 : FVec Ideal S1x1x1x1x2048 .f32) (x9 x10 : FVec Ideal S1x2048x2048 .bf16) (r : Fin 512) (j : Fin 2048) :
    start (F := Ideal) h x8 x9 x10 (ix2 r j) = contrib h x8 x9 x10 0 r j + contrib h x8 x9 x10 1 r j := by
  rw [start_eq, ← half0_at, ← half1_at]; rfl

theorem more_at (h : FVec Ideal S1x512x2048 .bf16) (x8 : FVec Ideal S1x1x1x1x2048 .f32) (x9 x10 : FVec Ideal S1x2048x2048 .bf16) (o : FVec Ideal S512x2048 .f32)
    (r : Fin 512) (j : Fin 2048) :
    more (F := Ideal) h x8 x9 x10 o (ix2 r j) = o (ix2 r j) + contrib h x8 x9 x10 0 r j + contrib h x8 x9 x10 1 r j := by
  rw [more_eq, ← half0_at, ← half1_at]; rfl

theorem pay3_eq (a b : FVec Ideal S128x2048 .f32) : k0_pay3 (F := Ideal) a b = addf a b := by
  have e : k0_pay3 (F := Ideal) a b = addf (shapeCast S128x2048 a shapeCasts_S128x2048_S128x2048) b := rfl
  rw [e, shapeCast_self]

theorem resid_at (i : grid0.Coords) (o : FVec Ideal S512x2048 .f32) (x1 : FVec Ideal S128x2048 .f32) (r : Fin 512) (j : Fin 2048) :
    resid (F := Ideal) i o x1 (ix2 r j)
      = o (ix2 r j) + if r.val / 128 = (i 1).val then x1 (ix2 ⟨r.val % 128, Nat.mod_lt _ (by decide)⟩ j) else 0 := by
  have hi : (i 1).val < 4 := (i 1).isLt
  unfold resid VecWindow.put
  by_cases hr : r.val / 128 = (i 1).val
  · rw [if_pos hr, pay3_eq]
    have hq : ∀ a, (![128 * (i 1).val, 0] : Fin 2 → ℕ) a ≤ ((ix2 r j) a).val ∧ ((ix2 r j) a).val < (![128 * (i 1).val, 0] : Fin 2 → ℕ) a + (![128, 2048] : Fin 2 → ℕ) a := fun a => by
      fin_cases a
      · show 128 * (i 1).val ≤ r.val ∧ r.val < 128 * (i 1).val + 128; omega
      · show 0 ≤ j.val ∧ j.val < 0 + 2048; omega
    refine (dif_pos hq).trans ?_
    have hu : Rect.unitLocal (ix2 r j) hq = ix2 ⟨r.val % 128, Nat.mod_lt _ (by decide)⟩ j := funext fun a => Fin.ext (by
      rw [Rect.unitLocal_val]
      fin_cases a
      · show r.val - 128 * (i 1).val = r.val % 128; omega
      · rfl)
    rw [hu]
    refine congrArg₂ (· + ·) (congrArg o ?_) rfl
    refine congrArg₂ ix2 (Fin.ext ?_) rfl
    show (128 * (i 1).val + r.val % 128) % 512 = r.val
    omega
  · rw [if_neg hr, add_zero]
    refine dif_neg fun h => hr ?_
    have h0 := h 0
    change 128 * (i 1).val ≤ r.val ∧ r.val < 128 * (i 1).val + 128 at h0
    omega

end Cert.Kernel2Ideal.Mlp

end
-- ==== Proof.MlpRunA.lean ====
/-
The last MLP's body at the very first grid point: the scratch is filled for the first row tile, then the first slice of the weights is used.
-/
module

public import proofs.«01_k».proof.Proof.MlpConds

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the very first grid point: the scratch is filled for the first row tile, then the first slice of the weights is used: what each buffer is left holding, found by the run. -/
noncomputable def kernelRun0_A (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_final_eq_skeleton]; unfold cc0_mlp_final_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel2Ideal.Mlp

end
-- ==== Proof.MlpStepA.lean ====
/-
What the body leaves in the output block and in the scratch at the very first grid point.
-/
module

public import proofs.«01_k».proof.Proof.MlpStep
public import proofs.«01_k».proof.Proof.MlpRunA

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0).1 (by sl_whole_mem) y

def outA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S512x2048 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0).1)

def soutA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S2x512x2048 .bf16 :=
  arg15.view.read (Elt F) (arg15.view.writes (Elt F) (harg15.unread xs0) (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0).2.1)

set_option maxHeartbeats 1000000 in
theorem outA_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    outA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0 = resid i (start (k0_pay1 x0 x3 x4 x5) x8 x9 x10) x1 := by
  have hf : slot i (arg15.view.read (Elt F) (arg15.view.writes (Elt F) (harg15.unread xs0)
      [⟨Rect.unit (s := S2x512x2048) ![0, 0, 0] ![1, 512, 2048] inb_S2x512x2048_S1x512x2048_0_0_0, k0_pay1 x0 x3 x4 x5⟩]))
        = k0_pay1 x0 x3 x4 x5 :=
    (congrArg (slot i) (first_eq _ _ _)).trans (slot_first i hz _ _)
  frame_out
  simp only [upd_eq i (off2_eq i), ld_slot i (off1_eq i), ld_slot i (off1_eq i)]
  simp only [slot_upd]
  rw [hf]
  exact canon_resid i (k0_off3_eq i) _ x1 _ _

set_option maxHeartbeats 1000000 in
theorem soutA_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    soutA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0 = upd i (first xs0 (k0_pay1 x0 x3 x4 x5)) (prep x2 x3 x6 x7) := by
  frame_out
  exact (upd_eq i (off2_eq i) _ _ _ _ _).trans (congrArg (fun z => upd i z _) ((first_eq _ _ _).trans (congrArg (fun z => first z _) (harg15.read_unread _))))

/-- The body's effect at this kind of point, in the body's own arithmetic. -/
theorem tripleA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hc3 : ¬cond0_3 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (resid i (start (k0_pay1 x0 x3 x4 x5) x8 x9 x10) x1) ∗ owns (c : Thread nD τ) arg15 fullShare (upd i (first xs0 (k0_pay1 x0 x3 x4 x5)) (prep x2 x3 x6 x7))) -∗ K ⟨⟩))
      ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0)).trans (outA_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0)
  unfold owns; iexists _; isplitr
  swap; · iexact HS0
  ipureintro
  exact soutA_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hz x0 x1 x2 x3 x4 x5 x6 x7 x8 x9 x10 x11 xs0

end Cert.Kernel2Ideal.Mlp

end
-- ==== Proof.MlpRunB.lean ====
/-
The last MLP's body at the second and third slice of a row tile.
-/
module

public import proofs.«01_k».proof.Proof.MlpConds

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the second and third slice of a row tile: what each buffer is left holding, found by the run. -/
noncomputable def kernelRun0_B (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_final_eq_skeleton]; unfold cc0_mlp_final_skel
    simp only [k0_part5_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel2Ideal.Mlp

end
-- ==== Proof.MlpStepB.lean ====
/-
What the body leaves in the output block and in the scratch at the second and third slice of a row tile.
-/
module

public import proofs.«01_k».proof.Proof.MlpStep
public import proofs.«01_k».proof.Proof.MlpRunB

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).1, y ∈ pc.1.set :=
  View.cover_of_wholeMem (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).1 (by sl_whole_mem) y

def outB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) : Vec F S512x2048 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).1)

def soutB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) : Vec F S2x512x2048 .bf16 :=
  arg15.view.read (Elt F) (arg15.view.writes (Elt F) (harg15.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).2.1)

set_option maxHeartbeats 1000000 in
theorem outB_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    outB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0 = more (slot i xs0) x8 x9 x10 (resid i xo12 x1) := by
  have hr : arg14.view.read (Elt F) (arg14.view.writes (Elt F) (harg14.unread xo12)
      [⟨Rect.unit (s := S512x2048) (k0_off4 i) S128x2048.size (k0_off4_inb i hc2),
        k0_pay11 (View.ld xo12 (Rect.unit (s := S512x2048) (k0_off4 i) S128x2048.size (k0_off4_inb i hc2))) x1⟩]) = resid i xo12 x1 :=
    resid_eq i (k0_off4_eq i) _ _ (k0_off4_inb i hc2) x1 [] xo12 (harg14.read_unread _)
  frame_out
  simp only [prep_eq, upd_eq i (off6_eq i), View.writes_nil, harg15.read_unread, ld_slot i (off5_eq i)]
  simp only [slot_upd]
  rw [hr]
  rfl

set_option maxHeartbeats 1000000 in
theorem soutB_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    soutB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0 = upd i xs0 (prep x2 x3 x6 x7) := by
  frame_out
  exact (upd_eq i (off6_eq i) _ _ _ _ _).trans (congrArg (fun z => upd i z _) (harg15.read_unread _))

/-- The body's effect at this kind of point, in the body's own arithmetic. -/
theorem tripleB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (more (slot i xs0) x8 x9 x10 (resid i xo12 x1)) ∗ owns (c : Thread nD τ) arg15 fullShare (upd i xs0 (prep x2 x3 x6 x7))) -∗ K ⟨⟩))
      ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0)).trans (outB_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0)
  unfold owns; iexists _; isplitr
  swap; · iexact HS0
  ipureintro
  exact soutB_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0

end Cert.Kernel2Ideal.Mlp

end
-- ==== Proof.MlpRunC.lean ====
/-
The last MLP's body at the last slice of a row tile, where the result is normalised.
-/
module

public import proofs.«01_k».proof.Proof.MlpConds

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the last slice of a row tile, where the result is normalised: what each buffer is left holding, found by the run. -/
noncomputable def kernelRun0_C (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_final_eq_skeleton]; unfold cc0_mlp_final_skel
    simp only [k0_part5_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel2Ideal.Mlp

end
-- ==== Proof.MlpStepC.lean ====
/-
What the body leaves in the output block and in the scratch at the last slice of a row tile.
-/
module

public import proofs.«01_k».proof.Proof.MlpStep
public import proofs.«01_k».proof.Proof.MlpRunC

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverC (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) (y : S512x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).1 (by sl_whole_mem) y

def outC (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) : Vec F S512x2048 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).1)

def soutC (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) : Vec F S2x512x2048 .bf16 :=
  arg15.view.read (Elt F) (arg15.view.writes (Elt F) (harg15.unread xs0) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).2.1)

set_option maxHeartbeats 1000000 in
theorem outC_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    outC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0 = k0_pay4 (more (slot i xs0) x8 x9 x10 (resid i xo12 x1)) x11 := by
  have hr : arg14.view.read (Elt F) (arg14.view.writes (Elt F) (harg14.unread xo12)
      [⟨Rect.unit (s := S512x2048) (k0_off4 i) S128x2048.size (k0_off4_inb i hc2),
        k0_pay11 (View.ld xo12 (Rect.unit (s := S512x2048) (k0_off4 i) S128x2048.size (k0_off4_inb i hc2))) x1⟩]) = resid i xo12 x1 :=
    resid_eq i (k0_off4_eq i) _ _ (k0_off4_inb i hc2) x1 [] xo12 (harg14.read_unread _)
  frame_out
  simp only [prep_eq, upd_eq i (off6_eq i), View.writes_nil, harg15.read_unread, ld_slot i (off5_eq i)]
  simp only [slot_upd]
  rw [hr]
  rfl

set_option maxHeartbeats 1000000 in
theorem soutC_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    soutC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0 = upd i xs0 (prep x2 x3 x6 x7) := by
  frame_out
  exact (upd_eq i (off6_eq i) _ _ _ _ _).trans (congrArg (fun z => upd i z _) (harg15.read_unread _))

/-- The body's effect at this kind of point, in the body's own arithmetic. -/
theorem tripleC (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (hc3 : cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k0_pay4 (more (slot i xs0) x8 x9 x10 (resid i xo12 x1)) x11) ∗ owns (c : Thread nD τ) arg15 fullShare (upd i xs0 (prep x2 x3 x6 x7))) -∗ K ⟨⟩))
      ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0)).trans (outC_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0)
  unfold owns; iexists _; isplitr
  swap; · iexact HS0
  ipureintro
  exact soutC_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xo12 xs0

end Cert.Kernel2Ideal.Mlp

end
-- ==== Proof.MlpRunD.lean ====
/-
The last MLP's body at the first slice of a later row tile.
-/
module

public import proofs.«01_k».proof.Proof.MlpConds

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the first slice of a later row tile: what each buffer is left holding, found by the run. -/
noncomputable def kernelRun0_D (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_final_eq_skeleton]; unfold cc0_mlp_final_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel2Ideal.Mlp

end
-- ==== Proof.MlpStepD.lean ====
/-
What the body leaves in the output block and in the scratch at the first slice of a later row tile.
-/
module

public import proofs.«01_k».proof.Proof.MlpStep
public import proofs.«01_k».proof.Proof.MlpRunD

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (y : S512x2048.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0).1, y ∈ pc.1.set :=
  View.cover_of_wholeMem (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0).1 (by sl_whole_mem) y

def outD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S512x2048 .f32 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0).1)

def soutD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S2x512x2048 .bf16 :=
  arg15.view.read (Elt F) (arg15.view.writes (Elt F) (harg15.unread xs0) (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0).2.1)

set_option maxHeartbeats 1000000 in
theorem outD_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    outD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 = resid i (start (slot i xs0) x8 x9 x10) x1 := by
  frame_out
  simp only [upd_eq i (off2_eq i), View.writes_nil, harg15.read_unread, ld_slot i (off1_eq i)]
  simp only [slot_upd]
  exact canon_resid i (k0_off3_eq i) _ x1 _ _

set_option maxHeartbeats 1000000 in
theorem soutD_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    soutD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0 = upd i xs0 (prep x2 x3 x6 x7) := by
  frame_out
  exact (upd_eq i (off2_eq i) _ _ _ _ _).trans (congrArg (fun z => upd i z _) (harg15.read_unread _))

/-- The body's effect at this kind of point, in the body's own arithmetic. -/
theorem tripleD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (hc3 : ¬cond0_3 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (resid i (start (slot i xs0) x8 x9 x10) x1) ∗ owns (c : Thread nD τ) arg15 fullShare (upd i xs0 (prep x2 x3 x6 x7))) -∗ K ⟨⟩))
      ⊢ wp frame (wpE (defs₀ (F := F)) Variants.none c none) E (cc0_mlp_final i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0)).trans (outD_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0)
  unfold owns; iexists _; isplitr
  swap; · iexact HS0
  ipureintro
  exact soutD_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 x10 x11 xs0

end Cert.Kernel2Ideal.Mlp

end
-- ==== Proof.MlpFrame.lean ====
/-
The last MLP's launch: the scratch carries the next row tile's prepared rows from point to point, the
output block accumulates over a tile's four points, and the program's arguments are left as they were.
-/
module

public import proofs.«01_k».proof.Proof.MlpStepA
public import proofs.«01_k».proof.Proof.MlpStepB
public import proofs.«01_k».proof.Proof.MlpStepC
public import proofs.«01_k».proof.Proof.MlpStepD
public import Idealize.ShloMosaic.Lib.Pipeline.FrameBody

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % 128, (Nat.mod_lt n (by decide)).trans_le (le_of_eq (show 128 = cfg0.N from N_0.symm))⟩

theorem pt_val (t : Fin cfg0.N) : pt t.val = t :=
  Fin.ext (Nat.mod_eq_of_lt (t.isLt.trans_le (le_of_eq (show cfg0.N = 128 from N_0))))

theorem coord0 (t : Fin cfg0.N) : (grid0.coords t 0).val = t.val / 4 := by
  have ht : t.val < 128 := Nat.lt_of_lt_of_eq t.isLt N_0
  have e : (grid0.coords t 0).val = t.val / 4 % 32 := Pipeline.Grid.coords_val t 0 (by decide) rfl
  omega
theorem coord1 (t : Fin cfg0.N) : (grid0.coords t 1).val = t.val % 4 := by
  have e : (grid0.coords t 1).val = t.val / 1 % 4 := Pipeline.Grid.coords_val t 1 (by decide) rfl
  omega

/-- The rows point `t` prepares for the next tile. -/
def rows (c : Dev nD) (t : Fin cfg0.N) : Vec F S1x128x2048 .bf16 :=
  prep (iblk m c 2 t) (iblk m c 3 t) (iblk m c 6 t) (iblk m c 7 t)

/-- The normalised and modulated rows of tile `i`: the first tile's prepared at the first point, a later
    tile's 128 rows at a time during the tile before it. -/
def hidden (c : Dev nD) : ℕ → Vec F S1x512x2048 .bf16
  | 0 => k0_pay1 (iblk m c 0 (pt 0)) (iblk m c 3 (pt 0)) (iblk m c 4 (pt 0)) (iblk m c 5 (pt 0))
  | i + 1 => fun y => rows m c (pt (4 * i + (y 1).val / 128)) (ix3 0 ⟨(y 1).val % 128, Nat.mod_lt _ (by decide)⟩ (y 2))

/-- What the scratch holds when point `n` starts: the current tile's rows in one slot, the rows of the
    next tile prepared so far in the other. -/
def Inv (c : Dev nD) (n : ℕ) (s : Vec F S2x512x2048 .bf16) : Prop :=
  (∀ (k : Fin 2) (r : Fin 512) (j : Fin 2048), k.val = n / 4 % 2 → s (ix3 k r j) = hidden m c (n / 4) (ix3 0 r j)) ∧
  (∀ (k : Fin 2) (r : Fin 512) (j : Fin 2048), k.val = 1 - n / 4 % 2 → r.val < 128 * (n % 4) →
    s (ix3 k r j) = hidden m c (n / 4 + 1) (ix3 0 r j))

theorem inv_first (c : Dev nD) (s : Vec F S2x512x2048 .bf16) : Inv m c 0 (first s (hidden m c 0)) := by
  refine ⟨fun k r j hk => ?_, fun k r j _ hr => absurd hr (Nat.not_lt_zero _)⟩
  have hk' : k.val = 0 := hk
  unfold first VecWindow.put
  refine (dif_pos fun a => ?_).trans (congrArg (hidden m c 0) (funext fun a => Fin.ext ?_))
  · fin_cases a
    · show 0 ≤ k.val ∧ k.val < 0 + 1; omega
    · show 0 ≤ r.val ∧ r.val < 0 + 512; omega
    · show 0 ≤ j.val ∧ j.val < 0 + 2048; omega
  · rw [Rect.unitLocal_val]
    fin_cases a
    · show k.val - 0 = 0; omega
    · rfl
    · rfl

theorem upd_off (i : grid0.Coords) (s : Vec F S2x512x2048 .bf16) (w : Vec F S1x128x2048 .bf16) (k : Fin 2) (r : Fin 512) (j : Fin 2048)
    (h : ¬(k.val = 1 - (i 0).val % 2 ∧ 128 * (i 1).val ≤ r.val ∧ r.val < 128 * (i 1).val + 128)) :
    upd i s w (ix3 k r j) = s (ix3 k r j) := by
  unfold upd VecWindow.put
  refine dif_neg fun h' => h ?_
  have h0 := h' 0
  have h1 := h' 1
  change 1 - (i 0).val % 2 ≤ k.val ∧ k.val < 1 - (i 0).val % 2 + 1 at h0
  change 128 * (i 1).val ≤ r.val ∧ r.val < 128 * (i 1).val + 128 at h1
  omega

theorem upd_on (i : grid0.Coords) (s : Vec F S2x512x2048 .bf16) (w : Vec F S1x128x2048 .bf16) (k : Fin 2) (r : Fin 512) (j : Fin 2048)
    (q : Fin 128) (h : k.val = 1 - (i 0).val % 2) (hq : r.val = 128 * (i 1).val + q.val) :
    upd i s w (ix3 k r j) = w (ix3 0 q j) := by
  unfold upd VecWindow.put
  refine (dif_pos fun a => ?_).trans (congrArg w (funext fun a => Fin.ext ?_))
  · fin_cases a
    · show 1 - (i 0).val % 2 ≤ k.val ∧ k.val < 1 - (i 0).val % 2 + 1; omega
    · show 128 * (i 1).val ≤ r.val ∧ r.val < 128 * (i 1).val + 128; omega
    · show 0 ≤ j.val ∧ j.val < 0 + 2048; omega
  · rw [Rect.unitLocal_val]
    fin_cases a
    · show k.val - (1 - (i 0).val % 2) = 0; omega
    · show r.val - 128 * (i 1).val = q.val; omega
    · rfl

theorem inv_step (c : Dev nD) (t : Fin cfg0.N) (s : Vec F S2x512x2048 .bf16) (h : Inv m c t.val s) :
    Inv m c (t.val + 1) (upd (grid0.coords t) s (rows m c t)) := by
  have hc0 := coord0 t
  have hc1 := coord1 t
  have cur : ∀ (k : Fin 2) (r : Fin 512) (j : Fin 2048), k.val = t.val / 4 % 2 →
      upd (grid0.coords t) s (rows m c t) (ix3 k r j) = hidden m c (t.val / 4) (ix3 0 r j) := fun k r j hk =>
    (upd_off _ _ _ _ _ _ (by omega)).trans (h.1 k r j hk)
  have nxt : ∀ (k : Fin 2) (r : Fin 512) (j : Fin 2048), k.val = 1 - t.val / 4 % 2 → r.val < 128 * (t.val % 4 + 1) →
      upd (grid0.coords t) s (rows m c t) (ix3 k r j) = hidden m c (t.val / 4 + 1) (ix3 0 r j) := fun k r j hk hr => by
    by_cases hlt : r.val < 128 * (t.val % 4)
    · exact (upd_off _ _ _ _ _ _ (by omega)).trans (h.2 k r j hk hlt)
    · refine (upd_on _ _ _ k r j ⟨r.val % 128, Nat.mod_lt _ (by decide)⟩ (by omega) (by show r.val = 128 * _ + r.val % 128; omega)).trans ?_
      show rows m c t _ = rows m c (pt (4 * (t.val / 4) + r.val / 128)) _
      rw [show 4 * (t.val / 4) + r.val / 128 = t.val by omega, pt_val]
      rfl
  by_cases h3 : t.val % 4 = 3
  · refine ⟨fun k r j hk => ?_, fun k r j _ hr => ?_⟩
    · rw [show (t.val + 1) / 4 = t.val / 4 + 1 by omega]
      exact nxt k r j (by omega) (by have := r.isLt; omega)
    · exfalso; omega
  · refine ⟨fun k r j hk => ?_, fun k r j hk hr => ?_⟩
    · rw [show (t.val + 1) / 4 = t.val / 4 by omega]
      exact cur k r j (by omega)
    · rw [show (t.val + 1) / 4 + 1 = t.val / 4 + 1 by omega]
      exact nxt k r j (by omega) (by omega)

theorem slot_of_inv (c : Dev nD) (t : Fin cfg0.N) (s : Vec F S2x512x2048 .bf16) (h : Inv m c t.val s) :
    slot (grid0.coords t) s = hidden m c (t.val / 4) := by
  funext y
  have h0 : (y 0).val = 0 := by have := (y 0).isLt; change (y 0).val < 1 at this; omega
  refine (h.1 _ (y 1) (y 2) (by show (grid0.coords t 0).val % 2 = _; rw [coord0])).trans (congrArg (hidden m c (t.val / 4)) (funext fun a => Fin.ext ?_))
  fin_cases a
  · exact h0.symm
  · rfl
  · rfl

/-- What point `n` leaves in the output block, over what the point before left there. -/
def stepAt (c : Dev nD) (n : ℕ) (o : Vec F S512x2048 .f32) : Vec F S512x2048 .f32 :=
  if n % 4 = 0 then
    resid (grid0.coords (pt n)) (start (hidden m c (n / 4)) (iblk m c 8 (pt n)) (iblk m c 9 (pt n)) (iblk m c 10 (pt n))) (iblk m c 1 (pt n))
  else if n % 4 = 3 then
    k0_pay4 (more (hidden m c (n / 4)) (iblk m c 8 (pt n)) (iblk m c 9 (pt n)) (iblk m c 10 (pt n)) (resid (grid0.coords (pt n)) o (iblk m c 1 (pt n)))) (iblk m c 11 (pt n))
  else
    more (hidden m c (n / 4)) (iblk m c 8 (pt n)) (iblk m c 9 (pt n)) (iblk m c 10 (pt n)) (resid (grid0.coords (pt n)) o (iblk m c 1 (pt n)))

/-- The output block after point `n`. -/
def outAt (c : Dev nD) : ℕ → Vec F S512x2048 .f32
  | 0 => stepAt m c 0 (iblk m c 0 (pt 0))
  | n + 1 => stepAt m c (n + 1) (outAt c n)

theorem outAt_start (c : Dev nD) (t : Fin cfg0.N) (h : t.val % 4 = 0) :
    outAt m c t.val = resid (grid0.coords t) (start (hidden m c (t.val / 4)) (iblk m c 8 t) (iblk m c 9 t) (iblk m c 10 t)) (iblk m c 1 t) := by
  have e : ∀ o, stepAt m c t.val o = resid (grid0.coords t) (start (hidden m c (t.val / 4)) (iblk m c 8 t) (iblk m c 9 t) (iblk m c 10 t)) (iblk m c 1 t) :=
    fun o => by unfold stepAt; rw [if_pos h, pt_val]
  obtain ⟨n, hn⟩ := t
  cases n with
  | zero => exact e _
  | succ n => exact e _

theorem outAt_more (c : Dev nD) (t : Fin cfg0.N) (h : ¬t.val % 4 = 0) (h3 : ¬t.val % 4 = 3) :
    outAt m c t.val = more (hidden m c (t.val / 4)) (iblk m c 8 t) (iblk m c 9 t) (iblk m c 10 t) (resid (grid0.coords t) (outAt m c (t.val - 1)) (iblk m c 1 t)) := by
  have e : ∀ o, stepAt m c t.val o = more (hidden m c (t.val / 4)) (iblk m c 8 t) (iblk m c 9 t) (iblk m c 10 t) (resid (grid0.coords t) o (iblk m c 1 t)) :=
    fun o => by unfold stepAt; rw [if_neg h, if_neg h3, pt_val]
  obtain ⟨n, hn⟩ := t
  cases n with
  | zero => exact absurd rfl h
  | succ n => exact e _

theorem outAt_last (c : Dev nD) (t : Fin cfg0.N) (h3 : t.val % 4 = 3) :
    outAt m c t.val = k0_pay4 (more (hidden m c (t.val / 4)) (iblk m c 8 t) (iblk m c 9 t) (iblk m c 10 t) (resid (grid0.coords t) (outAt m c (t.val - 1)) (iblk m c 1 t))) (iblk m c 11 t) := by
  have e : ∀ o, stepAt m c t.val o = k0_pay4 (more (hidden m c (t.val / 4)) (iblk m c 8 t) (iblk m c 9 t) (iblk m c 10 t) (resid (grid0.coords t) o (iblk m c 1 t))) (iblk m c 11 t) :=
    fun o => by unfold stepAt; rw [if_neg (by omega), if_pos h3, pt_val]
  obtain ⟨n, hn⟩ := t
  cases n with
  | zero => exact absurd (show 0 % 4 = 3 from h3) (by decide)
  | succ n => exact e _

/-- The scratch between points. -/
def PhiS (c : Dev nD) : ℕ → sProp 𝕄
  | 0 => Pipeline.ΦA spec0 c
  | n + 1 => iprop((∃ s, ⌜Inv m c (n + 1) s⌝ ∗ owns (c : Thread nD τ) scM0_0 fullShare s) ∗ (∃ r, prngReg c r))

theorem PhiS_pos (c : Dev nD) (n : ℕ) (hz : n ≠ 0) :
    PhiS m c n = iprop((∃ s, ⌜Inv m c n s⌝ ∗ owns (c : Thread nD τ) scM0_0 fullShare s) ∗ (∃ r, prngReg c r)) := by
  cases n with
  | zero => exact absurd rfl hz
  | succ n => rfl

/-- The launch's data: each input window keeps its block, the output block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 128 := lt_of_lt_of_eq t.isLt (show cfg0.N = 128 from N_0)
  rw [after0_12, after0_12]
  by_cases h1 : t.val % 4 = 0
  · by_cases h0 : t.val % 128 = 0
    · rw [liveAt0_12_A t ((hcond0_0 t).mpr h0) ((hcond0_1 t).mpr h1) (fun h => absurd ((hcond0_2 t).mp h) (by omega)) (fun h => absurd ((hcond0_3 t).mp h) (by omega))] at hi
      exact absurd hi Bool.false_ne_true
    · rw [liveAt0_12_D t (fun h => h0 ((hcond0_0 t).mp h)) ((hcond0_1 t).mpr h1) (fun h => absurd ((hcond0_2 t).mp h) (by omega)) (fun h => absurd ((hcond0_3 t).mp h) (by omega))] at hi
      exact absurd hi Bool.false_ne_true
  · by_cases h3 : t.val % 4 = 3
    · rw [liveAt0_12_C t (fun h => absurd ((hcond0_0 t).mp h) (by omega)) (fun h => h1 ((hcond0_1 t).mp h)) ((hcond0_2 t).mpr (by omega)) ((hcond0_3 t).mpr h3)] at hi
      exact absurd hi Bool.false_ne_true
    · rw [liveAt0_12_B t (fun h => absurd ((hcond0_0 t).mp h) (by omega)) (fun h => h1 ((hcond0_1 t).mp h)) ((hcond0_2 t).mpr (by omega)) (fun h => h3 ((hcond0_3 t).mp h))] at hi
      exact absurd hi Bool.false_ne_true

theorem before0_12_B (c : Dev nD) (t : Fin cfg0.N) (h0 : ¬t.val % 128 = 0) (h1 : ¬t.val % 4 = 0) (h2 : 1 ≤ t.val % 4) (h3 : ¬t.val % 4 = 3) (d) :
    (dats m 0 c).before 12 t d = outAt m c (t.val - 1) := by
  rw [Dat.before_out_traj _ 12 rfl (fun _ _ => rfl) (hcarry0_12 m c) t.val t rfl d,
    if_neg (by rw [notFresh0_12_B t (fun h => h0 ((hcond0_0 t).mp h)) (fun h => h1 ((hcond0_1 t).mp h)) ((hcond0_2 t).mpr h2) (fun h => h3 ((hcond0_3 t).mp h))]; exact Bool.false_ne_true)]
  dsimp only [dats]
theorem before0_12_C (c : Dev nD) (t : Fin cfg0.N) (h0 : ¬t.val % 128 = 0) (h1 : ¬t.val % 4 = 0) (h2 : 1 ≤ t.val % 4) (h3 : t.val % 4 = 3) (d) :
    (dats m 0 c).before 12 t d = outAt m c (t.val - 1) := by
  rw [Dat.before_out_traj _ 12 rfl (fun _ _ => rfl) (hcarry0_12 m c) t.val t rfl d,
    if_neg (by rw [notFresh0_12_C t (fun h => h0 ((hcond0_0 t).mp h)) (fun h => h1 ((hcond0_1 t).mp h)) ((hcond0_2 t).mpr h2) ((hcond0_3 t).mpr h3)]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]

set_option maxHeartbeats 4000000 in
theorem soundA (c : Dev nD) (t : Fin cfg0.N) (h0 : t.val % 128 = 0) (h1 : t.val % 4 = 0) (h2 : ¬1 ≤ t.val % 4) (h3 : ¬t.val % 4 = 3) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_A t ((hcond0_0 t).mpr h0) ((hcond0_1 t).mpr h1) (fun h => h2 ((hcond0_2 t).mp h)) (fun h => h3 ((hcond0_3 t).mp h))], after0_12]
  have hz : t.val = 0 := by omega
  have hp : pt 0 = t := hz ▸ pt_val t
  have hh : hidden m c 0 = k0_pay1 (iblk m c 0 t) (iblk m c 3 t) (iblk m c 4 t) (iblk m c 5 t) := by rw [← hp]; rfl
  rw [show PhiS m c t.val = Pipeline.ΦA spec0 c from by rw [hz]; rfl, PhiA0_eq]
  iintro ⟨⟨⟨%s, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have ho := (by rw [outAt_start m c t h1, show t.val / 4 = 0 by omega, hh] : outAt m c t.val = resid (grid0.coords t) (start (k0_pay1 (iblk m c 0 t) (iblk m c 3 t) (iblk m c 4 t) (iblk m c 5 t)) (iblk m c 8 t) (iblk m c 9 t) (iblk m c 10 t)) (iblk m c 1 t))
  iapply (tripleA c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (by rw [coord0]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact by rw [← hh]; exact inv_step m c t _ (hz ▸ inv_first m c s)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

set_option maxHeartbeats 4000000 in
theorem soundB (c : Dev nD) (t : Fin cfg0.N) (h0 : ¬t.val % 128 = 0) (h1 : ¬t.val % 4 = 0) (h2 : 1 ≤ t.val % 4) (h3 : ¬t.val % 4 = 3) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_B t (fun h => h0 ((hcond0_0 t).mp h)) (fun h => h1 ((hcond0_1 t).mp h)) ((hcond0_2 t).mpr h2) (fun h => h3 ((hcond0_3 t).mp h))], after0_12]
  simp only [before0_12_B m c t h0 h1 h2 h3]
  rw [PhiS_pos m c t.val (by omega)]
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hsl := slot_of_inv m c t s hs
  have ho := (by rw [outAt_more m c t h1 h3, hsl] : outAt m c t.val = more (slot (grid0.coords t) s) (iblk m c 8 t) (iblk m c 9 t) (iblk m c 10 t) (resid (grid0.coords t) (outAt m c (t.val - 1)) (iblk m c 1 t)))
  iapply (tripleB c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outAt m c (t.val - 1)) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

set_option maxHeartbeats 4000000 in
theorem soundC (c : Dev nD) (t : Fin cfg0.N) (h0 : ¬t.val % 128 = 0) (h1 : ¬t.val % 4 = 0) (h2 : 1 ≤ t.val % 4) (h3 : t.val % 4 = 3) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_C t (fun h => h0 ((hcond0_0 t).mp h)) (fun h => h1 ((hcond0_1 t).mp h)) ((hcond0_2 t).mpr h2) ((hcond0_3 t).mpr h3)], after0_12]
  simp only [before0_12_C m c t h0 h1 h2 h3]
  rw [PhiS_pos m c t.val (by omega)]
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hsl := slot_of_inv m c t s hs
  have ho := (by rw [outAt_last m c t h3, hsl] : outAt m c t.val = k0_pay4 (more (slot (grid0.coords t) s) (iblk m c 8 t) (iblk m c 9 t) (iblk m c 10 t) (resid (grid0.coords t) (outAt m c (t.val - 1)) (iblk m c 1 t))) (iblk m c 11 t))
  iapply (tripleC c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outAt m c (t.val - 1)) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

set_option maxHeartbeats 4000000 in
theorem soundD (c : Dev nD) (t : Fin cfg0.N) (h0 : ¬t.val % 128 = 0) (h1 : t.val % 4 = 0) (h2 : ¬1 ≤ t.val % 4) (h3 : ¬t.val % 4 = 3) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_D t (fun h => h0 ((hcond0_0 t).mp h)) ((hcond0_1 t).mpr h1) (fun h => h2 ((hcond0_2 t).mp h)) (fun h => h3 ((hcond0_3 t).mp h))], after0_12]
  rw [PhiS_pos m c t.val (by omega)]
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hsl := slot_of_inv m c t s hs
  have ho := (by rw [outAt_start m c t h1, hsl] : outAt m c t.val = resid (grid0.coords t) (start (slot (grid0.coords t) s) (iblk m c 8 t) (iblk m c 9 t) (iblk m c 10 t)) (iblk m c 1 t))
  iapply (tripleD c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases h1 : t.val % 4 = 0
  · by_cases h0 : t.val % 128 = 0
    · exact soundA m c t h0 h1 (by omega) (by omega)
    · exact soundD m c t h0 h1 (by omega) (by omega)
  · by_cases h3 : t.val % 4 = 3
    · exact soundC m c t (by omega) h1 (by omega) h3
    · exact soundB m c t (by omega) h1 (by omega) h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 128 := N_0; omega), PhiA0_eq]
  iintro ⟨⟨%s, %hs, HS0⟩, Hg⟩
  isplitl [HS0]
  · iexists s; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Mlp

end
-- ==== Proof.MlpBlocks.lean ====
/-
  The last MLP's input blocks, read off the program's arguments.
-/
module

public import proofs.«01_k».proof.Proof.MlpFrame
public import Idealize.ShloMosaic.Lib.Pipeline.ValueKit

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idxA : ∀ t : Fin cfg0.N, win0_0.index t = ![0, 0]
    ∧ win0_1.index t = ![t.val, 0]
    ∧ win0_2.index t = ![4 * min (t.val / 4 + 1) 31 + t.val % 4, 0]
    ∧ win0_3.index t = ![0, 0]
    ∧ win0_4.index t = ![1, t.val / 32, 3, 0, 0]
    ∧ win0_5.index t = ![1, t.val / 32, 4, 0, 0]
    ∧ win0_6.index t = ![1, min (t.val / 4 + 1) 31 / 8, 3, 0, 0]
    ∧ win0_7.index t = ![1, min (t.val / 4 + 1) 31 / 8, 4, 0, 0]
    ∧ win0_8.index t = ![1, t.val / 32, 5, 0, 0]
    ∧ win0_9.index t = ![1, 0, t.val % 4]
    ∧ win0_10.index t = ![1, t.val % 4, 0]
    ∧ win0_11.index t = ![0, 0]
    ∧ win0_12.index t = ![t.val / 4, 0] :=
  (by decide +kernel : ∀ t : Fin grid0.N, _)

theorem V_v2 (c : Dev nD) : (V m c main_v2 : FVec Ideal S1x2048 .f32) = shapeCast S1x2048 (shapeCast S2048 (extractStridedSlice S1x2048 ![1, 0] (m ((c : Thread nD τ).loc main_arg2) : FVec Ideal S2x2048 .f32) slices_S2x2048_S1x2048_1_0) shapeCasts_S1x2048_S2048) shapeCasts_S2048_S1x2048 := by
  simp only [V, hostOps0, List.flatten_cons, List.flatten_nil, List.append_nil, List.cons_append, List.nil_append]
  after_results_simp <;> rfl

theorem V_v3 (c : Dev nD) : (V m c main_v3 : FVec Ideal S2x4x6x1x2048 .f32) = shapeCast S2x4x6x1x2048 (m ((c : Thread nD τ).loc main_arg1) : FVec Ideal S2x4x12288 .f32) shapeCasts_S2x4x12288_S2x4x6x1x2048 := by
  simp only [V, hostOps0, List.flatten_cons, List.flatten_nil, List.append_nil, List.cons_append, List.nil_append]
  after_results_simp <;> rfl

theorem V_v4 (c : Dev nD) : (V m c main_v4 : FVec Ideal S1x2048 .f32) = shapeCast S1x2048 (m ((c : Thread nD τ).loc main_arg5) : FVec Ideal S2048 .f32) shapeCasts_S2048_S1x2048 := by
  simp only [V, hostOps0, List.flatten_cons, List.flatten_nil, List.append_nil, List.cons_append, List.nil_append]
  after_results_simp <;> rfl

/-- The gain as the launch gets it. -/
abbrev gainOp (g : FVec Ideal S2x2048 .f32) : FVec Ideal S1x2048 .f32 :=
  shapeCast S1x2048 (shapeCast S2048 (extractStridedSlice S1x2048 ![1, 0] g slices_S2x2048_S1x2048_1_0) shapeCasts_S1x2048_S2048) shapeCasts_S2048_S1x2048

theorem gainOp_at (g : FVec Ideal S2x2048 .f32) (k : Fin 2048) : gainOp g (ix2 0 k) = g (ix2 1 k) := by
  unfold gainOp
  pointwise

/-- The modulation table as the launch gets it. -/
abbrev modOp (x : FVec Ideal S2x4x12288 .f32) : FVec Ideal S2x4x6x1x2048 .f32 :=
  shapeCast S2x4x6x1x2048 x shapeCasts_S2x4x12288_S2x4x6x1x2048

theorem modOp_at (x : FVec Ideal S2x4x12288 .f32) (l : Fin 2) (b : Fin 4) (o : Fin 6) (k : Fin 2048) (j : Fin 12288) (hj : j.val = 2048 * o + k) :
    modOp x (ix5 l b o 0 k) = x (ix3 l b j) := by
  unfold modOp
  pointwise
  exact congrArg (fun j => x (ix3 l b j)) (Fin.ext (by simp; omega))

abbrev finOp (x : FVec Ideal S2048 .f32) : FVec Ideal S1x2048 .f32 := shapeCast S1x2048 x shapeCasts_S2048_S1x2048

theorem finOp_at (x : FVec Ideal S2048 .f32) (k : Fin 2048) : finOp x (ix2 0 k) = x (ix1 k) := by
  unfold finOp
  pointwise

theorem rd0 (c : Dev nD) (t : Fin cfg0.N) (r : Fin 512) (k : Fin 2048) : iblk m c 0 t (ix2 r k)
    = m ((c : Thread nD τ).loc main_arg0) (ix2 ⟨r.val, by omega⟩ k) := by
  blk_ext [iblk, V, idxA t]

theorem rd1 (c : Dev nD) (t : Fin cfg0.N) (R : Fin 16384) (r : Fin 128) (k : Fin 2048) (hR : R.val = 128 * t.val + r) : iblk m c 1 t (ix2 r k)
    = m ((c : Thread nD τ).loc main_arg0) (ix2 R k) := by
  blk_ext [iblk, V, idxA t]

theorem rd2 (c : Dev nD) (t : Fin cfg0.N) (R : Fin 16384) (r : Fin 128) (k : Fin 2048) (ht : t.val / 4 < 31) (hR : R.val = 512 * (t.val / 4 + 1) + 128 * (t.val % 4) + r) :
    iblk m c 2 t (ix2 r k) = m ((c : Thread nD τ).loc main_arg0) (ix2 R k) := by
  blk_ext [iblk, V, idxA t]

theorem rd3 (c : Dev nD) (t : Fin cfg0.N) (k : Fin 2048) : iblk m c 3 t (ix2 0 k)
    = m ((c : Thread nD τ).loc main_arg2) (ix2 1 k) := by
  have e : V m c (Pipeline.arrRef spec0 3) = _ := V_v2 m c
  unfold iblk
  rw [e]
  refine Eq.trans ?_ (gainOp_at _ _)
  refine congrArg (gainOp (m ((c : Thread nD τ).loc main_arg2))) ?_
  blk_ext [idxA t]

theorem rd11 (c : Dev nD) (t : Fin cfg0.N) (k : Fin 2048) : iblk m c 11 t (ix2 0 k)
    = m ((c : Thread nD τ).loc main_arg5) (ix1 k) := by
  have e : V m c (Pipeline.arrRef spec0 11) = _ := V_v4 m c
  unfold iblk
  rw [e]
  refine Eq.trans ?_ (finOp_at _ _)
  refine congrArg (finOp (m ((c : Thread nD τ).loc main_arg5))) ?_
  blk_ext [idxA t]

theorem rd9 (c : Dev nD) (t : Fin cfg0.N) (k : Fin 2048) (u : Fin 2048) (U : Fin 8192) (hU : U.val = 2048 * (t.val % 4) + u) : iblk m c 9 t (ix3 0 k u)
    = m ((c : Thread nD τ).loc main_arg3) (ix3 1 k U) := by
  blk_ext [iblk, V, idxA t]

theorem rd10 (c : Dev nD) (t : Fin cfg0.N) (u : Fin 2048) (j : Fin 2048) (U : Fin 8192) (hU : U.val = 2048 * (t.val % 4) + u) : iblk m c 10 t (ix3 0 u j)
    = m ((c : Thread nD τ).loc main_arg4) (ix3 1 U j) := by
  blk_ext [iblk, V, idxA t]

theorem rd4 (c : Dev nD) (t : Fin cfg0.N) (b : Fin 4) (k : Fin 2048) (hb : b.val = t.val / 32) : iblk m c 4 t (ix5 0 0 0 0 k)
    = m ((c : Thread nD τ).loc main_arg1) (ix3 1 b ⟨6144 + k.val, by omega⟩) := by
  have e : V m c (Pipeline.arrRef spec0 4) = _ := V_v3 m c
  unfold iblk
  rw [e]
  refine Eq.trans ?_ (modOp_at _ 1 b 3 k _ rfl)
  refine congrArg (modOp (m ((c : Thread nD τ).loc main_arg1))) ?_
  blk_ext [idxA t]

theorem rd5 (c : Dev nD) (t : Fin cfg0.N) (b : Fin 4) (k : Fin 2048) (hb : b.val = t.val / 32) : iblk m c 5 t (ix5 0 0 0 0 k)
    = m ((c : Thread nD τ).loc main_arg1) (ix3 1 b ⟨8192 + k.val, by omega⟩) := by
  have e : V m c (Pipeline.arrRef spec0 5) = _ := V_v3 m c
  unfold iblk
  rw [e]
  refine Eq.trans ?_ (modOp_at _ 1 b 4 k _ rfl)
  refine congrArg (modOp (m ((c : Thread nD τ).loc main_arg1))) ?_
  blk_ext [idxA t]

theorem rd6 (c : Dev nD) (t : Fin cfg0.N) (b : Fin 4) (k : Fin 2048) (ht : t.val / 4 < 31) (hb : b.val = (t.val / 4 + 1) / 8) : iblk m c 6 t (ix5 0 0 0 0 k)
    = m ((c : Thread nD τ).loc main_arg1) (ix3 1 b ⟨6144 + k.val, by omega⟩) := by
  have e : V m c (Pipeline.arrRef spec0 6) = _ := V_v3 m c
  unfold iblk
  rw [e]
  refine Eq.trans ?_ (modOp_at _ 1 b 3 k _ rfl)
  refine congrArg (modOp (m ((c : Thread nD τ).loc main_arg1))) ?_
  blk_ext [idxA t]

theorem rd7 (c : Dev nD) (t : Fin cfg0.N) (b : Fin 4) (k : Fin 2048) (ht : t.val / 4 < 31) (hb : b.val = (t.val / 4 + 1) / 8) : iblk m c 7 t (ix5 0 0 0 0 k)
    = m ((c : Thread nD τ).loc main_arg1) (ix3 1 b ⟨8192 + k.val, by omega⟩) := by
  have e : V m c (Pipeline.arrRef spec0 7) = _ := V_v3 m c
  unfold iblk
  rw [e]
  refine Eq.trans ?_ (modOp_at _ 1 b 4 k _ rfl)
  refine congrArg (modOp (m ((c : Thread nD τ).loc main_arg1))) ?_
  blk_ext [idxA t]

theorem rd8 (c : Dev nD) (t : Fin cfg0.N) (b : Fin 4) (k : Fin 2048) (hb : b.val = t.val / 32) : iblk m c 8 t (ix5 0 0 0 0 k)
    = m ((c : Thread nD τ).loc main_arg1) (ix3 1 b ⟨10240 + k.val, by omega⟩) := by
  have e : V m c (Pipeline.arrRef spec0 8) = _ := V_v3 m c
  unfold iblk
  rw [e]
  refine Eq.trans ?_ (modOp_at _ 1 b 5 k _ rfl)
  refine congrArg (modOp (m ((c : Thread nD τ).loc main_arg1))) ?_
  blk_ext [idxA t]

end Cert.Kernel2Ideal.Mlp

end
-- ==== Proof.MlpValue.lean ====
/-
  What the last MLP's kernel leaves in its output array.
-/
module

public import proofs.«01_k».proof.Proof.MlpPay
public import proofs.«01_k».proof.Proof.MlpBlocks
public import Idealize.ShloMosaic.Lib.Pipeline.ValueKit

@[expose] public section

set_option maxRecDepth 16384

noncomputable section

namespace Cert.Kernel2Ideal.Mlp

open Cert.MlpSpec Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The arguments, by name. -/
def ax (c : Dev nD) (R : Fin 16384) (k : Fin 2048) : EReal := (m ((c : Thread nD τ).loc main_arg0) : FVec Ideal S16384x2048 .f32) (ix2 R k)
def ash (c : Dev nD) (b : Fin 4) (k : Fin 2048) : EReal := (m ((c : Thread nD τ).loc main_arg1) : FVec Ideal S2x4x12288 .f32) (ix3 1 b ⟨6144 + k.val, by omega⟩)
def asc (c : Dev nD) (b : Fin 4) (k : Fin 2048) : EReal := (m ((c : Thread nD τ).loc main_arg1) : FVec Ideal S2x4x12288 .f32) (ix3 1 b ⟨8192 + k.val, by omega⟩)
def aga (c : Dev nD) (b : Fin 4) (k : Fin 2048) : EReal := (m ((c : Thread nD τ).loc main_arg1) : FVec Ideal S2x4x12288 .f32) (ix3 1 b ⟨10240 + k.val, by omega⟩)
def agn (c : Dev nD) (k : Fin 2048) : EReal := (m ((c : Thread nD τ).loc main_arg2) : FVec Ideal S2x2048 .f32) (ix2 1 k)
def awu (c : Dev nD) (k : Fin 2048) (u : Fin 8192) : EReal := (m ((c : Thread nD τ).loc main_arg3) : FVec Ideal S2x2048x8192 .bf16) (ix3 1 k u)
def awd (c : Dev nD) (u : Fin 8192) (k : Fin 2048) : EReal := (m ((c : Thread nD τ).loc main_arg4) : FVec Ideal S2x8192x2048 .bf16) (ix3 1 u k)
def afi (c : Dev nD) (k : Fin 2048) : EReal := (m ((c : Thread nD τ).loc main_arg5) : FVec Ideal S2048 .f32) (ix1 k)

theorem pt_lt (n : ℕ) (h : n < 128) : (pt n).val = n := Nat.mod_eq_of_lt h

theorem pt_eq (t : Fin cfg0.N) (n : ℕ) (h : t.val = n) : pt n = t := h ▸ pt_val t

theorem hidden_at (c : Dev nD) (i : ℕ) (hi : i < 32) (r : Fin 512) (k : Fin 2048) (R : Fin 16384) (hR : R.val = 512 * i + r)
    (b : Fin 4) (hb : b.val = i / 8) :
    hidden m c i (ix3 0 r k) = hid (ax m c R) (agn m c) (asc m c b) (ash m c b) k := by
  cases i with
  | zero =>
    refine (pay1_at _ _ _ _ r k).trans ?_
    have e0 : (fun k => iblk m c 0 (pt 0) (ix2 r k)) = ax m c R := funext fun k =>
      (rd0 m c (pt 0) r k).trans (congrArg (fun R => ax m c R k) (Fin.ext (by show r.val = R.val; omega)))
    have e1 : (fun k => iblk m c 3 (pt 0) (ix2 0 k)) = agn m c := funext fun k => rd3 m c (pt 0) k
    have e2 : (fun k => iblk m c 5 (pt 0) (ix5 0 0 0 0 k)) = asc m c b := funext fun k => rd5 m c (pt 0) b k (by rw [hb]; rfl)
    have e3 : (fun k => iblk m c 4 (pt 0) (ix5 0 0 0 0 k)) = ash m c b := funext fun k => rd4 m c (pt 0) b k (by rw [hb]; rfl)
    rw [e0, e1, e2, e3]
  | succ i =>
    have hr := r.isLt
    have ht : (pt (4 * i + r.val / 128)).val = 4 * i + r.val / 128 := pt_lt _ (by omega)
    show rows m c (pt (4 * i + r.val / 128)) (ix3 0 ⟨r.val % 128, Nat.mod_lt _ (by decide)⟩ k) = _
    unfold rows
    refine (prep_at _ _ _ _ _ k).trans ?_
    generalize pt (4 * i + r.val / 128) = t at ht ⊢
    have e0 : (fun k => iblk m c 2 t (ix2 ⟨r.val % 128, Nat.mod_lt _ (by decide)⟩ k)) = ax m c R := funext fun k =>
      rd2 m c t R _ k (by omega) (by show R.val = 512 * (t.val / 4 + 1) + 128 * (t.val % 4) + r.val % 128; omega)
    have e1 : (fun k => iblk m c 3 t (ix2 0 k)) = agn m c := funext fun k => rd3 m c t k
    have e2 : (fun k => iblk m c 7 t (ix5 0 0 0 0 k)) = asc m c b := funext fun k => rd7 m c t b k (by omega) (by omega)
    have e3 : (fun k => iblk m c 6 t (ix5 0 0 0 0 k)) = ash m c b := funext fun k => rd6 m c t b k (by omega) (by omega)
    rw [e0, e1, e2, e3]

/-- A term of the down product. -/
def term (c : Dev nD) (R : Fin 16384) (b : Fin 4) (j : Fin 2048) (u : Fin 8192) : EReal :=
  act (hid (ax m c R) (agn m c) (asc m c b) (ash m c b)) (fun k => awu m c k u) * awd m c u j

theorem contrib_at (c : Dev nD) (t : Fin cfg0.N) (n : Fin 2) (q : Fin 8) (hq : q.val = 2 * (t.val % 4) + n) (r : Fin 512) (j : Fin 2048)
    (R : Fin 16384) (hR : R.val = 512 * (t.val / 4) + r) (b : Fin 4) (hb : b.val = t.val / 32) :
    contrib (hidden m c (t.val / 4)) (iblk m c 8 t) (iblk m c 9 t) (iblk m c 10 t) n r j
      = aga m c b j * ∑ p : Fin 1024, term m c R b j ⟨1024 * q + p, by omega⟩ := by
  have hN : t.val < 128 := lt_of_lt_of_eq t.isLt (show cfg0.N = 128 from N_0)
  have hH : (fun k => hidden m c (t.val / 4) (ix3 0 r k)) = hid (ax m c R) (agn m c) (asc m c b) (ash m c b) :=
    funext fun k => hidden_at m c _ (by omega) r k R hR b (by omega)
  unfold contrib term
  rw [hH]
  refine congrArg₂ (· * ·) (rd8 m c t b j hb) (Finset.sum_congr rfl fun p _ => congrArg₂ (· * ·) (congrArg (act _) (funext fun k => ?_)) ?_)
  · exact rd9 m c t k _ _ (by show 1024 * q.val + p.val = 2048 * (t.val % 4) + (1024 * n.val + p.val); omega)
  · exact rd10 m c t _ j _ (by show 1024 * q.val + p.val = 2048 * (t.val % 4) + (1024 * n.val + p.val); omega)

theorem added_at (c : Dev nD) (t : Fin cfg0.N) (r : Fin 512) (j : Fin 2048) (R : Fin 16384) (hR : R.val = 512 * (t.val / 4) + r) :
    (if r.val / 128 = (grid0.coords t 1).val then (iblk m c 1 t : FVec Ideal S128x2048 .f32) (ix2 ⟨r.val % 128, Nat.mod_lt _ (by decide)⟩ j) else (0 : EReal))
      = if r.val / 128 = t.val % 4 then ax m c R j else 0 := by
  rw [coord1]
  by_cases h : r.val / 128 = t.val % 4
  · rw [if_pos h, if_pos h]
    exact rd1 m c t R _ j (by show R.val = 128 * t.val + r.val % 128; omega)
  · rw [if_neg h, if_neg h]

/-- The eighth part of the gated product. -/
def eighth (c : Dev nD) (R : Fin 16384) (b : Fin 4) (j : Fin 2048) (q : Fin 8) : EReal :=
  aga m c b j * ∑ p : Fin 1024, term m c R b j ⟨1024 * q + p, by omega⟩

theorem first_at (c : Dev nD) (t : Fin cfg0.N) (h : t.val % 4 = 0) (r : Fin 512) (j : Fin 2048) (R : Fin 16384)
    (hR : R.val = 512 * (t.val / 4) + r) (b : Fin 4) (hb : b.val = t.val / 32) :
    outAt m c t.val (ix2 r j) = eighth m c R b j 0 + eighth m c R b j 1 + if r.val / 128 = 0 then ax m c R j else 0 := by
  rw [outAt_start m c t h]
  refine (resid_at _ _ _ r j).trans ?_
  rw [start_at]
  refine congrArg₂ (· + ·) (congrArg₂ (· + ·) (contrib_at m c t 0 0 (by rw [h]; rfl) r j R hR b hb) (contrib_at m c t 1 1 (by rw [h]; rfl) r j R hR b hb)) ?_
  exact (added_at m c t r j R hR).trans (by rw [h])

theorem later_at (c : Dev nD) (t : Fin cfg0.N) (q q' : Fin 8) (hq : q.val = 2 * (t.val % 4)) (hq' : q'.val = 2 * (t.val % 4) + 1) (o : FVec Ideal S512x2048 .f32) (r : Fin 512) (j : Fin 2048) (R : Fin 16384)
    (hR : R.val = 512 * (t.val / 4) + r) (b : Fin 4) (hb : b.val = t.val / 32) :
    more (F := Ideal) (hidden m c (t.val / 4)) (iblk m c 8 t) (iblk m c 9 t) (iblk m c 10 t) (resid (F := Ideal) (grid0.coords t) o (iblk m c 1 t)) (ix2 r j)
      = o (ix2 r j) + (if r.val / 128 = t.val % 4 then ax m c R j else 0) + eighth m c R b j q + eighth m c R b j q' := by
  refine (more_at _ _ _ _ _ r j).trans ?_
  refine congrArg₂ (· + ·) (congrArg₂ (· + ·) ?_ (contrib_at m c t 0 q hq r j R hR b hb)) (contrib_at m c t 1 q' hq' r j R hR b hb)
  refine (resid_at _ _ _ r j).trans (congrArg (_ + ·) ?_)
  exact added_at m c t r j R hR

/-- The finished sum of a tile, before the last normalisation. -/
theorem tile_at (c : Dev nD) (t : Fin cfg0.N) (h : t.val % 4 = 3) (r : Fin 512) (j : Fin 2048) (R : Fin 16384)
    (hR : R.val = 512 * (t.val / 4) + r) (b : Fin 4) (hb : b.val = t.val / 32) :
    more (F := Ideal) (hidden m c (t.val / 4)) (iblk m c 8 t) (iblk m c 9 t) (iblk m c 10 t) (resid (F := Ideal) (grid0.coords t) (outAt m c (t.val - 1)) (iblk m c 1 t)) (ix2 r j)
      = ax m c R j + ∑ q : Fin 8, eighth m c R b j q := by
  have hN : t.val < 128 := lt_of_lt_of_eq t.isLt (show cfg0.N = 128 from N_0)
  have h0 : (pt (t.val - 3)).val = t.val - 3 := pt_lt _ (by omega)
  have h1 : (pt (t.val - 2)).val = t.val - 2 := pt_lt _ (by omega)
  have h2 : (pt (t.val - 1)).val = t.val - 1 := pt_lt _ (by omega)
  have f0 : outAt m c (t.val - 3) (ix2 r j) = _ := (congrArg (fun n => outAt m c n (ix2 r j)) h0.symm).trans
    (first_at m c (pt (t.val - 3)) (by omega) r j R (by omega) b (by omega))
  have e1 := outAt_more m c (pt (t.val - 2)) (by omega) (by omega)
  have f1 : outAt m c (t.val - 2) (ix2 r j) = _ := (congrFun ((congrArg (outAt m c) h1.symm).trans e1) (ix2 r j)).trans
    (later_at m c (pt (t.val - 2)) 2 3 (by rw [h1]; show 2 = 2 * ((t.val - 2) % 4); omega) (by rw [h1]; show 3 = 2 * ((t.val - 2) % 4) + 1; omega) _ r j R (by omega) b (by omega))
  have e2 := outAt_more m c (pt (t.val - 1)) (by omega) (by omega)
  have f2 : outAt m c (t.val - 1) (ix2 r j) = _ := (congrFun ((congrArg (outAt m c) h2.symm).trans e2) (ix2 r j)).trans
    (later_at m c (pt (t.val - 1)) 4 5 (by rw [h2]; show 4 = 2 * ((t.val - 1) % 4); omega) (by rw [h2]; show 5 = 2 * ((t.val - 1) % 4) + 1; omega) _ r j R (by omega) b (by omega))
  have f3 := later_at m c t 6 7 (by rw [h]; rfl) (by rw [h]; rfl) (outAt m c (t.val - 1)) r j R hR b hb
  rw [f3, f2, show (pt (t.val - 1)).val - 1 = t.val - 2 by omega, f1, show (pt (t.val - 2)).val - 1 = t.val - 3 by omega, f0, h,
    show (pt (t.val - 1)).val % 4 = 2 by omega, show (pt (t.val - 2)).val % 4 = 1 by omega, Fin.sum_univ_eight]
  generalize eighth m c R b j 0 = a0
  generalize eighth m c R b j 1 = a1
  generalize eighth m c R b j 2 = a2
  generalize eighth m c R b j 3 = a3
  generalize eighth m c R b j 4 = a4
  generalize eighth m c R b j 5 = a5
  generalize eighth m c R b j 6 = a6
  generalize eighth m c R b j 7 = a7
  generalize ax m c R j = x
  have hr : r.val / 128 < 4 := by have := r.isLt; omega
  generalize r.val / 128 = w at hr
  interval_cases w <;> simp only [if_true, if_false, reduceIte, Nat.reduceEqDiff, OfNat.zero_ne_ofNat, OfNat.ofNat_ne_zero, zero_ne_one, one_ne_zero, OfNat.one_ne_ofNat, OfNat.ofNat_ne_one, add_zero] <;> ac_rfl

/-- The whole output array. -/
def mlpOut (c : Dev nD) : FVec Ideal S16384x2048 .f32 := fun y =>
  out (ax m c (y 0)) (agn m c) (asc m c ⟨(y 0).val / 4096, Nat.div_lt_of_lt_mul (y 0).isLt⟩) (ash m c ⟨(y 0).val / 4096, Nat.div_lt_of_lt_mul (y 0).isLt⟩)
    (aga m c ⟨(y 0).val / 4096, Nat.div_lt_of_lt_mul (y 0).isLt⟩) (afi m c) (awu m c) (awd m c) (y 1)

/-- Real numbers where the distributive law is used. -/
structure RealArgs (c : Dev nD) : Prop where
  sh : ∀ b k, ∃ v : ℝ, ash m c b k = v
  sc : ∀ b k, ∃ v : ℝ, asc m c b k = v
  ga : ∀ b k, ∃ v : ℝ, aga m c b k = v
  gn : ∀ k, ∃ v : ℝ, agn m c k = v
  wu : ∀ k u, ∃ v : ℝ, awu m c k u = v
  wd : ∀ u k, ∃ v : ℝ, awd m c u k = v

theorem body_at (c : Dev nD) (hr : RealArgs m c) (R : Fin 16384) (b : Fin 4) (j : Fin 2048) :
    ax m c R j + ∑ q : Fin 8, eighth m c R b j q = body (ax m c R) (agn m c) (asc m c b) (ash m c b) (aga m c b) (awu m c) (awd m c) j := by
  refine congrArg (_ + ·) ((gated (aga m c b j) (term m c R b j) (hr.ga b j) fun u => ?_).symm)
  obtain ⟨p, hp⟩ := real_act (hid (ax m c R) (agn m c) (asc m c b) (ash m c b)) (fun k => awu m c k u)
    (real_hid _ _ _ _ hr.gn (hr.sc b) (hr.sh b)) (fun k => hr.wu k u)
  obtain ⟨w, hw⟩ := hr.wd u j
  exact ⟨p * w, by unfold term; rw [hp, hw, EReal.coe_mul]⟩

theorem block_at (c : Dev nD) (hr : RealArgs m c) (t : Fin cfg0.N) (h : t.val % 4 = 3) (r : Fin 512) (j : Fin 2048) (R : Fin 16384)
    (hR : R.val = 512 * (t.val / 4) + r) : outAt m c t.val (ix2 r j) = mlpOut m c (ix2 R j) := by
  have hN : t.val < 128 := lt_of_lt_of_eq t.isLt (show cfg0.N = 128 from N_0)
  rw [outAt_last m c t h]
  refine (pay4_at _ _ r j).trans ?_
  have hb : ∀ p, (⟨R.val / 4096, p⟩ : Fin 4).val = t.val / 32 := fun p => by show R.val / 4096 = t.val / 32; omega
  have e1 := funext fun k => (tile_at m c t h r k R hR ⟨R.val / 4096, Nat.div_lt_of_lt_mul R.isLt⟩ (hb _)).trans (body_at m c hr R _ k)
  have e2 : (fun k => iblk m c 11 t (ix2 0 k)) = afi m c := funext fun k => rd11 m c t k
  exact congr (congr (congrArg fin e1) e2) rfl

theorem final (c : Dev nD) (hr : RealArgs m c) : (dats m 0 c).arrAt 12 (cfgs 0).N = mlpOut m c := by
  refine (dats m 0 c).arrAt_eq_of_covers 12 _ (by decide +kernel) fun t hf y => ?_
  have h3 := (flush0_12 t).mp hf
  blk_simp; rw [after0_12]
  obtain ⟨r, j, rfl⟩ : ∃ (r : Fin 512) (j : Fin 2048), y = ix2 r j := ⟨y 0, y 1, by idx_vars y⟩
  have hN : t.val < 128 := lt_of_lt_of_eq t.isLt (show cfg0.N = 128 from N_0)
  refine (block_at m c hr t h3 r j ⟨512 * (t.val / 4) + r.val, by omega⟩ rfl).trans ?_
  blk_ext [idxA t]

end Cert.Kernel2Ideal.Mlp

end
-- ==== Proof.MlpRef.lean ====
/-
  The last MLP's reference, read at an index.
-/
module

public import proofs.«01_k».proof.Proof.MlpSpec
public import proofs.«01_k».proof.Proof.Gen.Reference2Ideal.Run
public import Idealize.ShloMosaic.Lib.Pipeline.ValueKit

@[expose] public section

set_option maxRecDepth 16384

noncomputable section

namespace Cert.Reference2Ideal.Mlp

open Cert.MlpSpec Cert.Reference2Ideal Cert.Reference2Ideal.Gen Idealize.ShloMosaic Idealize.ShloMosaic.TcCoe Idealize.SL.Sem

/-- The rows, each over the root of its mean square. -/
def unitRows (x : FVec Ideal S4x4096x2048 .f32) : FVec Ideal S4x4096x2048 .f32 :=
  mulf x (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32)))))

/-- A 2048-wide part of the second layer's modulation. -/
abbrev part0 (y : FVec Ideal S2x4x12288 .f32) : FVec Ideal S4x1x2048 .f32 :=
  broadcastInDim S4x1x2048 ![0, 2] bcast_S4x2048_S4x1x2048_0_2 (shapeCast S4x2048 (extractStridedSlice S1x4x2048 ![1, 0, 6144] y slices_S2x4x12288_S1x4x2048_1_0_6144) shapeCasts_S1x4x2048_S4x2048)
abbrev part1 (y : FVec Ideal S2x4x12288 .f32) : FVec Ideal S4x1x2048 .f32 :=
  broadcastInDim S4x1x2048 ![0, 2] bcast_S4x2048_S4x1x2048_0_2 (shapeCast S4x2048 (extractStridedSlice S1x4x2048 ![1, 0, 8192] y slices_S2x4x12288_S1x4x2048_1_0_8192) shapeCasts_S1x4x2048_S4x2048)
abbrev part2 (y : FVec Ideal S2x4x12288 .f32) : FVec Ideal S4x1x2048 .f32 :=
  broadcastInDim S4x1x2048 ![0, 2] bcast_S4x2048_S4x1x2048_0_2 (shapeCast S4x2048 (extractStridedSlice S1x4x2048 ![1, 0, 10240] y slices_S2x4x12288_S1x4x2048_1_0_10240) shapeCasts_S1x4x2048_S4x2048)

/-- The normalised and modulated rows. -/
def modRows (n : FVec Ideal S4x4096x2048 .f32) (y : FVec Ideal S2x4x12288 .f32) (g : FVec Ideal S2x2048 .f32) : FVec Ideal S4x4096x2048 .f32 :=
  addf (mulf (mulf n (broadcastInDim S4x4096x2048 ![0, 1, 2] bcast_S1x1x2048_S4x4096x2048_0_1_2 (broadcastInDim S1x1x2048 ![2] bcast_S2048_S1x1x2048_2
      (shapeCast S2048 (extractStridedSlice S1x2048 ![1, 0] g slices_S2x2048_S1x2048_1_0) shapeCasts_S1x2048_S2048))))
    (broadcastInDim S4x4096x2048 ![0, 1, 2] bcast_S4x1x2048_S4x4096x2048_0_1_2 (addf (broadcastInDim S4x1x2048 ![] bcast_S_S4x1x2048 (constant S_ .f32 0x3F800000#32)) (part1 y))))
    (broadcastInDim S4x4096x2048 ![0, 1, 2] bcast_S4x1x2048_S4x4096x2048_0_1_2 (part0 y))

/-- The up product, rectified. -/
def upRows (h : FVec Ideal S4x4096x2048 .f32) (wu : FVec Ideal S2x2048x8192 .bf16) : FVec Ideal S4x4096x8192 .f32 :=
  maximumf (Host.dotGeneral dot_S4x4096x2048_S2048x8192_S4x4096x8192_2_0_01_1_n_n none h
    (extf .f32 (shapeCast S2048x8192 (extractStridedSlice S1x2048x8192 ![1, 0, 0] wu slices_S2x2048x8192_S1x2048x8192_1_0_0) shapeCasts_S1x2048x8192_S2048x8192) bitsLt_bf16_f32))
    (broadcastInDim S4x4096x8192 ![] bcast_S_S4x4096x8192 (constant S_ .f32 0x00000000#32))

/-- The down product. -/
def downRows (a : FVec Ideal S4x4096x8192 .f32) (wd : FVec Ideal S2x8192x2048 .bf16) : FVec Ideal S4x4096x2048 .f32 :=
  Host.dotGeneral dot_S4x4096x8192_S8192x2048_S4x4096x2048_2_0_01_1_n_n none (mulf a a)
    (extf .f32 (shapeCast S8192x2048 (extractStridedSlice S1x8192x2048 ![1, 0, 0] wd slices_S2x8192x2048_S1x8192x2048_1_0_0) shapeCasts_S1x8192x2048_S8192x2048) bitsLt_bf16_f32)

/-- The residual sum. -/
def sumRows (x d : FVec Ideal S4x4096x2048 .f32) (y : FVec Ideal S2x4x12288 .f32) : FVec Ideal S4x4096x2048 .f32 :=
  addf x (mulf (broadcastInDim S4x4096x2048 ![0, 1, 2] bcast_S4x1x2048_S4x4096x2048_0_1_2 (part2 y)) d)

/-- The last gain. -/
def lastRows (n : FVec Ideal S4x4096x2048 .f32) (f : FVec Ideal S2048 .f32) : FVec Ideal S4x4096x2048 .f32 :=
  mulf n (broadcastInDim S4x4096x2048 ![0, 1, 2] bcast_S1x1x2048_S4x4096x2048_0_1_2 (broadcastInDim S1x1x2048 ![2] bcast_S2048_S1x1x2048_2 f))

abbrev byBatch (x : FVec Ideal S16384x2048 .f32) : FVec Ideal S4x4096x2048 .f32 := shapeCast S4x4096x2048 x shapeCasts_S16384x2048_S4x4096x2048

/-- The whole reference. -/
def mlpRef (x : FVec Ideal S16384x2048 .f32) (y : FVec Ideal S2x4x12288 .f32) (g : FVec Ideal S2x2048 .f32) (wu : FVec Ideal S2x2048x8192 .bf16)
    (wd : FVec Ideal S2x8192x2048 .bf16) (f : FVec Ideal S2048 .f32) : FVec Ideal S16384x2048 .f32 :=
  shapeCast S16384x2048 (lastRows (unitRows (sumRows (byBatch x) (downRows (upRows (modRows (unitRows (byBatch x)) y g) wu) wd) y)) f) shapeCasts_S4x4096x2048_S16384x2048

theorem res_eq (m : (ℓ : Loc nD τ sig) → Buf (Elt Ideal) ℓ) (c : Dev nD) :
    Cert.Reference2Ideal.Value.res_main_v57 m c = mlpRef (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := rfl

theorem unitRows_at (x : FVec Ideal S4x4096x2048 .f32) (b : Fin 4) (t : Fin 4096) (k : Fin 2048) :
    unitRows x (ix3 b t k) = x (ix3 b t k) * scaled (fun k => x (ix3 b t k)) := by
  pointwise [unitRows, scaled]

theorem modRows_at (n : FVec Ideal S4x4096x2048 .f32) (y : FVec Ideal S2x4x12288 .f32) (g : FVec Ideal S2x2048 .f32) (b : Fin 4) (t : Fin 4096) (k : Fin 2048) :
    modRows n y g (ix3 b t k) = n (ix3 b t k) * g (ix2 1 k) * (Ideal.ofBits .f32 0x3F800000#32 + y (ix3 1 b ⟨8192 + k.val, by omega⟩)) + y (ix3 1 b ⟨6144 + k.val, by omega⟩) := by
  pointwise [modRows]

theorem upRows_at (h : FVec Ideal S4x4096x2048 .f32) (wu : FVec Ideal S2x2048x8192 .bf16) (b : Fin 4) (t : Fin 4096) (u : Fin 8192) :
    upRows h wu (ix3 b t u) = max (∑ k : Fin 2048, h (ix3 b t k) * wu (ix3 1 k u)) (Ideal.ofBits .f32 0x00000000#32) := by
  pointwise [upRows]

theorem downRows_at (a : FVec Ideal S4x4096x8192 .f32) (wd : FVec Ideal S2x8192x2048 .bf16) (b : Fin 4) (t : Fin 4096) (j : Fin 2048) :
    downRows a wd (ix3 b t j) = ∑ u : Fin 8192, a (ix3 b t u) * a (ix3 b t u) * wd (ix3 1 u j) := by
  pointwise [downRows]

theorem sumRows_at (x d : FVec Ideal S4x4096x2048 .f32) (y : FVec Ideal S2x4x12288 .f32) (b : Fin 4) (t : Fin 4096) (j : Fin 2048) :
    sumRows x d y (ix3 b t j) = x (ix3 b t j) + y (ix3 1 b ⟨10240 + j.val, by omega⟩) * d (ix3 b t j) := by
  pointwise [sumRows]

theorem lastRows_at (n : FVec Ideal S4x4096x2048 .f32) (f : FVec Ideal S2048 .f32) (b : Fin 4) (t : Fin 4096) (j : Fin 2048) :
    lastRows n f (ix3 b t j) = n (ix3 b t j) * f (ix1 j) := by
  pointwise [lastRows]

theorem byBatch_at (x : FVec Ideal S16384x2048 .f32) (R : Fin 16384) (b : Fin 4) (t : Fin 4096) (k : Fin 2048) (hR : R.val = 4096 * b + t) :
    byBatch x (ix3 b t k) = x (ix2 R k) := by
  unfold byBatch
  pointwise
  exact congrArg (fun R => x (ix2 R k)) (Fin.ext (by show b.val * 4096 + t.val = R.val; omega))

theorem flat_at (z : FVec Ideal S4x4096x2048 .f32) (R : Fin 16384) (b : Fin 4) (t : Fin 4096) (k : Fin 2048) (hR : R.val = 4096 * b + t) :
    shapeCast S16384x2048 z shapeCasts_S4x4096x2048_S16384x2048 (ix2 R k) = z (ix3 b t k) := by
  pointwise
  exact congrArg₂ (fun b t => z (ix3 b t k)) (Fin.ext (by show R.val / 4096 = b.val; omega)) (Fin.ext (by show R.val % 4096 = t.val; omega))

/-- The reference's entry at row `R` of batch `b`. -/
theorem mlpRef_at (x : FVec Ideal S16384x2048 .f32) (y : FVec Ideal S2x4x12288 .f32) (g : FVec Ideal S2x2048 .f32) (wu : FVec Ideal S2x2048x8192 .bf16)
    (wd : FVec Ideal S2x8192x2048 .bf16) (f : FVec Ideal S2048 .f32) (R : Fin 16384) (b : Fin 4) (hb : b.val = R.val / 4096) (j : Fin 2048) :
    mlpRef x y g wu wd f (ix2 R j) = out (fun k => x (ix2 R k)) (fun k => g (ix2 1 k)) (fun k => y (ix3 1 b ⟨8192 + k.val, by omega⟩))
      (fun k => y (ix3 1 b ⟨6144 + k.val, by omega⟩)) (fun k => y (ix3 1 b ⟨10240 + k.val, by omega⟩)) (fun k => f (ix1 k))
      (fun k u => wu (ix3 1 k u)) (fun u k => wd (ix3 1 u k)) j := by
  have hR : R.val = 4096 * b + (⟨R.val % 4096, Nat.mod_lt _ (by decide)⟩ : Fin 4096) := by show R.val = 4096 * b.val + R.val % 4096; omega
  unfold mlpRef
  rw [flat_at _ R b _ j hR, lastRows_at, unitRows_at]
  simp only [sumRows_at, downRows_at, upRows_at, modRows_at, unitRows_at, byBatch_at x R b _ _ hR]
  rfl

end Cert.Reference2Ideal.Mlp

end
-- ==== Proof.MlpFinite.lean ====
/-
  What the precondition gives: the modulation, the gain and the weights are real numbers.
-/
module

public import proofs.«01_k».proof.Proof.Finite
public import proofs.«01_k».proof.Pre_finite_layer
public import Idealize.ShloMosaic.Lib.Pipeline.ValueKit
public import Idealize.ShloMosaic.Lib.ReduceAll

@[expose] public section

set_option maxRecDepth 16384

noncomputable section

namespace Cert.Pre_finite_layer

open Idealize.ShloMosaic
open Cert.Pre_finite_logits (real_of_lt)

instance facts : Facts where
  slices_S2x4x12288_S1x4x6144_1_0_6144 := by decide +kernel
  shapeCasts_S1x4x6144_S4x6144 := by decide +kernel
  bcast_S_S4x6144 := by decide +kernel
  reducesTo_S4x6144_S_d0_1 := by decide +kernel
  h_S_ := by decide
  slices_S2x2048_S1x2048_1_0 := by decide +kernel
  shapeCasts_S1x2048_S2048 := by decide +kernel
  bcast_S_S2048 := by decide +kernel
  reducesTo_S2048_S_d0 := by decide +kernel
  slices_S2x2048x8192_S1x2048x8192_1_0_0 := by decide +kernel
  shapeCasts_S1x2048x8192_S2048x8192 := by decide +kernel
  bitsLt_bf16_f32 := by decide
  bcast_S_S2048x8192 := by decide +kernel
  reducesTo_S2048x8192_S_d0_1 := by decide +kernel
  slices_S2x8192x2048_S1x8192x2048_1_0_0 := by decide +kernel
  shapeCasts_S1x8192x2048_S8192x2048 := by decide +kernel
  bcast_S_S8192x2048 := by decide +kernel
  reducesTo_S8192x2048_S_d0_1 := by decide +kernel

theorem real_of_fn (x : FVec Ideal S16384x2048 .f32) (y : FVec Ideal S2x4x12288 .f32) (g : FVec Ideal S2x2048 .f32)
    (wu : FVec Ideal S2x2048x8192 .bf16) (wd : FVec Ideal S2x8192x2048 .bf16) (f : FVec Ideal S2048 .f32)
    (h : fn (F := Ideal) x y g wu wd f = fun _ => 1#1) :
    (∀ (b : Fin 4) (k : Fin 6144), ∃ v : ℝ, y (ix3 1 b ⟨6144 + k.val, by omega⟩) = v) ∧ (∀ k : Fin 2048, ∃ v : ℝ, g (ix2 1 k) = v)
      ∧ (∀ (k : Fin 2048) (u : Fin 8192), ∃ v : ℝ, wu (ix3 1 k u) = v) ∧ ∀ (u : Fin 8192) (k : Fin 2048), ∃ v : ℝ, wd (ix3 1 u k) = v := by
  have h0 := congrFun h ix0
  obtain ⟨h123, h4⟩ := IntOp.andi_eq_one.1 h0
  obtain ⟨h12, h3⟩ := IntOp.andi_eq_one.1 h123
  obtain ⟨h1, h2⟩ := IntOp.andi_eq_one.1 h12
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨fun b k => ?_, fun k => ?_, fun k u => ?_, fun u k => ?_⟩
  · obtain ⟨v, hv⟩ := real_of_lt _ (h1 (ix2 b k))
    refine ⟨v, Eq.trans ?_ hv⟩
    pointwise
  · obtain ⟨v, hv⟩ := real_of_lt _ (h2 (ix1 k))
    refine ⟨v, Eq.trans ?_ hv⟩
    pointwise
  · obtain ⟨v, hv⟩ := real_of_lt _ (h3 (ix2 k u))
    refine ⟨v, Eq.trans ?_ hv⟩
    pointwise
  · obtain ⟨v, hv⟩ := real_of_lt _ (h4 (ix2 u k))
    refine ⟨v, Eq.trans ?_ hv⟩
    pointwise

end Cert.Pre_finite_layer

end
-- ==== Proof.FirstConds.lean ====
/-
The first MLP's kernel: which branches its body takes at each grid point, when the output block is
first met, and short names for the staging buffers and the scratch.  Grid point `t` is row tile
`t / 4`, slice `t % 4`.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 128 = 0)

abbrev cond0_1 (i : grid0.Coords) : Prop := k0_cond2 i = 1#1
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

abbrev cond0_2 (i : grid0.Coords) : Prop := k0_cond3 i = 1#1
theorem hcond0_2 : ∀ t : Fin cfg0.N, cond0_2 (grid0.coords t) ↔ 1 ≤ t.val % 4 :=
  (by decide +kernel : ∀ t : Fin grid0.N, cond0_2 (grid0.coords t) ↔ 1 ≤ t.val % 4)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl

abbrev conds0_A (i : grid0.Coords) : Prop := cond0_0 i ∧ cond0_1 i ∧ ¬cond0_2 i
instance conds0_A.dec (i : grid0.Coords) : Decidable (conds0_A i) :=
  @instDecidableAnd _ _ inferInstance (@instDecidableAnd _ _ inferInstance inferInstance)
abbrev conds0_B (i : grid0.Coords) : Prop := ¬cond0_0 i ∧ ¬cond0_1 i ∧ cond0_2 i
instance conds0_B.dec (i : grid0.Coords) : Decidable (conds0_B i) :=
  @instDecidableAnd _ _ inferInstance (@instDecidableAnd _ _ inferInstance inferInstance)
abbrev conds0_D (i : grid0.Coords) : Prop := ¬cond0_0 i ∧ cond0_1 i ∧ ¬cond0_2 i
instance conds0_D.dec (i : grid0.Coords) : Decidable (conds0_D i) :=
  @instDecidableAnd _ _ inferInstance (@instDecidableAnd _ _ inferInstance inferInstance)
def freshTab0_12 : ℕ → Bool
  | 0 => true
  | n + 1 => (0x88888888888888888888888888888888 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → cond0_1 (grid0.coords t) → ¬cond0_2 (grid0.coords t) → cfg0.idle 12 (grid0.coords t) = false :=
  fun t h0 h1 h2 => (by decide +kernel : ∀ t : Fin cfg0.N, conds0_A (grid0.coords t) → cfg0.idle 12 (grid0.coords t) = false) t ⟨h0, h1, h2⟩
theorem liveAt0_12_B : ∀ t : Fin cfg0.N, ¬cond0_0 (grid0.coords t) → ¬cond0_1 (grid0.coords t) → cond0_2 (grid0.coords t) → cfg0.idle 12 (grid0.coords t) = false :=
  fun t h0 h1 h2 => (by decide +kernel : ∀ t : Fin cfg0.N, conds0_B (grid0.coords t) → cfg0.idle 12 (grid0.coords t) = false) t ⟨h0, h1, h2⟩
theorem notFresh0_12_B : ∀ t : Fin cfg0.N, ¬cond0_0 (grid0.coords t) → ¬cond0_1 (grid0.coords t) → cond0_2 (grid0.coords t) → cfg0.fresh 12 t.val = false :=
  fun t h0 h1 h2 => (by intro t; rw [fresh0_12_eq t]; revert t; decide +kernel : ∀ t : Fin cfg0.N, conds0_B (grid0.coords t) → cfg0.fresh 12 t.val = false) t ⟨h0, h1, h2⟩
theorem liveAt0_12_D : ∀ t : Fin cfg0.N, ¬cond0_0 (grid0.coords t) → cond0_1 (grid0.coords t) → ¬cond0_2 (grid0.coords t) → cfg0.idle 12 (grid0.coords t) = false :=
  fun t h0 h1 h2 => (by decide +kernel : ∀ t : Fin cfg0.N, conds0_D (grid0.coords t) → cfg0.idle 12 (grid0.coords t) = false) t ⟨h0, h1, h2⟩

abbrev VO0_12 : View sig .tc .vmem S512x2048 .f32 := (Memref.whole cc0_stg12_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1x1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x2048 .f32 := win0_12.stage (cfg0.slots t 12)
abbrev hs0_12 (t : Fin cfg0.N) : (ms0_12 t).IsWhole := hstage0_12 ((cfg0.slots t 12).cast nbuf0_12)
abbrev scM0_0 : Memref sig .tc .vmem S2x512x2048 .bf16 := Memref.whole cc0_scratch0
abbrev VS0_0 : View sig .tc .vmem S2x512x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The slot of the scratch that a tile reads: the parity of the tile's number. -/
theorem off1_eq (i : grid0.Coords) : k0_off1 i = ![(i 0).val % 2, 0, 0] := by revert i; decide +kernel
/-- The rows of the other slot that a point fills for the next tile. -/
theorem off2_eq (i : grid0.Coords) : k0_off2 i = ![1 - (i 0).val % 2, 128 * (i 1).val, 0] := by revert i; decide +kernel
/-- As `off1_eq`, at the later slices. -/
theorem off5_eq (i : grid0.Coords) : k0_off5 i = ![(i 0).val % 2, 0, 0] := by revert i; decide +kernel
/-- As `off2_eq`, at the later slices. -/
theorem off6_eq (i : grid0.Coords) : k0_off6 i = ![1 - (i 0).val % 2, 128 * (i 1).val, 0] := by revert i; decide +kernel

instance closed1 (i : grid0.Coords) : ClosedOff (k0_off1 i) := ⟨![(i 0).val % 2, 0, 0], off1_eq i⟩
instance closed2 (i : grid0.Coords) : ClosedOff (k0_off2 i) := ⟨![1 - (i 0).val % 2, 128 * (i 1).val, 0], off2_eq i⟩
instance closed5 (i : grid0.Coords) : ClosedOff (k0_off5 i) := ⟨![(i 0).val % 2, 0, 0], off5_eq i⟩
instance closed6 (i : grid0.Coords) : ClosedOff (k0_off6 i) := ⟨![1 - (i 0).val % 2, 128 * (i 1).val, 0], off6_eq i⟩

end Cert.Kernel3Ideal.Mlp

end
-- ==== Proof.FirstStep.lean ====
/-
What one grid point of the first MLP's kernel does to the output block and to the scratch, in the
body's own arithmetic.
-/
module

public import proofs.«01_k».proof.Proof.FirstConds
public import Idealize.ShloMosaic.Lib.Pipeline.ValueKit
public import Idealize.ShloMosaic.Lib.VecWindow

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A slot of the scratch, as the body reads it: the rows of the current row tile. -/
def slot (i : grid0.Coords) (xs : Vec F S2x512x2048 .bf16) : Vec F S1x512x2048 .bf16 :=
  fun y => xs (ix3 ⟨(i 0).val % 2, Nat.mod_lt _ (by decide)⟩ (y 1) (y 2))

/-- The scratch after 128 rows of the other slot have been replaced by `w`. -/
def upd (i : grid0.Coords) (xs : Vec F S2x512x2048 .bf16) (w : Vec F S1x128x2048 .bf16) : Vec F S2x512x2048 .bf16 :=
  VecWindow.put xs ![1 - (i 0).val % 2, 128 * (i 1).val, 0] ![1, 128, 2048] w

/-- The scratch after its first slot has been replaced by `w`. -/
def first (xs : Vec F S2x512x2048 .bf16) (w : Vec F S1x512x2048 .bf16) : Vec F S2x512x2048 .bf16 :=
  VecWindow.put xs ![0, 0, 0] ![1, 512, 2048] w

/-- The output block after the residual rows `x1` have been added at the point's 128 rows. -/
def resid (i : grid0.Coords) (o : Vec F S512x2048 .f32) (x1 : Vec F S128x2048 .f32) : Vec F S512x2048 .f32 :=
  VecWindow.put o ![128 * (i 1).val, 0] ![128, 2048]
    (k0_pay3 (fun z => o (ix2 ⟨(128 * (i 1).val + (z 0).val) % 512, Nat.mod_lt _ (by decide)⟩ (z 1))) x1)

/-- A quarter of the up weights' columns. -/
abbrev up0 (x9 : Vec F S1x2048x2048 .bf16) := View.ld x9 (Rect.unit (s := S1x2048x2048) ![0, 0, 0] S1x2048x512.size inb_S1x2048x2048_S1x2048x512_0_0_0)
abbrev up1 (x9 : Vec F S1x2048x2048 .bf16) := View.ld x9 (Rect.unit (s := S1x2048x2048) ![0, 0, 512] S1x2048x512.size inb_S1x2048x2048_S1x2048x512_0_0_512)
abbrev up2 (x9 : Vec F S1x2048x2048 .bf16) := View.ld x9 (Rect.unit (s := S1x2048x2048) ![0, 0, 1024] S1x2048x512.size inb_S1x2048x2048_S1x2048x512_0_0_1024)
abbrev up3 (x9 : Vec F S1x2048x2048 .bf16) := View.ld x9 (Rect.unit (s := S1x2048x2048) ![0, 0, 1536] S1x2048x512.size inb_S1x2048x2048_S1x2048x512_0_0_1536)
/-- A half of the down weights' rows. -/
abbrev down0 (x10 : Vec F S1x2048x2048 .bf16) := View.ld x10 (Rect.unit (s := S1x2048x2048) ![0, 0, 0] S1x1024x2048.size inb_S1x2048x2048_S1x1024x2048_0_0_0)
abbrev down1 (x10 : Vec F S1x2048x2048 .bf16) := View.ld x10 (Rect.unit (s := S1x2048x2048) ![0, 1024, 0] S1x1024x2048.size inb_S1x2048x2048_S1x1024x2048_0_1024_0)

/-- The first slice's contribution, which starts the output block. -/
def start (h : Vec F S1x512x2048 .bf16) (x8 : Vec F S1x1x1x1x2048 .f32) (x9 x10 : Vec F S1x2048x2048 .bf16) : Vec F S512x2048 .f32 :=
  k0_pay2 (k0_pay8 h (up2 x9)) k0_pay9 h (up3 x9) x8 (down1 x10) (k0_pay7 (k0_pay4 h (up0 x9)) h (up1 x9) x8 (down0 x10))

/-- A later slice's contribution, added to the output block `o`. -/
def more (h : Vec F S1x512x2048 .bf16) (x8 : Vec F S1x1x1x1x2048 .f32) (x9 x10 : Vec F S1x2048x2048 .bf16) (o : Vec F S512x2048 .f32) : Vec F S512x2048 .f32 :=
  k0_pay18 h (up2 x9) h (up3 x9) x8 (down1 x10) (k0_pay17 (k0_pay11 h (up0 x9)) h (up1 x9) x8 (down0 x10) o)

/-- The normalised and modulated rows a point prepares for the next tile. -/
def prep (x2 : Vec F S128x2048 .f32) (x3 : Vec F S1x2048 .f32) (x6 x7 : Vec F S1x1x1x1x2048 .f32) : Vec F S1x128x2048 .bf16 :=
  k0_pay6 (k0_pay5 x2 x3 x6 x7)

theorem prep_eq (x2 : Vec F S128x2048 .f32) (x3 : Vec F S1x2048 .f32) (x6 x7 : Vec F S1x1x1x1x2048 .f32) :
    k0_pay16 x2 (k0_pay12 x3) (k0_pay13 x6) (k0_pay14 x7) (k0_pay15 x2) = prep x2 x3 x6 x7 := rfl

theorem ld_slot {off : Fin 3 → ℕ} (i : grid0.Coords) (h : off = ![(i 0).val % 2, 0, 0])
    (inb : ∀ a, off a + S1x512x2048.size a ≤ S2x512x2048.size a) (xs : Vec F S2x512x2048 .bf16) :
    View.ld xs (Rect.unit (s := S2x512x2048) off S1x512x2048.size inb) = slot i xs := by
  subst h
  funext y
  refine congrArg xs (funext fun a => Fin.ext ?_)
  have h0 : (y 0).val = 0 := by have := (y 0).isLt; change (y 0).val < 1 at this; omega
  refine (Rect.idx_unit_val ..).trans ?_
  fin_cases a
  · show (i 0).val % 2 + (y 0).val = _; rw [h0]; rfl
  · show 0 + (y 1).val = _; rw [Nat.zero_add]; rfl
  · show 0 + (y 2).val = _; rw [Nat.zero_add]; rfl

theorem slot_upd (i : grid0.Coords) (xs : Vec F S2x512x2048 .bf16) (w : Vec F S1x128x2048 .bf16) :
    slot i (upd i xs w) = slot i xs := by
  funext y
  unfold slot upd VecWindow.put
  refine dif_neg fun h => ?_
  have h0 := h 0
  change 1 - (i 0).val % 2 ≤ (i 0).val % 2 ∧ (i 0).val % 2 < 1 - (i 0).val % 2 + 1 at h0
  omega

theorem slot_first (i : grid0.Coords) (hz : (i 0).val = 0) (xs : Vec F S2x512x2048 .bf16) (w : Vec F S1x512x2048 .bf16) :
    slot i (first xs w) = w := by
  funext y
  unfold slot first VecWindow.put
  have h1 : (y 0).val = 0 := by have := (y 0).isLt; change (y 0).val < 1 at this; omega
  refine (dif_pos fun a => ?_).trans (congrArg w (funext fun a => Fin.ext ?_))
  · fin_cases a
    · show 0 ≤ (i 0).val % 2 ∧ (i 0).val % 2 < 0 + 1; omega
    · exact ⟨Nat.zero_le _, by show (y 1).val < 0 + 512; have := (y 1).isLt; change (y 1).val < 512 at this; omega⟩
    · exact ⟨Nat.zero_le _, by show (y 2).val < 0 + 2048; have := (y 2).isLt; change (y 2).val < 2048 at this; omega⟩
  · rw [Rect.unitLocal_val]
    fin_cases a
    · show (i 0).val % 2 - 0 = (y 0).val; omega
    · rfl
    · rfl

theorem ld_rows {off : Fin 2 → ℕ} (i : grid0.Coords) (h : off = ![128 * (i 1).val, 0])
    (inb : ∀ a, off a + S128x2048.size a ≤ S512x2048.size a) (o : Vec F S512x2048 .f32) :
    View.ld o (Rect.unit (s := S512x2048) off S128x2048.size inb)
      = fun z => o (ix2 ⟨(128 * (i 1).val + (z 0).val) % 512, Nat.mod_lt _ (by decide)⟩ (z 1)) := by
  subst h
  funext y
  refine congrArg o (funext fun a => Fin.ext ?_)
  have h0 : (y 0).val < 128 := (y 0).isLt
  have h1 : (i 1).val < 4 := (i 1).isLt
  refine (Rect.idx_unit_val ..).trans ?_
  fin_cases a
  · show 128 * (i 1).val + (y 0).val = (128 * (i 1).val + (y 0).val) % 512; omega
  · show 0 + (y 1).val = _; rw [Nat.zero_add]; rfl

theorem upd_eq {off : Fin 3 → ℕ} (i : grid0.Coords) (h : off = ![1 - (i 0).val % 2, 128 * (i 1).val, 0])
    (v : View sig .tc .vmem S2x512x2048 .bf16) (f) (inb : ∀ a, off a + S1x128x2048.size a ≤ S2x512x2048.size a)
    (w : Vec F S1x128x2048 .bf16) (L : List (View.Piece (Elt F) S2x512x2048 .bf16)) :
    v.read (Elt F) (v.writes (Elt F) f (⟨Rect.unit (s := S2x512x2048) off S1x128x2048.size inb, w⟩ :: L))
      = upd i (v.read (Elt F) (v.writes (Elt F) f L)) w :=
  View.read_writes_cons_put v f inb w L h

theorem first_eq (v : View sig .tc .vmem S2x512x2048 .bf16) (f) (w : Vec F S1x512x2048 .bf16) :
    v.read (Elt F) (v.writes (Elt F) f [⟨Rect.unit (s := S2x512x2048) ![0, 0, 0] S1x512x2048.size inb_S2x512x2048_S1x512x2048_0_0_0, w⟩])
      = first (v.read (Elt F) f) w :=
  (View.read_writes_cons_put v f _ w [] rfl).trans rfl

theorem resid_eq {off : Fin 2 → ℕ} (i : grid0.Coords) (h : off = ![128 * (i 1).val, 0])
    (v : View sig .tc .vmem S512x2048 .f32) (f) (inb : ∀ a, off a + S128x2048.size a ≤ S512x2048.size a)
    (x1 : Vec F S128x2048 .f32) (L : List (View.Piece (Elt F) S512x2048 .f32)) (o : Vec F S512x2048 .f32)
    (ho : v.read (Elt F) (v.writes (Elt F) f L) = o) :
    v.read (Elt F) (v.writes (Elt F) f (⟨Rect.unit (s := S512x2048) off S128x2048.size inb,
        k0_pay3 (View.ld o (Rect.unit (s := S512x2048) off S128x2048.size inb)) x1⟩ :: L)) = resid i o x1 := by
  rw [ld_rows i h inb o]
  exact (View.read_writes_cons_put v f inb _ L h).trans (by rw [ho]; rfl)

theorem canon_resid {off : Fin 2 → ℕ} (i : grid0.Coords) (h : off = ![128 * (i 1).val, 0])
    (inb : ∀ a, off a + S128x2048.size a ≤ S512x2048.size a)
    (x1 : Vec F S128x2048 .f32) (L : List (View.Piece (Elt F) S512x2048 .f32)) (o : Vec F S512x2048 .f32) :
    View.canon (⟨Rect.unit (s := S512x2048) off S128x2048.size inb,
        k0_pay3 (View.ld o (Rect.unit (s := S512x2048) off S128x2048.size inb)) x1⟩
      :: ⟨Rect.unit (s := S512x2048) ![0, 0] S512x2048.size inb_S512x2048_S512x2048_0_0, o⟩ :: L) = resid i o x1 := by
  rw [← View.read_writes_junk_eq_canon VO0_12]
  exact resid_eq i h _ _ inb x1 _ o (View.read_writes_full _ _ _ _ _)

end Cert.Kernel3Ideal.Mlp

end
-- ==== Proof.FirstPay.lean ====
/-
  The first MLP's payloads, read at an index.
-/
module

public import proofs.«01_k».proof.Proof.MlpSpec
public import proofs.«01_k».proof.Proof.FirstStep
public import Idealize.ShloMosaic.Lib.Pipeline.ValueKit

@[expose] public section

set_option maxRecDepth 16384

noncomputable section

namespace Cert.Kernel3Ideal.Mlp

open Cert.MlpSpec Cert.Kernel3Ideal Cert.Kernel3Ideal.Gen Idealize.ShloMosaic Idealize.ShloMosaic.TcCoe

theorem pay1_at (x : FVec Ideal S512x2048 .f32) (g : FVec Ideal S1x2048 .f32) (a b : FVec Ideal S1x1x1x1x2048 .f32) (r : Fin 512) (k : Fin 2048) :
    k0_pay1 (F := Ideal) x g a b (ix3 0 r k)
      = hid (fun k => x (ix2 r k)) (fun k => g (ix2 0 k)) (fun k => b (ix5 0 0 0 0 k)) (fun k => a (ix5 0 0 0 0 k)) k := by
  pointwise [k0_pay1, hid, scaled]

theorem prep_at (x : FVec Ideal S128x2048 .f32) (g : FVec Ideal S1x2048 .f32) (a b : FVec Ideal S1x1x1x1x2048 .f32) (r : Fin 128) (k : Fin 2048) :
    prep (F := Ideal) x g a b (ix3 0 r k)
      = hid (fun k => x (ix2 r k)) (fun k => g (ix2 0 k)) (fun k => b (ix5 0 0 0 0 k)) (fun k => a (ix5 0 0 0 0 k)) k := by
  pointwise [prep, k0_pay5, k0_pay6, hid, scaled]

/-- The hidden rows a half of a slice gives: two products side by side, each rectified. -/
def pairUp (h : FVec Ideal S1x512x2048 .bf16) (a b : FVec Ideal S1x2048x512 .bf16) : FVec Ideal S512x1024 .f32 :=
  concatenate S512x1024 1 [⟨S512x512, k0_pay4 (F := Ideal) h a⟩, ⟨S512x512, k0_pay4 (F := Ideal) h b⟩] concatenates_S512x512_S512x512_S512x1024_d1

/-- The gated product of a half of a slice. -/
def half (h : FVec Ideal S1x512x2048 .bf16) (a b : FVec Ideal S1x2048x512 .bf16) (ga : FVec Ideal S1x1x1x1x2048 .f32)
    (d : FVec Ideal S1x1024x2048 .bf16) : FVec Ideal S512x2048 .f32 :=
  k0_pay7 (F := Ideal) (k0_pay4 (F := Ideal) h a) h b ga d

theorem up_half_at (h : FVec Ideal S1x512x2048 .bf16) (a : FVec Ideal S1x2048x512 .bf16) (r : Fin 512) (q : Fin 512) :
    k0_pay4 (F := Ideal) h a (ix2 r q) = max (∑ k : Fin 2048, h (ix3 0 r k) * a (ix3 0 k q)) (Ideal.ofBits .f32 0x00000000#32) := by
  pointwise [k0_pay4]

theorem pairUp_at (h : FVec Ideal S1x512x2048 .bf16) (a b : FVec Ideal S1x2048x512 .bf16) (r : Fin 512) (p : Fin 1024) :
    pairUp h a b (ix2 r p) = if hp : p.val < 512 then k0_pay4 (F := Ideal) h a (ix2 r ⟨p, hp⟩) else k0_pay4 (F := Ideal) h b (ix2 r ⟨p.val - 512, by omega⟩) := by
  unfold pairUp
  generalize k0_pay4 (F := Ideal) h a = A
  generalize k0_pay4 (F := Ideal) h b = B
  pointwise

theorem half_eq (h : FVec Ideal S1x512x2048 .bf16) (a b : FVec Ideal S1x2048x512 .bf16) (ga : FVec Ideal S1x1x1x1x2048 .f32)
    (d : FVec Ideal S1x1024x2048 .bf16) (r : Fin 512) (j : Fin 2048) :
    half h a b ga d (ix2 r j) = ga (ix5 0 0 0 0 j) * ∑ p : Fin 1024, pairUp h a b (ix2 r p) * pairUp h a b (ix2 r p) * d (ix3 0 p j) := by
  have e : half h a b ga d = mulf (broadcastTo S512x2048 (shapeCast S1x2048 ga shapeCasts_S1x1x1x1x2048_S1x2048) broadcasts_S1x2048_S512x2048)
    (matmul dot_S512x1024_S1024x2048_S512x2048_1_0_0_1_n_n none (truncf .bf16 (mulf (pairUp h a b) (pairUp h a b)) bitsLt_bf16_f32)
      (shapeCast S1024x2048 d shapeCasts_S1x1024x2048_S1024x2048) (constant S512x2048 .f32 0x00000000#32)) := rfl
  rw [e]
  generalize pairUp h a b = P
  pointwise

theorem start_eq (h : FVec Ideal S1x512x2048 .bf16) (x8 : FVec Ideal S1x1x1x1x2048 .f32) (x9 x10 : FVec Ideal S1x2048x2048 .bf16) :
    start (F := Ideal) h x8 x9 x10 = addf (half h (up0 (F := Ideal) x9) (up1 (F := Ideal) x9) x8 (down0 (F := Ideal) x10)) (half h (up2 (F := Ideal) x9) (up3 (F := Ideal) x9) x8 (down1 (F := Ideal) x10)) := by
  have e : start (F := Ideal) h x8 x9 x10 = addf (shapeCast S512x2048 (half h (up0 (F := Ideal) x9) (up1 (F := Ideal) x9) x8 (down0 (F := Ideal) x10)) shapeCasts_S512x2048_S512x2048) (half h (up2 (F := Ideal) x9) (up3 (F := Ideal) x9) x8 (down1 (F := Ideal) x10)) := rfl
  rw [e, shapeCast_self]

theorem more_eq (h : FVec Ideal S1x512x2048 .bf16) (x8 : FVec Ideal S1x1x1x1x2048 .f32) (x9 x10 : FVec Ideal S1x2048x2048 .bf16) (o : FVec Ideal S512x2048 .f32) :
    more (F := Ideal) h x8 x9 x10 o = addf (addf o (half h (up0 (F := Ideal) x9) (up1 (F := Ideal) x9) x8 (down0 (F := Ideal) x10))) (half h (up2 (F := Ideal) x9) (up3 (F := Ideal) x9) x8 (down1 (F := Ideal) x10)) := by
  have e : more (F := Ideal) h x8 x9 x10 o = addf (shapeCast S512x2048 (addf (shapeCast S512x2048 o shapeCasts_S512x2048_S512x2048) (half h (up0 (F := Ideal) x9) (up1 (F := Ideal) x9) x8 (down0 (F := Ideal) x10))) shapeCasts_S512x2048_S512x2048) (half h (up2 (F := Ideal) x9) (up3 (F := Ideal) x9) x8 (down1 (F := Ideal) x10)) := rfl
  rw [e, shapeCast_self, shapeCast_self]

/-- What half `n` of a slice contributes to an output entry. -/
def contrib (h : FVec Ideal S1x512x2048 .bf16) (x8 : FVec Ideal S1x1x1x1x2048 .f32) (x9 x10 : FVec Ideal S1x2048x2048 .bf16)
    (n : Fin 2) (r : Fin 512) (j : Fin 2048) : EReal :=
  x8 (ix5 0 0 0 0 j) * ∑ p : Fin 1024, act (fun k => h (ix3 0 r k)) (fun k => x9 (ix3 0 k ⟨1024 * n + p, by omega⟩))
    * x10 (ix3 0 ⟨1024 * n + p, by omega⟩ j)

theorem up_at (x9 : FVec Ideal S1x2048x2048 .bf16) (o : ℕ) (inb : ∀ a, (![0, 0, o] : Fin 3 → ℕ) a + S1x2048x512.size a ≤ S1x2048x2048.size a)
    (k : Fin 2048) (q : Fin 512) (u : Fin 2048) (hu : u.val = o + q) :
    View.ld (Val := Elt Ideal) (e' := .bf16) x9 (Rect.unit (s := S1x2048x2048) ![0, 0, o] S1x2048x512.size inb) (ix3 0 k q) = x9 (ix3 0 k u) := by
  refine congrArg x9 (funext fun a => Fin.ext ?_)
  refine (Rect.idx_unit_val ..).trans ?_
  fin_cases a
  · rfl
  · show 0 + k.val = k.val; omega
  · show o + q.val = u.val; omega

theorem down_at (x10 : FVec Ideal S1x2048x2048 .bf16) (o : ℕ) (inb : ∀ a, (![0, o, 0] : Fin 3 → ℕ) a + S1x1024x2048.size a ≤ S1x2048x2048.size a)
    (p : Fin 1024) (j : Fin 2048) (u : Fin 2048) (hu : u.val = o + p) :
    View.ld (Val := Elt Ideal) (e' := .bf16) x10 (Rect.unit (s := S1x2048x2048) ![0, o, 0] S1x1024x2048.size inb) (ix3 0 p j) = x10 (ix3 0 u j) := by
  refine congrArg x10 (funext fun a => Fin.ext ?_)
  refine (Rect.idx_unit_val ..).trans ?_
  fin_cases a
  · rfl
  · show o + p.val = u.val; omega
  · show 0 + j.val = j.val; omega

theorem half0_at (h : FVec Ideal S1x512x2048 .bf16) (x8 : FVec Ideal S1x1x1x1x2048 .f32) (x9 x10 : FVec Ideal S1x2048x2048 .bf16) (r : Fin 512) (j : Fin 2048) :
    half h (up0 (F := Ideal) x9) (up1 (F := Ideal) x9) x8 (down0 (F := Ideal) x10) (ix2 r j) = contrib h x8 x9 x10 0 r j := by
  rw [half_eq]
  unfold contrib
  refine congrArg (_ * ·) (Finset.sum_congr rfl fun p _ => congrArg₂ (· * ·) ?_ ?_)
  · have e : pairUp h (up0 (F := Ideal) x9) (up1 (F := Ideal) x9) (ix2 r p)
        = max (∑ k : Fin 2048, h (ix3 0 r k) * x9 (ix3 0 k ⟨1024 * (0 : Fin 2) + p, by omega⟩)) (Ideal.ofBits .f32 0x00000000#32) := by
      rw [pairUp_at]
      split
      · rw [up_half_at]
        refine congrArg (max · _) (Finset.sum_congr rfl fun k _ => congrArg (_ * ·) ?_)
        exact up_at _ 0 _ _ _ _ (by show 1024 * 0 + p.val = 0 + p.val; omega)
      · rw [up_half_at]
        refine congrArg (max · _) (Finset.sum_congr rfl fun k _ => congrArg (_ * ·) ?_)
        exact up_at _ 512 _ _ _ _ (by show 1024 * 0 + p.val = 512 + (p.val - 512); omega)
    rw [e]; rfl
  · exact down_at _ 0 _ _ _ _ (by show 1024 * 0 + p.val = _; omega)

theorem half1_at (h : FVec Ideal S1x512x2048 .bf16) (x8 : FVec Ideal S1x1x1x1x2048 .f32) (x9 x10 : FVec Ideal S1x2048x2048 .bf16) (r : Fin 512) (j : Fin 2048) :
    half h (up2 (F := Ideal) x9) (up3 (F := Ideal) x9) x8 (down1 (F := Ideal) x10) (ix2 r j) = contrib h x8 x9 x10 1 r j := by
  rw [half_eq]
  unfold contrib
  refine congrArg (_ * ·) (Finset.sum_congr rfl fun p _ => congrArg₂ (· * ·) ?_ ?_)
  · have e : pairUp h (up2 (F := Ideal) x9) (up3 (F := Ideal) x9) (ix2 r p)
        = max (∑ k : Fin 2048, h (ix3 0 r k) * x9 (ix3 0 k ⟨1024 * (1 : Fin 2) + p, by omega⟩)) (Ideal.ofBits .f32 0x00000000#32) := by
      rw [pairUp_at]
      split
      · rw [up_half_at]
        refine congrArg (max · _) (Finset.sum_congr rfl fun k _ => congrArg (_ * ·) ?_)
        exact up_at _ 1024 _ _ _ _ (by show 1024 * 1 + p.val = 1024 + p.val; omega)
      · rw [up_half_at]
        refine congrArg (max · _) (Finset.sum_congr rfl fun k _ => congrArg (_ * ·) ?_)
        exact up_at _ 1536 _ _ _ _ (by show 1024 * 1 + p.val = 1536 + (p.val - 512); omega)
    rw [e]; rfl
  · exact down_at _ 1024 _ _ _ _ (by show 1024 * 1 + p.val = _; omega)

theorem start_at (h : FVec Ideal S1x512x2048 .bf16) (x8 : FVec Ideal S1x1x1x1x2048 .f32) (x9 x10 : FVec Ideal S1x2048x2048 .bf16) (r : Fin 512) (j : Fin 2048) :
    start (F := Ideal) h x8 x9 x10 (ix2 r j) = contrib h x8 x9 x10 0 r j + contrib h x8 x9 x10 1 r j := by
  rw [start_eq, ← half0_at, ← half1_at]; rfl

theorem more_at (h : FVec Ideal S1x512x2048 .bf16) (x8 : FVec Ideal S1x1x1x1x2048 .f32) (x9 x10 : FVec Ideal S1x2048x2048 .bf16) (o : FVec Ideal S512x2048 .f32)
    (r : Fin 512) (j : Fin 2048) :
    more (F := Ideal) h x8 x9 x10 o (ix2 r j) = o (ix2 r j) + contrib h x8 x9 x10 0 r j + contrib h x8 x9 x10 1 r j := by
  rw [more_eq, ← half0_at, ← half1_at]; rfl

theorem pay3_eq (a b : FVec Ideal S128x2048 .f32) : k0_pay3 (F := Ideal) a b = addf a b := by
  have e : k0_pay3 (F := Ideal) a b = addf (shapeCast S128x2048 a shapeCasts_S128x2048_S128x2048) b := rfl
  rw [e, shapeCast_self]

theorem resid_at (i : grid0.Coords) (o : FVec Ideal S512x2048 .f32) (x1 : FVec Ideal S128x2048 .f32) (r : Fin 512) (j : Fin 2048) :
    resid (F := Ideal) i o x1 (ix2 r j)
      = o (ix2 r j) + if r.val / 128 = (i 1).val then x1 (ix2 ⟨r.val % 128, Nat.mod_lt _ (by decide)⟩ j) else 0 := by
  have hi : (i 1).val < 4 := (i 1).isLt
  unfold resid VecWindow.put
  by_cases hr : r.val / 128 = (i 1).val
  · rw [if_pos hr, pay3_eq]
    have hq : ∀ a, (![128 * (i 1).val, 0] : Fin 2 → ℕ) a ≤ ((ix2 r j) a).val ∧ ((ix2 r j) a).val < (![128 * (i 1).val, 0] : Fin 2 → ℕ) a + (![128, 2048] : Fin 2 → ℕ) a := fun a => by
      fin_cases a
      · show 128 * (i 1).val ≤ r.val ∧ r.val < 128 * (i 1).val + 128; omega
      · show 0 ≤ j.val ∧ j.val < 0 + 2048; omega
    refine (dif_pos hq).trans ?_
    have hu : Rect.unitLocal (ix2 r j) hq = ix2 ⟨r.val % 128, Nat.mod_lt _ (by decide)⟩ j := funext fun a => Fin.ext (by
      rw [Rect.unitLocal_val]
      fin_cases a
      · show r.val - 128 * (i 1).val = r.val % 128; omega
      · rfl)
    rw [hu]
    refine congrArg₂ (· + ·) (congrArg o ?_) rfl
    refine congrArg₂ ix2 (Fin.ext ?_) rfl
    show (128 * (i 1).val + r.val % 128) % 512 = r.val
    omega
  · rw [if_neg hr, add_zero]
    refine dif_neg fun h => hr ?_
    have h0 := h 0
    change 128 * (i 1).val ≤ r.val ∧ r.val < 128 * (i 1).val + 128 at h0
    omega

end Cert.Kernel3Ideal.Mlp

end
-- ==== Proof.FirstRunA.lean ====
/-
The first MLP's body at the very first grid point: the scratch is filled for the first row tile, then the first slice of the weights is used.
-/
module

public import proofs.«01_k».proof.Proof.FirstConds

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the very first grid point: the scratch is filled for the first row tile, then the first slice of the weights is used: what each buffer is left holding, found by the run. -/
noncomputable def kernelRun0_A (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_eq_skeleton]; unfold cc0_mlp_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel3Ideal.Mlp

end
-- ==== Proof.FirstStepA.lean ====
/-
What the body leaves in the output block and in the scratch at the very first grid point.
-/
module

public import proofs.«01_k».proof.Proof.FirstStep
public import proofs.«01_k».proof.Proof.FirstRunA

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0).1 (by sl_whole_mem) y

def outA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S512x2048 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0).1)

def soutA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S2x512x2048 .bf16 :=
  arg15.view.read (Elt F) (arg15.view.writes (Elt F) (harg15.unread xs0) (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0).2.1)

set_option maxHeartbeats 1000000 in
theorem outA_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    outA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0 = resid i (start (k0_pay1 x0 x3 x4 x5) x8 x9 x10) x1 := by
  have hf : slot i (arg15.view.read (Elt F) (arg15.view.writes (Elt F) (harg15.unread xs0)
      [⟨Rect.unit (s := S2x512x2048) ![0, 0, 0] ![1, 512, 2048] inb_S2x512x2048_S1x512x2048_0_0_0, k0_pay1 x0 x3 x4 x5⟩]))
        = k0_pay1 x0 x3 x4 x5 :=
    (congrArg (slot i) (first_eq _ _ _)).trans (slot_first i hz _ _)
  frame_out
  simp only [upd_eq i (off2_eq i), ld_slot i (off1_eq i), ld_slot i (off1_eq i)]
  simp only [slot_upd]
  rw [hf]
  exact canon_resid i (k0_off3_eq i) _ x1 _ _

set_option maxHeartbeats 1000000 in
theorem soutA_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    soutA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0 = upd i (first xs0 (k0_pay1 x0 x3 x4 x5)) (prep x2 x3 x6 x7) := by
  frame_out
  exact (upd_eq i (off2_eq i) _ _ _ _ _).trans (congrArg (fun z => upd i z _) ((first_eq _ _ _).trans (congrArg (fun z => first z _) (harg15.read_unread _))))

/-- The body's effect at this kind of point, in the body's own arithmetic. -/
theorem tripleA (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : cond0_0 i) (hc1 : cond0_1 i) (hc2 : ¬cond0_2 i) (hz : (i 0).val = 0) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (resid i (start (k0_pay1 x0 x3 x4 x5) x8 x9 x10) x1) ∗ owns (c : Thread nD τ) arg15 fullShare (upd i (first xs0 (k0_pay1 x0 x3 x4 x5)) (prep x2 x3 x6 x7))) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0)).trans (outA_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0)
  unfold owns; iexists _; isplitr
  swap; · iexact HS0
  ipureintro
  exact soutA_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hz x0 x1 x2 x3 x4 x5 x6 x7 x8 x9 x10 x11 xs0

end Cert.Kernel3Ideal.Mlp

end
-- ==== Proof.FirstRunB.lean ====
/-
The first MLP's body at the second and third slice of a row tile.
-/
module

public import proofs.«01_k».proof.Proof.FirstConds

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the second and third slice of a row tile: what each buffer is left holding, found by the run. -/
noncomputable def kernelRun0_B (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_eq_skeleton]; unfold cc0_mlp_skel
    simp only [k0_part5_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel3Ideal.Mlp

end
-- ==== Proof.FirstStepB.lean ====
/-
What the body leaves in the output block and in the scratch at the second and third slice of a row tile.
-/
module

public import proofs.«01_k».proof.Proof.FirstStep
public import proofs.«01_k».proof.Proof.FirstRunB

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0).1, y ∈ pc.1.set :=
  View.cover_of_wholeMem (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0).1 (by sl_whole_mem) y

def outB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) : Vec F S512x2048 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0).1)

def soutB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) : Vec F S2x512x2048 .bf16 :=
  arg15.view.read (Elt F) (arg15.view.writes (Elt F) (harg15.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0).2.1)

set_option maxHeartbeats 1000000 in
theorem outB_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    outB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0 = more (slot i xs0) x8 x9 x10 (resid i xo12 x1) := by
  have hr : arg14.view.read (Elt F) (arg14.view.writes (Elt F) (harg14.unread xo12)
      [⟨Rect.unit (s := S512x2048) (k0_off4 i) S128x2048.size (k0_off4_inb i hc2),
        k0_pay10 (View.ld xo12 (Rect.unit (s := S512x2048) (k0_off4 i) S128x2048.size (k0_off4_inb i hc2))) x1⟩]) = resid i xo12 x1 :=
    resid_eq i (k0_off4_eq i) _ _ (k0_off4_inb i hc2) x1 [] xo12 (harg14.read_unread _)
  frame_out
  simp only [prep_eq, upd_eq i (off6_eq i), View.writes_nil, harg15.read_unread, ld_slot i (off5_eq i)]
  simp only [slot_upd]
  rw [hr]
  rfl

set_option maxHeartbeats 1000000 in
theorem soutB_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) :
    soutB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0 = upd i xs0 (prep x2 x3 x6 x7) := by
  frame_out
  exact (upd_eq i (off6_eq i) _ _ _ _ _).trans (congrArg (fun z => upd i z _) (harg15.read_unread _))

/-- The body's effect at this kind of point, in the body's own arithmetic. -/
theorem tripleB (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : ¬cond0_1 i) (hc2 : cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xo12 : Vec F S512x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (more (slot i xs0) x8 x9 x10 (resid i xo12 x1)) ∗ owns (c : Thread nD τ) arg15 fullShare (upd i xs0 (prep x2 x3 x6 x7))) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0)).trans (outB_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0)
  unfold owns; iexists _; isplitr
  swap; · iexact HS0
  ipureintro
  exact soutB_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xo12 xs0

end Cert.Kernel3Ideal.Mlp

end
-- ==== Proof.FirstRunD.lean ====
/-
The first MLP's body at the first slice of a later row tile.
-/
module

public import proofs.«01_k».proof.Proof.FirstConds

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the first slice of a later row tile: what each buffer is left holding, found by the run. -/
noncomputable def kernelRun0_D (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i)
    (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    Σ' (L12 : List (View.Piece (Elt F) S512x2048 .f32)), { LS0 : List (View.Piece (Elt F) S2x512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_mlp_eq_skeleton]; unfold cc0_mlp_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexact HS0

end Cert.Kernel3Ideal.Mlp

end
-- ==== Proof.FirstStepD.lean ====
/-
What the body leaves in the output block and in the scratch at the first slice of a later row tile.
-/
module

public import proofs.«01_k».proof.Proof.FirstStep
public import proofs.«01_k».proof.Proof.FirstRunD

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem coverD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (y : S512x2048.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0).1, y ∈ pc.1.set :=
  View.cover_of_wholeMem (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0).1 (by sl_whole_mem) y

def outD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S512x2048 .f32 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0).1)

def soutD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) : Vec F S2x512x2048 .bf16 :=
  arg15.view.read (Elt F) (arg15.view.writes (Elt F) (harg15.unread xs0) (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0).2.1)

set_option maxHeartbeats 1000000 in
theorem outD_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    outD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0 = resid i (start (slot i xs0) x8 x9 x10) x1 := by
  frame_out
  simp only [upd_eq i (off2_eq i), View.writes_nil, harg15.read_unread, ld_slot i (off1_eq i)]
  simp only [slot_upd]
  exact canon_resid i (k0_off3_eq i) _ x1 _ _

set_option maxHeartbeats 1000000 in
theorem soutD_eq (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) :
    soutD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0 = upd i xs0 (prep x2 x3 x6 x7) := by
  frame_out
  exact (upd_eq i (off2_eq i) _ _ _ _ _).trans (congrArg (fun z => upd i z _) (harg15.read_unread _))

/-- The body's effect at this kind of point, in the body's own arithmetic. -/
theorem tripleD (c : Dev nD) (i : grid0.Coords) (arg2 : Memref sig .tc .vmem S512x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S1x1x1x1x2048 .f32) (harg6 : arg6.IsWhole) (arg7 : Memref sig .tc .vmem S1x1x1x1x2048 .f32) (harg7 : arg7.IsWhole) (arg8 : Memref sig .tc .vmem S1x1x1x1x2048 .f32) (harg8 : arg8.IsWhole) (arg9 : Memref sig .tc .vmem S1x1x1x1x2048 .f32) (harg9 : arg9.IsWhole) (arg10 : Memref sig .tc .vmem S1x1x1x1x2048 .f32) (harg10 : arg10.IsWhole) (arg11 : Memref sig .tc .vmem S1x2048x2048 .bf16) (harg11 : arg11.IsWhole) (arg12 : Memref sig .tc .vmem S1x2048x2048 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S2x512x2048 .bf16) (harg15 : arg15.IsWhole) (hc0 : ¬cond0_0 i) (hc1 : cond0_1 i) (hc2 : ¬cond0_2 i) (x0 : Vec F S512x2048 .f32) (x1 : Vec F S128x2048 .f32) (x2 : Vec F S128x2048 .f32) (x3 : Vec F S1x2048 .f32) (x4 : Vec F S1x1x1x1x2048 .f32) (x5 : Vec F S1x1x1x1x2048 .f32) (x6 : Vec F S1x1x1x1x2048 .f32) (x7 : Vec F S1x1x1x1x2048 .f32) (x8 : Vec F S1x1x1x1x2048 .f32) (x9 : Vec F S1x2048x2048 .bf16) (x10 : Vec F S1x2048x2048 .bf16) (x11 : Vec F S1x2048 .f32) (xs0 : Vec F S2x512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (resid i (start (slot i xs0) x8 x9 x10) x1) ∗ owns (c : Thread nD τ) arg15 fullShare (upd i xs0 (prep x2 x3 x6 x7))) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS0, Hk⟩
  iapply ((kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, ⟨%e12, H12⟩, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    exact (View.read_writes_of_cover _ _ _ _ _ (coverD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0)).trans (outD_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0)
  unfold owns; iexists _; isplitr
  swap; · iexact HS0
  ipureintro
  exact soutD_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0

end Cert.Kernel3Ideal.Mlp

end
-- ==== Proof.FirstFrame.lean ====
/-
The first MLP's launch: the scratch carries the next row tile's prepared rows from point to point, the
output block accumulates over a tile's four points, and the program's arguments are left as they were.
-/
module

public import proofs.«01_k».proof.Proof.FirstStepA
public import proofs.«01_k».proof.Proof.FirstStepB
public import proofs.«01_k».proof.Proof.FirstStepD
public import Idealize.ShloMosaic.Lib.Pipeline.FrameBody

@[expose] public section

set_option maxRecDepth 16384

noncomputable section

namespace Cert.Kernel3Ideal.Mlp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % 128, (Nat.mod_lt n (by decide)).trans_le (le_of_eq (show 128 = cfg0.N from N_0.symm))⟩

theorem pt_val (t : Fin cfg0.N) : pt t.val = t :=
  Fin.ext (Nat.mod_eq_of_lt (t.isLt.trans_le (le_of_eq (show cfg0.N = 128 from N_0))))

theorem coord0 (t : Fin cfg0.N) : (grid0.coords t 0).val = t.val / 4 := by
  have ht : t.val < 128 := Nat.lt_of_lt_of_eq t.isLt N_0
  have e : (grid0.coords t 0).val = t.val / 4 % 32 := Pipeline.Grid.coords_val t 0 (by decide) rfl
  omega
theorem coord1 (t : Fin cfg0.N) : (grid0.coords t 1).val = t.val % 4 := by
  have e : (grid0.coords t 1).val = t.val / 1 % 4 := Pipeline.Grid.coords_val t 1 (by decide) rfl
  omega

/-- The rows point `t` prepares for the next tile. -/
def rows (c : Dev nD) (t : Fin cfg0.N) : Vec F S1x128x2048 .bf16 :=
  prep (iblk m c 2 t) (iblk m c 3 t) (iblk m c 6 t) (iblk m c 7 t)

/-- The normalised and modulated rows of tile `i`: the first tile's prepared at the first point, a later
    tile's 128 rows at a time during the tile before it. -/
def hidden (c : Dev nD) : ℕ → Vec F S1x512x2048 .bf16
  | 0 => k0_pay1 (iblk m c 0 (pt 0)) (iblk m c 3 (pt 0)) (iblk m c 4 (pt 0)) (iblk m c 5 (pt 0))
  | i + 1 => fun y => rows m c (pt (4 * i + (y 1).val / 128)) (ix3 0 ⟨(y 1).val % 128, Nat.mod_lt _ (by decide)⟩ (y 2))

/-- What the scratch holds when point `n` starts: the current tile's rows in one slot, the rows of the
    next tile prepared so far in the other. -/
def Inv (c : Dev nD) (n : ℕ) (s : Vec F S2x512x2048 .bf16) : Prop :=
  (∀ (k : Fin 2) (r : Fin 512) (j : Fin 2048), k.val = n / 4 % 2 → s (ix3 k r j) = hidden m c (n / 4) (ix3 0 r j)) ∧
  (∀ (k : Fin 2) (r : Fin 512) (j : Fin 2048), k.val = 1 - n / 4 % 2 → r.val < 128 * (n % 4) →
    s (ix3 k r j) = hidden m c (n / 4 + 1) (ix3 0 r j))

theorem inv_first (c : Dev nD) (s : Vec F S2x512x2048 .bf16) : Inv m c 0 (first s (hidden m c 0)) := by
  refine ⟨fun k r j hk => ?_, fun k r j _ hr => absurd hr (Nat.not_lt_zero _)⟩
  have hk' : k.val = 0 := hk
  unfold first VecWindow.put
  refine (dif_pos fun a => ?_).trans (congrArg (hidden m c 0) (funext fun a => Fin.ext ?_))
  · fin_cases a
    · show 0 ≤ k.val ∧ k.val < 0 + 1; omega
    · show 0 ≤ r.val ∧ r.val < 0 + 512; omega
    · show 0 ≤ j.val ∧ j.val < 0 + 2048; omega
  · rw [Rect.unitLocal_val]
    fin_cases a
    · show k.val - 0 = 0; omega
    · rfl
    · rfl

theorem upd_off (i : grid0.Coords) (s : Vec F S2x512x2048 .bf16) (w : Vec F S1x128x2048 .bf16) (k : Fin 2) (r : Fin 512) (j : Fin 2048)
    (h : ¬(k.val = 1 - (i 0).val % 2 ∧ 128 * (i 1).val ≤ r.val ∧ r.val < 128 * (i 1).val + 128)) :
    upd i s w (ix3 k r j) = s (ix3 k r j) := by
  unfold upd VecWindow.put
  refine dif_neg fun h' => h ?_
  have h0 := h' 0
  have h1 := h' 1
  change 1 - (i 0).val % 2 ≤ k.val ∧ k.val < 1 - (i 0).val % 2 + 1 at h0
  change 128 * (i 1).val ≤ r.val ∧ r.val < 128 * (i 1).val + 128 at h1
  omega

theorem upd_on (i : grid0.Coords) (s : Vec F S2x512x2048 .bf16) (w : Vec F S1x128x2048 .bf16) (k : Fin 2) (r : Fin 512) (j : Fin 2048)
    (q : Fin 128) (h : k.val = 1 - (i 0).val % 2) (hq : r.val = 128 * (i 1).val + q.val) :
    upd i s w (ix3 k r j) = w (ix3 0 q j) := by
  unfold upd VecWindow.put
  refine (dif_pos fun a => ?_).trans (congrArg w (funext fun a => Fin.ext ?_))
  · fin_cases a
    · show 1 - (i 0).val % 2 ≤ k.val ∧ k.val < 1 - (i 0).val % 2 + 1; omega
    · show 128 * (i 1).val ≤ r.val ∧ r.val < 128 * (i 1).val + 128; omega
    · show 0 ≤ j.val ∧ j.val < 0 + 2048; omega
  · rw [Rect.unitLocal_val]
    fin_cases a
    · show k.val - (1 - (i 0).val % 2) = 0; omega
    · show r.val - 128 * (i 1).val = q.val; omega
    · rfl

theorem inv_step (c : Dev nD) (t : Fin cfg0.N) (s : Vec F S2x512x2048 .bf16) (h : Inv m c t.val s) :
    Inv m c (t.val + 1) (upd (grid0.coords t) s (rows m c t)) := by
  have hc0 := coord0 t
  have hc1 := coord1 t
  have cur : ∀ (k : Fin 2) (r : Fin 512) (j : Fin 2048), k.val = t.val / 4 % 2 →
      upd (grid0.coords t) s (rows m c t) (ix3 k r j) = hidden m c (t.val / 4) (ix3 0 r j) := fun k r j hk =>
    (upd_off _ _ _ _ _ _ (by omega)).trans (h.1 k r j hk)
  have nxt : ∀ (k : Fin 2) (r : Fin 512) (j : Fin 2048), k.val = 1 - t.val / 4 % 2 → r.val < 128 * (t.val % 4 + 1) →
      upd (grid0.coords t) s (rows m c t) (ix3 k r j) = hidden m c (t.val / 4 + 1) (ix3 0 r j) := fun k r j hk hr => by
    by_cases hlt : r.val < 128 * (t.val % 4)
    · exact (upd_off _ _ _ _ _ _ (by omega)).trans (h.2 k r j hk hlt)
    · refine (upd_on _ _ _ k r j ⟨r.val % 128, Nat.mod_lt _ (by decide)⟩ (by omega) (by show r.val = 128 * _ + r.val % 128; omega)).trans ?_
      show rows m c t _ = rows m c (pt (4 * (t.val / 4) + r.val / 128)) _
      rw [show 4 * (t.val / 4) + r.val / 128 = t.val by omega, pt_val]
      rfl
  by_cases h3 : t.val % 4 = 3
  · refine ⟨fun k r j hk => ?_, fun k r j _ hr => ?_⟩
    · rw [show (t.val + 1) / 4 = t.val / 4 + 1 by omega]
      exact nxt k r j (by omega) (by have := r.isLt; omega)
    · exfalso; omega
  · refine ⟨fun k r j hk => ?_, fun k r j hk hr => ?_⟩
    · rw [show (t.val + 1) / 4 = t.val / 4 by omega]
      exact cur k r j (by omega)
    · rw [show (t.val + 1) / 4 + 1 = t.val / 4 + 1 by omega]
      exact nxt k r j (by omega) (by omega)

theorem slot_of_inv (c : Dev nD) (t : Fin cfg0.N) (s : Vec F S2x512x2048 .bf16) (h : Inv m c t.val s) :
    slot (grid0.coords t) s = hidden m c (t.val / 4) := by
  funext y
  have h0 : (y 0).val = 0 := by have := (y 0).isLt; change (y 0).val < 1 at this; omega
  refine (h.1 _ (y 1) (y 2) (by show (grid0.coords t 0).val % 2 = _; rw [coord0])).trans (congrArg (hidden m c (t.val / 4)) (funext fun a => Fin.ext ?_))
  fin_cases a
  · exact h0.symm
  · rfl
  · rfl

/-- What point `n` leaves in the output block, over what the point before left there. -/
def stepAt (c : Dev nD) (n : ℕ) (o : Vec F S512x2048 .f32) : Vec F S512x2048 .f32 :=
  if n % 4 = 0 then
    resid (grid0.coords (pt n)) (start (hidden m c (n / 4)) (iblk m c 8 (pt n)) (iblk m c 9 (pt n)) (iblk m c 10 (pt n))) (iblk m c 1 (pt n))
  else
    more (hidden m c (n / 4)) (iblk m c 8 (pt n)) (iblk m c 9 (pt n)) (iblk m c 10 (pt n)) (resid (grid0.coords (pt n)) o (iblk m c 1 (pt n)))

/-- The output block after point `n`. -/
def outAt (c : Dev nD) : ℕ → Vec F S512x2048 .f32
  | 0 => stepAt m c 0 (iblk m c 0 (pt 0))
  | n + 1 => stepAt m c (n + 1) (outAt c n)

theorem outAt_start (c : Dev nD) (t : Fin cfg0.N) (h : t.val % 4 = 0) :
    outAt m c t.val = resid (grid0.coords t) (start (hidden m c (t.val / 4)) (iblk m c 8 t) (iblk m c 9 t) (iblk m c 10 t)) (iblk m c 1 t) := by
  have e : ∀ o, stepAt m c t.val o = resid (grid0.coords t) (start (hidden m c (t.val / 4)) (iblk m c 8 t) (iblk m c 9 t) (iblk m c 10 t)) (iblk m c 1 t) :=
    fun o => by unfold stepAt; rw [if_pos h, pt_val]
  obtain ⟨n, hn⟩ := t
  cases n with
  | zero => exact e _
  | succ n => exact e _

theorem outAt_more (c : Dev nD) (t : Fin cfg0.N) (h : ¬t.val % 4 = 0) :
    outAt m c t.val = more (hidden m c (t.val / 4)) (iblk m c 8 t) (iblk m c 9 t) (iblk m c 10 t) (resid (grid0.coords t) (outAt m c (t.val - 1)) (iblk m c 1 t)) := by
  have e : ∀ o, stepAt m c t.val o = more (hidden m c (t.val / 4)) (iblk m c 8 t) (iblk m c 9 t) (iblk m c 10 t) (resid (grid0.coords t) o (iblk m c 1 t)) :=
    fun o => by unfold stepAt; rw [if_neg h, pt_val]
  obtain ⟨n, hn⟩ := t
  cases n with
  | zero => exact absurd rfl h
  | succ n => exact e _

/-- The scratch between points. -/
def PhiS (c : Dev nD) : ℕ → sProp 𝕄
  | 0 => Pipeline.ΦA spec0 c
  | n + 1 => iprop((∃ s, ⌜Inv m c (n + 1) s⌝ ∗ owns (c : Thread nD τ) scM0_0 fullShare s) ∗ (∃ r, prngReg c r))

theorem PhiS_pos (c : Dev nD) (n : ℕ) (hz : n ≠ 0) :
    PhiS m c n = iprop((∃ s, ⌜Inv m c n s⌝ ∗ owns (c : Thread nD τ) scM0_0 fullShare s) ∗ (∃ r, prngReg c r)) := by
  cases n with
  | zero => exact absurd rfl hz
  | succ n => rfl

/-- The launch's data: each input window keeps its block, the output block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 128 := lt_of_lt_of_eq t.isLt (show cfg0.N = 128 from N_0)
  rw [after0_12, after0_12]
  by_cases h1 : t.val % 4 = 0
  · by_cases h0 : t.val % 128 = 0
    · rw [liveAt0_12_A t ((hcond0_0 t).mpr h0) ((hcond0_1 t).mpr h1) (fun h => absurd ((hcond0_2 t).mp h) (by omega))] at hi
      exact absurd hi Bool.false_ne_true
    · rw [liveAt0_12_D t (fun h => h0 ((hcond0_0 t).mp h)) ((hcond0_1 t).mpr h1) (fun h => absurd ((hcond0_2 t).mp h) (by omega))] at hi
      exact absurd hi Bool.false_ne_true
  · rw [liveAt0_12_B t (fun h => absurd ((hcond0_0 t).mp h) (by omega)) (fun h => h1 ((hcond0_1 t).mp h)) ((hcond0_2 t).mpr (by omega))] at hi
    exact absurd hi Bool.false_ne_true

theorem before0_12_B (c : Dev nD) (t : Fin cfg0.N) (h0 : ¬t.val % 128 = 0) (h1 : ¬t.val % 4 = 0) (h2 : 1 ≤ t.val % 4) (d) :
    (dats m 0 c).before 12 t d = outAt m c (t.val - 1) := by
  rw [Dat.before_out_traj _ 12 rfl (fun _ _ => rfl) (hcarry0_12 m c) t.val t rfl d,
    if_neg (by rw [notFresh0_12_B t (fun h => h0 ((hcond0_0 t).mp h)) (fun h => h1 ((hcond0_1 t).mp h)) ((hcond0_2 t).mpr h2)]; exact Bool.false_ne_true)]
  dsimp only [dats]
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]

set_option maxHeartbeats 4000000 in
theorem soundA (c : Dev nD) (t : Fin cfg0.N) (h0 : t.val % 128 = 0) (h1 : t.val % 4 = 0) (h2 : ¬1 ≤ t.val % 4) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_A t ((hcond0_0 t).mpr h0) ((hcond0_1 t).mpr h1) (fun h => h2 ((hcond0_2 t).mp h))], after0_12]
  have hz : t.val = 0 := by omega
  have hp : pt 0 = t := hz ▸ pt_val t
  have hh : hidden m c 0 = k0_pay1 (iblk m c 0 t) (iblk m c 3 t) (iblk m c 4 t) (iblk m c 5 t) := by rw [← hp]; rfl
  rw [show PhiS m c t.val = Pipeline.ΦA spec0 c from by rw [hz]; rfl, PhiA0_eq]
  iintro ⟨⟨⟨%s, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have ho := (by rw [outAt_start m c t h1, show t.val / 4 = 0 by omega, hh] : outAt m c t.val = resid (grid0.coords t) (start (k0_pay1 (iblk m c 0 t) (iblk m c 3 t) (iblk m c 4 t) (iblk m c 5 t)) (iblk m c 8 t) (iblk m c 9 t) (iblk m c 10 t)) (iblk m c 1 t))
  iapply (tripleA c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (by rw [coord0]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact by rw [← hh]; exact inv_step m c t _ (hz ▸ inv_first m c s)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

set_option maxHeartbeats 4000000 in
theorem soundB (c : Dev nD) (t : Fin cfg0.N) (h0 : ¬t.val % 128 = 0) (h1 : ¬t.val % 4 = 0) (h2 : 1 ≤ t.val % 4) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_B t (fun h => h0 ((hcond0_0 t).mp h)) (fun h => h1 ((hcond0_1 t).mp h)) ((hcond0_2 t).mpr h2)], after0_12]
  simp only [before0_12_B m c t h0 h1 h2]
  rw [PhiS_pos m c t.val (by omega)]
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hsl := slot_of_inv m c t s hs
  have ho := (by rw [outAt_more m c t h1, hsl] : outAt m c t.val = more (slot (grid0.coords t) s) (iblk m c 8 t) (iblk m c 9 t) (iblk m c 10 t) (resid (grid0.coords t) (outAt m c (t.val - 1)) (iblk m c 1 t)))
  iapply (tripleB c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outAt m c (t.val - 1)) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

set_option maxHeartbeats 4000000 in
theorem soundD (c : Dev nD) (t : Fin cfg0.N) (h0 : ¬t.val % 128 = 0) (h1 : t.val % 4 = 0) (h2 : ¬1 ≤ t.val % 4) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0_0, leaves0_1, leaves0_2, leaves0_3, leaves0_4, leaves0_5, leaves0_6, leaves0_7, leaves0_8, leaves0_9, leaves0_10, leaves0_11]
  rw [show (dats m 0 c).leavesExact 12 t = owns (c : Thread nD τ) (ms0_12 t) fullShare ((dats m 0 c).after 12 t) from by
    unfold Dat.leavesExact; rw [liveAt0_12_D t (fun h => h0 ((hcond0_0 t).mp h)) ((hcond0_1 t).mpr h1) (fun h => h2 ((hcond0_2 t).mp h))], after0_12]
  rw [PhiS_pos m c t.val (by omega)]
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hsl := slot_of_inv m c t s hs
  have ho := (by rw [outAt_start m c t h1, hsl] : outAt m c t.val = resid (grid0.coords t) (start (slot (grid0.coords t) s) (iblk m c 8 t) (iblk m c 9 t) (iblk m c 10 t)) (iblk m c 1 t))
  iapply (tripleD c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexists _; isplitr
      swap; · iexact HS0
      ipureintro; exact inv_step m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ho]; iexact H12

theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases h1 : t.val % 4 = 0
  · by_cases h0 : t.val % 128 = 0
    · exact soundA m c t h0 h1 (by omega)
    · exact soundD m c t h0 h1 (by omega)
  · exact soundB m c t (by omega) h1 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 128 := N_0; omega), PhiA0_eq]
  iintro ⟨⟨%s, %hs, HS0⟩, Hg⟩
  isplitl [HS0]
  · iexists s; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Mlp

end
-- ==== Proof.FirstBlocks.lean ====
/-
  The first MLP's input blocks, read off the program's arguments.
-/
module

public import proofs.«01_k».proof.Proof.FirstFrame
public import Idealize.ShloMosaic.Lib.Pipeline.ValueKit

@[expose] public section

set_option maxRecDepth 16384

noncomputable section

namespace Cert.Kernel3Ideal.Mlp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem idxA : ∀ t : Fin cfg0.N, win0_0.index t = ![0, 0]
    ∧ win0_1.index t = ![t.val, 0]
    ∧ win0_2.index t = ![4 * min (t.val / 4 + 1) 31 + t.val % 4, 0]
    ∧ win0_3.index t = ![0, 0]
    ∧ win0_4.index t = ![0, t.val / 32, 3, 0, 0]
    ∧ win0_5.index t = ![0, t.val / 32, 4, 0, 0]
    ∧ win0_6.index t = ![0, min (t.val / 4 + 1) 31 / 8, 3, 0, 0]
    ∧ win0_7.index t = ![0, min (t.val / 4 + 1) 31 / 8, 4, 0, 0]
    ∧ win0_8.index t = ![0, t.val / 32, 5, 0, 0]
    ∧ win0_9.index t = ![0, 0, t.val % 4]
    ∧ win0_10.index t = ![0, t.val % 4, 0]
    ∧ win0_11.index t = ![0, 0]
    ∧ win0_12.index t = ![t.val / 4, 0] :=
  (by decide +kernel : ∀ t : Fin grid0.N, _)

theorem V_v2 (c : Dev nD) : (V m c main_v2 : FVec Ideal S1x2048 .f32) = shapeCast S1x2048 (shapeCast S2048 (extractStridedSlice S1x2048 ![0, 0] (m ((c : Thread nD τ).loc main_arg2) : FVec Ideal S2x2048 .f32) slices_S2x2048_S1x2048_0_0) shapeCasts_S1x2048_S2048) shapeCasts_S2048_S1x2048 := by
  simp only [V, hostOps0, List.flatten_cons, List.flatten_nil, List.append_nil, List.cons_append, List.nil_append]
  after_results_simp <;> rfl

theorem V_v3 (c : Dev nD) : (V m c main_v3 : FVec Ideal S2x4x6x1x2048 .f32) = shapeCast S2x4x6x1x2048 (m ((c : Thread nD τ).loc main_arg1) : FVec Ideal S2x4x12288 .f32) shapeCasts_S2x4x12288_S2x4x6x1x2048 := by
  simp only [V, hostOps0, List.flatten_cons, List.flatten_nil, List.append_nil, List.cons_append, List.nil_append]
  after_results_simp <;> rfl

/-- The gain as the launch gets it. -/
abbrev gainOp (g : FVec Ideal S2x2048 .f32) : FVec Ideal S1x2048 .f32 :=
  shapeCast S1x2048 (shapeCast S2048 (extractStridedSlice S1x2048 ![0, 0] g slices_S2x2048_S1x2048_0_0) shapeCasts_S1x2048_S2048) shapeCasts_S2048_S1x2048

theorem gainOp_at (g : FVec Ideal S2x2048 .f32) (k : Fin 2048) : gainOp g (ix2 0 k) = g (ix2 0 k) := by
  unfold gainOp
  pointwise

/-- The modulation table as the launch gets it. -/
abbrev modOp (x : FVec Ideal S2x4x12288 .f32) : FVec Ideal S2x4x6x1x2048 .f32 :=
  shapeCast S2x4x6x1x2048 x shapeCasts_S2x4x12288_S2x4x6x1x2048

theorem modOp_at (x : FVec Ideal S2x4x12288 .f32) (l : Fin 2) (b : Fin 4) (o : Fin 6) (k : Fin 2048) (j : Fin 12288) (hj : j.val = 2048 * o + k) :
    modOp x (ix5 l b o 0 k) = x (ix3 l b j) := by
  unfold modOp
  pointwise
  exact congrArg (fun j => x (ix3 l b j)) (Fin.ext (by simp; omega))

theorem rd0 (c : Dev nD) (t : Fin cfg0.N) (r : Fin 512) (k : Fin 2048) : iblk m c 0 t (ix2 r k)
    = m ((c : Thread nD τ).loc main_arg0) (ix2 ⟨r.val, by omega⟩ k) := by
  blk_ext [iblk, V, idxA t]

theorem rd1 (c : Dev nD) (t : Fin cfg0.N) (R : Fin 16384) (r : Fin 128) (k : Fin 2048) (hR : R.val = 128 * t.val + r) : iblk m c 1 t (ix2 r k)
    = m ((c : Thread nD τ).loc main_arg0) (ix2 R k) := by
  blk_ext [iblk, V, idxA t]

theorem rd2 (c : Dev nD) (t : Fin cfg0.N) (R : Fin 16384) (r : Fin 128) (k : Fin 2048) (ht : t.val / 4 < 31) (hR : R.val = 512 * (t.val / 4 + 1) + 128 * (t.val % 4) + r) :
    iblk m c 2 t (ix2 r k) = m ((c : Thread nD τ).loc main_arg0) (ix2 R k) := by
  blk_ext [iblk, V, idxA t]

theorem rd3 (c : Dev nD) (t : Fin cfg0.N) (k : Fin 2048) : iblk m c 3 t (ix2 0 k)
    = m ((c : Thread nD τ).loc main_arg2) (ix2 0 k) := by
  have e : V m c (Pipeline.arrRef spec0 3) = _ := V_v2 m c
  unfold iblk
  rw [e]
  refine Eq.trans ?_ (gainOp_at _ _)
  refine congrArg (gainOp (m ((c : Thread nD τ).loc main_arg2))) ?_
  blk_ext [idxA t]

theorem rd9 (c : Dev nD) (t : Fin cfg0.N) (k : Fin 2048) (u : Fin 2048) (U : Fin 8192) (hU : U.val = 2048 * (t.val % 4) + u) : iblk m c 9 t (ix3 0 k u)
    = m ((c : Thread nD τ).loc main_arg3) (ix3 0 k U) := by
  blk_ext [iblk, V, idxA t]

theorem rd10 (c : Dev nD) (t : Fin cfg0.N) (u : Fin 2048) (j : Fin 2048) (U : Fin 8192) (hU : U.val = 2048 * (t.val % 4) + u) : iblk m c 10 t (ix3 0 u j)
    = m ((c : Thread nD τ).loc main_arg4) (ix3 0 U j) := by
  blk_ext [iblk, V, idxA t]

theorem rd4 (c : Dev nD) (t : Fin cfg0.N) (b : Fin 4) (k : Fin 2048) (hb : b.val = t.val / 32) : iblk m c 4 t (ix5 0 0 0 0 k)
    = m ((c : Thread nD τ).loc main_arg1) (ix3 0 b ⟨6144 + k.val, by omega⟩) := by
  have e : V m c (Pipeline.arrRef spec0 4) = _ := V_v3 m c
  unfold iblk
  rw [e]
  refine Eq.trans ?_ (modOp_at _ 0 b 3 k _ rfl)
  refine congrArg (modOp (m ((c : Thread nD τ).loc main_arg1))) ?_
  blk_ext [idxA t]

theorem rd5 (c : Dev nD) (t : Fin cfg0.N) (b : Fin 4) (k : Fin 2048) (hb : b.val = t.val / 32) : iblk m c 5 t (ix5 0 0 0 0 k)
    = m ((c : Thread nD τ).loc main_arg1) (ix3 0 b ⟨8192 + k.val, by omega⟩) := by
  have e : V m c (Pipeline.arrRef spec0 5) = _ := V_v3 m c
  unfold iblk
  rw [e]
  refine Eq.trans ?_ (modOp_at _ 0 b 4 k _ rfl)
  refine congrArg (modOp (m ((c : Thread nD τ).loc main_arg1))) ?_
  blk_ext [idxA t]

theorem rd6 (c : Dev nD) (t : Fin cfg0.N) (b : Fin 4) (k : Fin 2048) (ht : t.val / 4 < 31) (hb : b.val = (t.val / 4 + 1) / 8) : iblk m c 6 t (ix5 0 0 0 0 k)
    = m ((c : Thread nD τ).loc main_arg1) (ix3 0 b ⟨6144 + k.val, by omega⟩) := by
  have e : V m c (Pipeline.arrRef spec0 6) = _ := V_v3 m c
  unfold iblk
  rw [e]
  refine Eq.trans ?_ (modOp_at _ 0 b 3 k _ rfl)
  refine congrArg (modOp (m ((c : Thread nD τ).loc main_arg1))) ?_
  blk_ext [idxA t]

theorem rd7 (c : Dev nD) (t : Fin cfg0.N) (b : Fin 4) (k : Fin 2048) (ht : t.val / 4 < 31) (hb : b.val = (t.val / 4 + 1) / 8) : iblk m c 7 t (ix5 0 0 0 0 k)
    = m ((c : Thread nD τ).loc main_arg1) (ix3 0 b ⟨8192 + k.val, by omega⟩) := by
  have e : V m c (Pipeline.arrRef spec0 7) = _ := V_v3 m c
  unfold iblk
  rw [e]
  refine Eq.trans ?_ (modOp_at _ 0 b 4 k _ rfl)
  refine congrArg (modOp (m ((c : Thread nD τ).loc main_arg1))) ?_
  blk_ext [idxA t]

theorem rd8 (c : Dev nD) (t : Fin cfg0.N) (b : Fin 4) (k : Fin 2048) (hb : b.val = t.val / 32) : iblk m c 8 t (ix5 0 0 0 0 k)
    = m ((c : Thread nD τ).loc main_arg1) (ix3 0 b ⟨10240 + k.val, by omega⟩) := by
  have e : V m c (Pipeline.arrRef spec0 8) = _ := V_v3 m c
  unfold iblk
  rw [e]
  refine Eq.trans ?_ (modOp_at _ 0 b 5 k _ rfl)
  refine congrArg (modOp (m ((c : Thread nD τ).loc main_arg1))) ?_
  blk_ext [idxA t]

end Cert.Kernel3Ideal.Mlp

end
-- ==== Proof.FirstValue.lean ====
/-
  What the first MLP's kernel leaves in its output array.
-/
module

public import proofs.«01_k».proof.Proof.FirstPay
public import proofs.«01_k».proof.Proof.FirstBlocks
public import Idealize.ShloMosaic.Lib.Pipeline.ValueKit

@[expose] public section

set_option maxRecDepth 16384

noncomputable section

namespace Cert.Kernel3Ideal.Mlp

open Cert.MlpSpec Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The arguments, by name. -/
def ax (c : Dev nD) (R : Fin 16384) (k : Fin 2048) : EReal := (m ((c : Thread nD τ).loc main_arg0) : FVec Ideal S16384x2048 .f32) (ix2 R k)
def ash (c : Dev nD) (b : Fin 4) (k : Fin 2048) : EReal := (m ((c : Thread nD τ).loc main_arg1) : FVec Ideal S2x4x12288 .f32) (ix3 0 b ⟨6144 + k.val, by omega⟩)
def asc (c : Dev nD) (b : Fin 4) (k : Fin 2048) : EReal := (m ((c : Thread nD τ).loc main_arg1) : FVec Ideal S2x4x12288 .f32) (ix3 0 b ⟨8192 + k.val, by omega⟩)
def aga (c : Dev nD) (b : Fin 4) (k : Fin 2048) : EReal := (m ((c : Thread nD τ).loc main_arg1) : FVec Ideal S2x4x12288 .f32) (ix3 0 b ⟨10240 + k.val, by omega⟩)
def agn (c : Dev nD) (k : Fin 2048) : EReal := (m ((c : Thread nD τ).loc main_arg2) : FVec Ideal S2x2048 .f32) (ix2 0 k)
def awu (c : Dev nD) (k : Fin 2048) (u : Fin 8192) : EReal := (m ((c : Thread nD τ).loc main_arg3) : FVec Ideal S2x2048x8192 .bf16) (ix3 0 k u)
def awd (c : Dev nD) (u : Fin 8192) (k : Fin 2048) : EReal := (m ((c : Thread nD τ).loc main_arg4) : FVec Ideal S2x8192x2048 .bf16) (ix3 0 u k)
theorem pt_lt (n : ℕ) (h : n < 128) : (pt n).val = n := Nat.mod_eq_of_lt h

theorem pt_eq (t : Fin cfg0.N) (n : ℕ) (h : t.val = n) : pt n = t := h ▸ pt_val t

theorem hidden_at (c : Dev nD) (i : ℕ) (hi : i < 32) (r : Fin 512) (k : Fin 2048) (R : Fin 16384) (hR : R.val = 512 * i + r)
    (b : Fin 4) (hb : b.val = i / 8) :
    hidden m c i (ix3 0 r k) = hid (ax m c R) (agn m c) (asc m c b) (ash m c b) k := by
  cases i with
  | zero =>
    refine (pay1_at _ _ _ _ r k).trans ?_
    have e0 : (fun k => iblk m c 0 (pt 0) (ix2 r k)) = ax m c R := funext fun k =>
      (rd0 m c (pt 0) r k).trans (congrArg (fun R => ax m c R k) (Fin.ext (by show r.val = R.val; omega)))
    have e1 : (fun k => iblk m c 3 (pt 0) (ix2 0 k)) = agn m c := funext fun k => rd3 m c (pt 0) k
    have e2 : (fun k => iblk m c 5 (pt 0) (ix5 0 0 0 0 k)) = asc m c b := funext fun k => rd5 m c (pt 0) b k (by rw [hb]; rfl)
    have e3 : (fun k => iblk m c 4 (pt 0) (ix5 0 0 0 0 k)) = ash m c b := funext fun k => rd4 m c (pt 0) b k (by rw [hb]; rfl)
    rw [e0, e1, e2, e3]
  | succ i =>
    have hr := r.isLt
    have ht : (pt (4 * i + r.val / 128)).val = 4 * i + r.val / 128 := pt_lt _ (by omega)
    show rows m c (pt (4 * i + r.val / 128)) (ix3 0 ⟨r.val % 128, Nat.mod_lt _ (by decide)⟩ k) = _
    unfold rows
    refine (prep_at _ _ _ _ _ k).trans ?_
    generalize pt (4 * i + r.val / 128) = t at ht ⊢
    have e0 : (fun k => iblk m c 2 t (ix2 ⟨r.val % 128, Nat.mod_lt _ (by decide)⟩ k)) = ax m c R := funext fun k =>
      rd2 m c t R _ k (by omega) (by show R.val = 512 * (t.val / 4 + 1) + 128 * (t.val % 4) + r.val % 128; omega)
    have e1 : (fun k => iblk m c 3 t (ix2 0 k)) = agn m c := funext fun k => rd3 m c t k
    have e2 : (fun k => iblk m c 7 t (ix5 0 0 0 0 k)) = asc m c b := funext fun k => rd7 m c t b k (by omega) (by omega)
    have e3 : (fun k => iblk m c 6 t (ix5 0 0 0 0 k)) = ash m c b := funext fun k => rd6 m c t b k (by omega) (by omega)
    rw [e0, e1, e2, e3]

/-- A term of the down product. -/
def term (c : Dev nD) (R : Fin 16384) (b : Fin 4) (j : Fin 2048) (u : Fin 8192) : EReal :=
  act (hid (ax m c R) (agn m c) (asc m c b) (ash m c b)) (fun k => awu m c k u) * awd m c u j

theorem contrib_at (c : Dev nD) (t : Fin cfg0.N) (n : Fin 2) (q : Fin 8) (hq : q.val = 2 * (t.val % 4) + n) (r : Fin 512) (j : Fin 2048)
    (R : Fin 16384) (hR : R.val = 512 * (t.val / 4) + r) (b : Fin 4) (hb : b.val = t.val / 32) :
    contrib (hidden m c (t.val / 4)) (iblk m c 8 t) (iblk m c 9 t) (iblk m c 10 t) n r j
      = aga m c b j * ∑ p : Fin 1024, term m c R b j ⟨1024 * q + p, by omega⟩ := by
  have hN : t.val < 128 := lt_of_lt_of_eq t.isLt (show cfg0.N = 128 from N_0)
  have hH : (fun k => hidden m c (t.val / 4) (ix3 0 r k)) = hid (ax m c R) (agn m c) (asc m c b) (ash m c b) :=
    funext fun k => hidden_at m c _ (by omega) r k R hR b (by omega)
  unfold contrib term
  rw [hH]
  refine congrArg₂ (· * ·) (rd8 m c t b j hb) (Finset.sum_congr rfl fun p _ => congrArg₂ (· * ·) (congrArg (act _) (funext fun k => ?_)) ?_)
  · exact rd9 m c t k _ _ (by show 1024 * q.val + p.val = 2048 * (t.val % 4) + (1024 * n.val + p.val); omega)
  · exact rd10 m c t _ j _ (by show 1024 * q.val + p.val = 2048 * (t.val % 4) + (1024 * n.val + p.val); omega)

theorem added_at (c : Dev nD) (t : Fin cfg0.N) (r : Fin 512) (j : Fin 2048) (R : Fin 16384) (hR : R.val = 512 * (t.val / 4) + r) :
    (if r.val / 128 = (grid0.coords t 1).val then (iblk m c 1 t : FVec Ideal S128x2048 .f32) (ix2 ⟨r.val % 128, Nat.mod_lt _ (by decide)⟩ j) else (0 : EReal))
      = if r.val / 128 = t.val % 4 then ax m c R j else 0 := by
  rw [coord1]
  by_cases h : r.val / 128 = t.val % 4
  · rw [if_pos h, if_pos h]
    exact rd1 m c t R _ j (by show R.val = 128 * t.val + r.val % 128; omega)
  · rw [if_neg h, if_neg h]

/-- The eighth part of the gated product. -/
def eighth (c : Dev nD) (R : Fin 16384) (b : Fin 4) (j : Fin 2048) (q : Fin 8) : EReal :=
  aga m c b j * ∑ p : Fin 1024, term m c R b j ⟨1024 * q + p, by omega⟩

theorem first_at (c : Dev nD) (t : Fin cfg0.N) (h : t.val % 4 = 0) (r : Fin 512) (j : Fin 2048) (R : Fin 16384)
    (hR : R.val = 512 * (t.val / 4) + r) (b : Fin 4) (hb : b.val = t.val / 32) :
    outAt m c t.val (ix2 r j) = eighth m c R b j 0 + eighth m c R b j 1 + if r.val / 128 = 0 then ax m c R j else 0 := by
  rw [outAt_start m c t h]
  refine (resid_at _ _ _ r j).trans ?_
  rw [start_at]
  refine congrArg₂ (· + ·) (congrArg₂ (· + ·) (contrib_at m c t 0 0 (by rw [h]; rfl) r j R hR b hb) (contrib_at m c t 1 1 (by rw [h]; rfl) r j R hR b hb)) ?_
  exact (added_at m c t r j R hR).trans (by rw [h])

theorem later_at (c : Dev nD) (t : Fin cfg0.N) (q q' : Fin 8) (hq : q.val = 2 * (t.val % 4)) (hq' : q'.val = 2 * (t.val % 4) + 1) (o : FVec Ideal S512x2048 .f32) (r : Fin 512) (j : Fin 2048) (R : Fin 16384)
    (hR : R.val = 512 * (t.val / 4) + r) (b : Fin 4) (hb : b.val = t.val / 32) :
    more (F := Ideal) (hidden m c (t.val / 4)) (iblk m c 8 t) (iblk m c 9 t) (iblk m c 10 t) (resid (F := Ideal) (grid0.coords t) o (iblk m c 1 t)) (ix2 r j)
      = o (ix2 r j) + (if r.val / 128 = t.val % 4 then ax m c R j else 0) + eighth m c R b j q + eighth m c R b j q' := by
  refine (more_at _ _ _ _ _ r j).trans ?_
  refine congrArg₂ (· + ·) (congrArg₂ (· + ·) ?_ (contrib_at m c t 0 q hq r j R hR b hb)) (contrib_at m c t 1 q' hq' r j R hR b hb)
  refine (resid_at _ _ _ r j).trans (congrArg (_ + ·) ?_)
  exact added_at m c t r j R hR

/-- The finished sum of a tile, with the residual. -/
theorem tile_at (c : Dev nD) (t : Fin cfg0.N) (h : t.val % 4 = 3) (r : Fin 512) (j : Fin 2048) (R : Fin 16384)
    (hR : R.val = 512 * (t.val / 4) + r) (b : Fin 4) (hb : b.val = t.val / 32) :
    more (F := Ideal) (hidden m c (t.val / 4)) (iblk m c 8 t) (iblk m c 9 t) (iblk m c 10 t) (resid (F := Ideal) (grid0.coords t) (outAt m c (t.val - 1)) (iblk m c 1 t)) (ix2 r j)
      = ax m c R j + ∑ q : Fin 8, eighth m c R b j q := by
  have hN : t.val < 128 := lt_of_lt_of_eq t.isLt (show cfg0.N = 128 from N_0)
  have h0 : (pt (t.val - 3)).val = t.val - 3 := pt_lt _ (by omega)
  have h1 : (pt (t.val - 2)).val = t.val - 2 := pt_lt _ (by omega)
  have h2 : (pt (t.val - 1)).val = t.val - 1 := pt_lt _ (by omega)
  have f0 : outAt m c (t.val - 3) (ix2 r j) = _ := (congrArg (fun n => outAt m c n (ix2 r j)) h0.symm).trans
    (first_at m c (pt (t.val - 3)) (by omega) r j R (by omega) b (by omega))
  have e1 := outAt_more m c (pt (t.val - 2)) (by omega)
  have f1 : outAt m c (t.val - 2) (ix2 r j) = _ := (congrFun ((congrArg (outAt m c) h1.symm).trans e1) (ix2 r j)).trans
    (later_at m c (pt (t.val - 2)) 2 3 (by rw [h1]; show 2 = 2 * ((t.val - 2) % 4); omega) (by rw [h1]; show 3 = 2 * ((t.val - 2) % 4) + 1; omega) _ r j R (by omega) b (by omega))
  have e2 := outAt_more m c (pt (t.val - 1)) (by omega)
  have f2 : outAt m c (t.val - 1) (ix2 r j) = _ := (congrFun ((congrArg (outAt m c) h2.symm).trans e2) (ix2 r j)).trans
    (later_at m c (pt (t.val - 1)) 4 5 (by rw [h2]; show 4 = 2 * ((t.val - 1) % 4); omega) (by rw [h2]; show 5 = 2 * ((t.val - 1) % 4) + 1; omega) _ r j R (by omega) b (by omega))
  have f3 := later_at m c t 6 7 (by rw [h]; rfl) (by rw [h]; rfl) (outAt m c (t.val - 1)) r j R hR b hb
  rw [f3, f2, show (pt (t.val - 1)).val - 1 = t.val - 2 by omega, f1, show (pt (t.val - 2)).val - 1 = t.val - 3 by omega, f0, h,
    show (pt (t.val - 1)).val % 4 = 2 by omega, show (pt (t.val - 2)).val % 4 = 1 by omega, Fin.sum_univ_eight]
  generalize eighth m c R b j 0 = a0
  generalize eighth m c R b j 1 = a1
  generalize eighth m c R b j 2 = a2
  generalize eighth m c R b j 3 = a3
  generalize eighth m c R b j 4 = a4
  generalize eighth m c R b j 5 = a5
  generalize eighth m c R b j 6 = a6
  generalize eighth m c R b j 7 = a7
  generalize ax m c R j = x
  have hr : r.val / 128 < 4 := by have := r.isLt; omega
  generalize r.val / 128 = w at hr
  interval_cases w <;> simp only [if_true, if_false, reduceIte, Nat.reduceEqDiff, OfNat.zero_ne_ofNat, OfNat.ofNat_ne_zero, zero_ne_one, one_ne_zero, OfNat.one_ne_ofNat, OfNat.ofNat_ne_one, add_zero] <;> ac_rfl

/-- The whole output array. -/
def mlpOut (c : Dev nD) : FVec Ideal S16384x2048 .f32 := fun y =>
  body (ax m c (y 0)) (agn m c) (asc m c ⟨(y 0).val / 4096, Nat.div_lt_of_lt_mul (y 0).isLt⟩) (ash m c ⟨(y 0).val / 4096, Nat.div_lt_of_lt_mul (y 0).isLt⟩)
    (aga m c ⟨(y 0).val / 4096, Nat.div_lt_of_lt_mul (y 0).isLt⟩) (awu m c) (awd m c) (y 1)

/-- Real numbers where the distributive law is used. -/
structure RealArgs (c : Dev nD) : Prop where
  sh : ∀ b k, ∃ v : ℝ, ash m c b k = v
  sc : ∀ b k, ∃ v : ℝ, asc m c b k = v
  ga : ∀ b k, ∃ v : ℝ, aga m c b k = v
  gn : ∀ k, ∃ v : ℝ, agn m c k = v
  wu : ∀ k u, ∃ v : ℝ, awu m c k u = v
  wd : ∀ u k, ∃ v : ℝ, awd m c u k = v

theorem body_at (c : Dev nD) (hr : RealArgs m c) (R : Fin 16384) (b : Fin 4) (j : Fin 2048) :
    ax m c R j + ∑ q : Fin 8, eighth m c R b j q = body (ax m c R) (agn m c) (asc m c b) (ash m c b) (aga m c b) (awu m c) (awd m c) j := by
  refine congrArg (_ + ·) ((gated (aga m c b j) (term m c R b j) (hr.ga b j) fun u => ?_).symm)
  obtain ⟨p, hp⟩ := real_act (hid (ax m c R) (agn m c) (asc m c b) (ash m c b)) (fun k => awu m c k u)
    (real_hid _ _ _ _ hr.gn (hr.sc b) (hr.sh b)) (fun k => hr.wu k u)
  obtain ⟨w, hw⟩ := hr.wd u j
  exact ⟨p * w, by unfold term; rw [hp, hw, EReal.coe_mul]⟩

theorem block_at (c : Dev nD) (hr : RealArgs m c) (t : Fin cfg0.N) (h : t.val % 4 = 3) (r : Fin 512) (j : Fin 2048) (R : Fin 16384)
    (hR : R.val = 512 * (t.val / 4) + r) : outAt m c t.val (ix2 r j) = mlpOut m c (ix2 R j) := by
  have hN : t.val < 128 := lt_of_lt_of_eq t.isLt (show cfg0.N = 128 from N_0)
  rw [outAt_more m c t (by omega)]
  exact (tile_at m c t h r j R hR ⟨R.val / 4096, Nat.div_lt_of_lt_mul R.isLt⟩ (by show R.val / 4096 = t.val / 32; omega)).trans (body_at m c hr R _ j)

theorem final (c : Dev nD) (hr : RealArgs m c) : (dats m 0 c).arrAt 12 (cfgs 0).N = mlpOut m c := by
  refine (dats m 0 c).arrAt_eq_of_covers 12 _ (by decide +kernel) fun t hf y => ?_
  have h3 := (flush0_12 t).mp hf
  blk_simp; rw [after0_12]
  obtain ⟨r, j, rfl⟩ : ∃ (r : Fin 512) (j : Fin 2048), y = ix2 r j := ⟨y 0, y 1, by idx_vars y⟩
  have hN : t.val < 128 := lt_of_lt_of_eq t.isLt (show cfg0.N = 128 from N_0)
  refine (block_at m c hr t h3 r j ⟨512 * (t.val / 4) + r.val, by omega⟩ rfl).trans ?_
  blk_ext [idxA t]

end Cert.Kernel3Ideal.Mlp

end
-- ==== Proof.FirstRef.lean ====
/-
  The first MLP's reference, read at an index.
-/
module

public import proofs.«01_k».proof.Proof.MlpSpec
public import proofs.«01_k».proof.Proof.Gen.Reference3Ideal.Run
public import Idealize.ShloMosaic.Lib.Pipeline.ValueKit

@[expose] public section

set_option maxRecDepth 16384

noncomputable section

namespace Cert.Reference3Ideal.Mlp

open Cert.MlpSpec Cert.Reference3Ideal Cert.Reference3Ideal.Gen Idealize.ShloMosaic Idealize.ShloMosaic.TcCoe Idealize.SL.Sem

/-- The rows, each over the root of its mean square. -/
def unitRows (x : FVec Ideal S4x4096x2048 .f32) : FVec Ideal S4x4096x2048 .f32 :=
  mulf x (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf x x) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32)))))

/-- A 2048-wide part of the first layer's modulation. -/
abbrev part0 (y : FVec Ideal S2x4x12288 .f32) : FVec Ideal S4x1x2048 .f32 :=
  broadcastInDim S4x1x2048 ![0, 2] bcast_S4x2048_S4x1x2048_0_2 (shapeCast S4x2048 (extractStridedSlice S1x4x2048 ![0, 0, 6144] y slices_S2x4x12288_S1x4x2048_0_0_6144) shapeCasts_S1x4x2048_S4x2048)
abbrev part1 (y : FVec Ideal S2x4x12288 .f32) : FVec Ideal S4x1x2048 .f32 :=
  broadcastInDim S4x1x2048 ![0, 2] bcast_S4x2048_S4x1x2048_0_2 (shapeCast S4x2048 (extractStridedSlice S1x4x2048 ![0, 0, 8192] y slices_S2x4x12288_S1x4x2048_0_0_8192) shapeCasts_S1x4x2048_S4x2048)
abbrev part2 (y : FVec Ideal S2x4x12288 .f32) : FVec Ideal S4x1x2048 .f32 :=
  broadcastInDim S4x1x2048 ![0, 2] bcast_S4x2048_S4x1x2048_0_2 (shapeCast S4x2048 (extractStridedSlice S1x4x2048 ![0, 0, 10240] y slices_S2x4x12288_S1x4x2048_0_0_10240) shapeCasts_S1x4x2048_S4x2048)

/-- The normalised and modulated rows. -/
def modRows (n : FVec Ideal S4x4096x2048 .f32) (y : FVec Ideal S2x4x12288 .f32) (g : FVec Ideal S2x2048 .f32) : FVec Ideal S4x4096x2048 .f32 :=
  addf (mulf (mulf n (broadcastInDim S4x4096x2048 ![0, 1, 2] bcast_S1x1x2048_S4x4096x2048_0_1_2 (broadcastInDim S1x1x2048 ![2] bcast_S2048_S1x1x2048_2
      (shapeCast S2048 (extractStridedSlice S1x2048 ![0, 0] g slices_S2x2048_S1x2048_0_0) shapeCasts_S1x2048_S2048))))
    (broadcastInDim S4x4096x2048 ![0, 1, 2] bcast_S4x1x2048_S4x4096x2048_0_1_2 (addf (broadcastInDim S4x1x2048 ![] bcast_S_S4x1x2048 (constant S_ .f32 0x3F800000#32)) (part1 y))))
    (broadcastInDim S4x4096x2048 ![0, 1, 2] bcast_S4x1x2048_S4x4096x2048_0_1_2 (part0 y))

/-- The up product, rectified. -/
def upRows (h : FVec Ideal S4x4096x2048 .f32) (wu : FVec Ideal S2x2048x8192 .bf16) : FVec Ideal S4x4096x8192 .f32 :=
  maximumf (Host.dotGeneral dot_S4x4096x2048_S2048x8192_S4x4096x8192_2_0_01_1_n_n none h
    (extf .f32 (shapeCast S2048x8192 (extractStridedSlice S1x2048x8192 ![0, 0, 0] wu slices_S2x2048x8192_S1x2048x8192_0_0_0) shapeCasts_S1x2048x8192_S2048x8192) bitsLt_bf16_f32))
    (broadcastInDim S4x4096x8192 ![] bcast_S_S4x4096x8192 (constant S_ .f32 0x00000000#32))

/-- The down product. -/
def downRows (a : FVec Ideal S4x4096x8192 .f32) (wd : FVec Ideal S2x8192x2048 .bf16) : FVec Ideal S4x4096x2048 .f32 :=
  Host.dotGeneral dot_S4x4096x8192_S8192x2048_S4x4096x2048_2_0_01_1_n_n none (mulf a a)
    (extf .f32 (shapeCast S8192x2048 (extractStridedSlice S1x8192x2048 ![0, 0, 0] wd slices_S2x8192x2048_S1x8192x2048_0_0_0) shapeCasts_S1x8192x2048_S8192x2048) bitsLt_bf16_f32)

/-- The residual sum. -/
def sumRows (x d : FVec Ideal S4x4096x2048 .f32) (y : FVec Ideal S2x4x12288 .f32) : FVec Ideal S4x4096x2048 .f32 :=
  addf x (mulf (broadcastInDim S4x4096x2048 ![0, 1, 2] bcast_S4x1x2048_S4x4096x2048_0_1_2 (part2 y)) d)

abbrev byBatch (x : FVec Ideal S16384x2048 .f32) : FVec Ideal S4x4096x2048 .f32 := shapeCast S4x4096x2048 x shapeCasts_S16384x2048_S4x4096x2048

/-- The whole reference. -/
def mlpRef (x : FVec Ideal S16384x2048 .f32) (y : FVec Ideal S2x4x12288 .f32) (g : FVec Ideal S2x2048 .f32) (wu : FVec Ideal S2x2048x8192 .bf16)
    (wd : FVec Ideal S2x8192x2048 .bf16) : FVec Ideal S16384x2048 .f32 :=
  shapeCast S16384x2048 (sumRows (byBatch x) (downRows (upRows (modRows (unitRows (byBatch x)) y g) wu) wd) y) shapeCasts_S4x4096x2048_S16384x2048

theorem res_eq (m : (ℓ : Loc nD τ sig) → Buf (Elt Ideal) ℓ) (c : Dev nD) :
    Cert.Reference3Ideal.Value.res_main_v44 m c = mlpRef (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem unitRows_at (x : FVec Ideal S4x4096x2048 .f32) (b : Fin 4) (t : Fin 4096) (k : Fin 2048) :
    unitRows x (ix3 b t k) = x (ix3 b t k) * scaled (fun k => x (ix3 b t k)) := by
  pointwise [unitRows, scaled]

theorem modRows_at (n : FVec Ideal S4x4096x2048 .f32) (y : FVec Ideal S2x4x12288 .f32) (g : FVec Ideal S2x2048 .f32) (b : Fin 4) (t : Fin 4096) (k : Fin 2048) :
    modRows n y g (ix3 b t k) = n (ix3 b t k) * g (ix2 0 k) * (Ideal.ofBits .f32 0x3F800000#32 + y (ix3 0 b ⟨8192 + k.val, by omega⟩)) + y (ix3 0 b ⟨6144 + k.val, by omega⟩) := by
  pointwise [modRows]

theorem upRows_at (h : FVec Ideal S4x4096x2048 .f32) (wu : FVec Ideal S2x2048x8192 .bf16) (b : Fin 4) (t : Fin 4096) (u : Fin 8192) :
    upRows h wu (ix3 b t u) = max (∑ k : Fin 2048, h (ix3 b t k) * wu (ix3 0 k u)) (Ideal.ofBits .f32 0x00000000#32) := by
  pointwise [upRows]

theorem downRows_at (a : FVec Ideal S4x4096x8192 .f32) (wd : FVec Ideal S2x8192x2048 .bf16) (b : Fin 4) (t : Fin 4096) (j : Fin 2048) :
    downRows a wd (ix3 b t j) = ∑ u : Fin 8192, a (ix3 b t u) * a (ix3 b t u) * wd (ix3 0 u j) := by
  pointwise [downRows]

theorem sumRows_at (x d : FVec Ideal S4x4096x2048 .f32) (y : FVec Ideal S2x4x12288 .f32) (b : Fin 4) (t : Fin 4096) (j : Fin 2048) :
    sumRows x d y (ix3 b t j) = x (ix3 b t j) + y (ix3 0 b ⟨10240 + j.val, by omega⟩) * d (ix3 b t j) := by
  pointwise [sumRows]

theorem byBatch_at (x : FVec Ideal S16384x2048 .f32) (R : Fin 16384) (b : Fin 4) (t : Fin 4096) (k : Fin 2048) (hR : R.val = 4096 * b + t) :
    byBatch x (ix3 b t k) = x (ix2 R k) := by
  unfold byBatch
  pointwise
  exact congrArg (fun R => x (ix2 R k)) (Fin.ext (by show b.val * 4096 + t.val = R.val; omega))

theorem flat_at (z : FVec Ideal S4x4096x2048 .f32) (R : Fin 16384) (b : Fin 4) (t : Fin 4096) (k : Fin 2048) (hR : R.val = 4096 * b + t) :
    shapeCast S16384x2048 z shapeCasts_S4x4096x2048_S16384x2048 (ix2 R k) = z (ix3 b t k) := by
  pointwise
  exact congrArg₂ (fun b t => z (ix3 b t k)) (Fin.ext (by show R.val / 4096 = b.val; omega)) (Fin.ext (by show R.val % 4096 = t.val; omega))

/-- The reference's entry at row `R` of batch `b`. -/
theorem mlpRef_at (x : FVec Ideal S16384x2048 .f32) (y : FVec Ideal S2x4x12288 .f32) (g : FVec Ideal S2x2048 .f32) (wu : FVec Ideal S2x2048x8192 .bf16)
    (wd : FVec Ideal S2x8192x2048 .bf16) (R : Fin 16384) (b : Fin 4) (hb : b.val = R.val / 4096) (j : Fin 2048) :
    mlpRef x y g wu wd (ix2 R j) = body (fun k => x (ix2 R k)) (fun k => g (ix2 0 k)) (fun k => y (ix3 0 b ⟨8192 + k.val, by omega⟩))
      (fun k => y (ix3 0 b ⟨6144 + k.val, by omega⟩)) (fun k => y (ix3 0 b ⟨10240 + k.val, by omega⟩))
      (fun k u => wu (ix3 0 k u)) (fun u k => wd (ix3 0 u k)) j := by
  have hR : R.val = 4096 * b + (⟨R.val % 4096, Nat.mod_lt _ (by decide)⟩ : Fin 4096) := by show R.val = 4096 * b.val + R.val % 4096; omega
  unfold mlpRef
  rw [flat_at _ R b _ j hR]
  simp only [sumRows_at, downRows_at, upRows_at, modRows_at, unitRows_at, byBatch_at x R b _ _ hR]
  rfl

end Cert.Reference3Ideal.Mlp

end
-- ==== Proof.FirstFinite.lean ====
/-
  What the precondition gives for the first layer: the modulation, the gain and the weights are real numbers.
-/
module

public import proofs.«01_k».proof.Proof.Finite
public import proofs.«01_k».proof.Pre_finite_first
public import Idealize.ShloMosaic.Lib.Pipeline.ValueKit
public import Idealize.ShloMosaic.Lib.ReduceAll

@[expose] public section

set_option maxRecDepth 16384

noncomputable section

namespace Cert.Pre_finite_first

open Idealize.ShloMosaic
open Cert.Pre_finite_logits (real_of_lt)

instance facts : Facts where
  slices_S2x4x12288_S1x4x6144_0_0_6144 := by decide +kernel
  shapeCasts_S1x4x6144_S4x6144 := by decide +kernel
  bcast_S_S4x6144 := by decide +kernel
  reducesTo_S4x6144_S_d0_1 := by decide +kernel
  h_S_ := by decide
  slices_S2x2048_S1x2048_0_0 := by decide +kernel
  shapeCasts_S1x2048_S2048 := by decide +kernel
  bcast_S_S2048 := by decide +kernel
  reducesTo_S2048_S_d0 := by decide +kernel
  slices_S2x2048x8192_S1x2048x8192_0_0_0 := by decide +kernel
  shapeCasts_S1x2048x8192_S2048x8192 := by decide +kernel
  bitsLt_bf16_f32 := by decide
  bcast_S_S2048x8192 := by decide +kernel
  reducesTo_S2048x8192_S_d0_1 := by decide +kernel
  slices_S2x8192x2048_S1x8192x2048_0_0_0 := by decide +kernel
  shapeCasts_S1x8192x2048_S8192x2048 := by decide +kernel
  bcast_S_S8192x2048 := by decide +kernel
  reducesTo_S8192x2048_S_d0_1 := by decide +kernel

theorem real_of_fn (x : FVec Ideal S16384x2048 .f32) (y : FVec Ideal S2x4x12288 .f32) (g : FVec Ideal S2x2048 .f32)
    (wu : FVec Ideal S2x2048x8192 .bf16) (wd : FVec Ideal S2x8192x2048 .bf16) (f : FVec Ideal S2048 .f32)
    (h : fn (F := Ideal) x y g wu wd f = fun _ => 1#1) :
    (∀ (b : Fin 4) (k : Fin 6144), ∃ v : ℝ, y (ix3 0 b ⟨6144 + k.val, by omega⟩) = v) ∧ (∀ k : Fin 2048, ∃ v : ℝ, g (ix2 0 k) = v)
      ∧ (∀ (k : Fin 2048) (u : Fin 8192), ∃ v : ℝ, wu (ix3 0 k u) = v) ∧ ∀ (u : Fin 8192) (k : Fin 2048), ∃ v : ℝ, wd (ix3 0 u k) = v := by
  have h0 := congrFun h ix0
  obtain ⟨h123, h4⟩ := IntOp.andi_eq_one.1 h0
  obtain ⟨h12, h3⟩ := IntOp.andi_eq_one.1 h123
  obtain ⟨h1, h2⟩ := IntOp.andi_eq_one.1 h12
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨fun b k => ?_, fun k => ?_, fun k u => ?_, fun u k => ?_⟩
  · obtain ⟨v, hv⟩ := real_of_lt _ (h1 (ix2 b k))
    refine ⟨v, Eq.trans ?_ hv⟩
    pointwise
  · obtain ⟨v, hv⟩ := real_of_lt _ (h2 (ix1 k))
    refine ⟨v, Eq.trans ?_ hv⟩
    pointwise
  · obtain ⟨v, hv⟩ := real_of_lt _ (h3 (ix2 k u))
    refine ⟨v, Eq.trans ?_ hv⟩
    pointwise
  · obtain ⟨v, hv⟩ := real_of_lt _ (h4 (ix2 u k))
    refine ⟨v, Eq.trans ?_ hv⟩
    pointwise

end Cert.Pre_finite_first

end
-- ==== Proof.Outproj.lean ====
/-
  The gated output projection: what its kernel and its reference leave.
-/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Kernel5Ideal.Outproj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The batch of a row. -/
abbrev batch (R : Fin 16384) : Fin 4 := ⟨R.val / 4096, Nat.div_lt_of_lt_mul R.isLt⟩

/-- A row's residual plus its gated projection. -/
def projected (a : FVec Ideal S16384x2048 .bf16) (w : FVec Ideal S2048x2048 .bf16) (x : FVec Ideal S16384x2048 .f32)
    (y : FVec Ideal S2x4x12288 .f32) : FVec Ideal S16384x2048 .f32 := fun i =>
  x (ix2 (i 0) (i 1)) + y (ix3 0 (batch (i 0)) ⟨4096 + (i 1).val, by have h : (i 1).val < 2048 := (i 1).isLt; omega⟩)
    * ∑ k : Fin 2048, a (ix2 (i 0) k) * w (ix2 k (i 1))

theorem idxA : ∀ t : Fin cfg0.N, win0_0.index t = ![t.val, 0]
    ∧ win0_1.index t = ![0, 0]
    ∧ win0_2.index t = ![t.val, 0]
    ∧ win0_3.index t = ![0, t.val / 8, 2, 0, 0]
    ∧ win0_4.index t = ![t.val, 0] :=
  (by decide +kernel : ∀ t : Fin grid0.N, _)

theorem V_v0 (c : Dev nD) : (V m c main_v0 : FVec Ideal S2x4x6x1x2048 .f32) = shapeCast S2x4x6x1x2048 (m ((c : Thread nD τ).loc main_arg3) : FVec Ideal S2x4x12288 .f32) shapeCasts_S2x4x12288_S2x4x6x1x2048 := by
  simp only [V, hostOps0, List.flatten_cons, List.flatten_nil, List.append_nil, List.cons_append, List.nil_append]
  after_results_simp <;> rfl

/-- The modulation table as the launch gets it. -/
abbrev modOp (x : FVec Ideal S2x4x12288 .f32) : FVec Ideal S2x4x6x1x2048 .f32 :=
  shapeCast S2x4x6x1x2048 x shapeCasts_S2x4x12288_S2x4x6x1x2048

theorem modOp_at (x : FVec Ideal S2x4x12288 .f32) (l : Fin 2) (b : Fin 4) (o : Fin 6) (k : Fin 2048) (j : Fin 12288) (hj : j.val = 2048 * o + k) :
    modOp x (ix5 l b o 0 k) = x (ix3 l b j) := by
  unfold modOp
  pointwise
  exact congrArg (fun j => x (ix3 l b j)) (Fin.ext (by simp; omega))

theorem pay1_at (x : Vec Ideal S512x2048 .f32) (g : Vec Ideal S1x1x1x1x2048 .f32) (a : Vec Ideal S512x2048 .bf16) (w : Vec Ideal S2048x2048 .bf16)
    (r : Fin 512) (j : Fin 2048) :
    k0_pay1 (F := Ideal) x g a w (ix2 r j) = x (ix2 r j) + g (ix5 0 0 0 0 j) * ∑ k : Fin 2048, a (ix2 r k) * w (ix2 k j) := by
  pointwise [k0_pay1]

theorem final (c : Dev nD) : (dats m 0 c).arrAt 4 (cfgs 0).N
    = projected (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  frame_out
  obtain ⟨r, j, rfl⟩ : ∃ (r : Fin 512) (j : Fin 2048), y = ix2 r j := ⟨y 0, y 1, by idx_vars y⟩
  have hN : t.val < 32 := lt_of_lt_of_eq t.isLt (show cfg0.N = 32 from N_0)
  have hR : 512 * t.val + r.val < 16384 := by have := r.isLt; omega
  have hy : ((View.whole main_v1).slice (win0_4.rect t)).emb (ix2 r j) = ix2 ⟨512 * t.val + r.val, hR⟩ j := by
    blk_ext [idxA t]
  have e0 : ∀ k : Fin 2048, iblk m c 0 t (ix2 r k) = m ((c : Thread nD τ).loc main_arg0) (ix2 ⟨512 * t.val + r.val, hR⟩ k) := fun k => by
    blk_ext [iblk, V, idxA t]
  have e1 : ∀ k : Fin 2048, iblk m c 1 t (ix2 k j) = m ((c : Thread nD τ).loc main_arg1) (ix2 k j) := fun k => by
    blk_ext [iblk, V, idxA t]
  have e2 : iblk m c 2 t (ix2 r j) = m ((c : Thread nD τ).loc main_arg2) (ix2 ⟨512 * t.val + r.val, hR⟩ j) := by
    blk_ext [iblk, V, idxA t]
  have e3 : iblk m c 3 t (ix5 0 0 0 0 j) = m ((c : Thread nD τ).loc main_arg3) (ix3 0 (batch ⟨512 * t.val + r.val, hR⟩) ⟨4096 + j.val, by omega⟩) := by
    have e : V m c (Pipeline.arrRef spec0 3) = _ := V_v0 m c
    unfold iblk
    rw [e]
    refine Eq.trans ?_ (modOp_at _ 0 _ 2 j _ rfl)
    refine congrArg (modOp (m ((c : Thread nD τ).loc main_arg3))) ?_
    blk_ext [idxA t]
  refine (pay1_at _ _ _ _ r j).trans ?_
  refine Eq.trans ?_ (congrArg (projected _ _ _ _) hy.symm)
  exact congrArg₂ (· + ·) e2 (congrArg₂ (· * ·) e3 (Finset.sum_congr rfl fun k _ => congrArg₂ (· * ·) (e0 k) (e1 k)))

end Cert.Kernel5Ideal.Outproj

namespace Cert.Reference5Ideal.Outproj

open Cert.Reference5Ideal Cert.Reference5Ideal.Gen Idealize.ShloMosaic Idealize.ShloMosaic.TcCoe Idealize.SL.Sem

/-- The reference by batch. -/
def byBatch (a : FVec Ideal S16384x2048 .bf16) (w : FVec Ideal S2048x2048 .bf16) (x : FVec Ideal S16384x2048 .f32)
    (y : FVec Ideal S2x4x12288 .f32) : FVec Ideal S4x4096x2048 .f32 :=
  addf (shapeCast _ x shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S1x4x2048 ![0, 0, 4096] y slices_S2x4x12288_S1x4x2048_0_0_4096) shapeCasts_S1x4x2048_S4x2048))) (Host.dotGeneral dot_S4x4096x2048_S2048x2048_S4x4096x2048_2_0_01_1_n_n none (extf .f32 (shapeCast _ a shapeCasts_S16384x2048_S4x4096x2048) bitsLt_bf16_f32) (extf .f32 w bitsLt_bf16_f32)))

theorem byBatch_at (a : FVec Ideal S16384x2048 .bf16) (w : FVec Ideal S2048x2048 .bf16) (x : FVec Ideal S16384x2048 .f32)
    (y : FVec Ideal S2x4x12288 .f32) (b : Fin 4) (t : Fin 4096) (j : Fin 2048) :
    byBatch a w x y (ix3 b t j) = x (ix2 ⟨b.val * 4096 + t.val, by omega⟩ j) + y (ix3 0 b ⟨4096 + j.val, by omega⟩)
      * ∑ k : Fin 2048, a (ix2 ⟨b.val * 4096 + t.val, by omega⟩ k) * w (ix2 k j) := by
  pointwise [byBatch]

theorem res_eq (a : FVec Ideal S16384x2048 .bf16) (w : FVec Ideal S2048x2048 .bf16) (x : FVec Ideal S16384x2048 .f32)
    (y : FVec Ideal S2x4x12288 .f32) :
    shapeCast S16384x2048 (byBatch a w x y) shapeCasts_S4x4096x2048_S16384x2048 = Cert.Kernel5Ideal.Outproj.projected a w x y := by
  funext i
  obtain ⟨R, j, rfl⟩ : ∃ (R : Fin 16384) (j : Fin 2048), i = ix2 R j := ⟨i 0, i 1, by idx_vars i⟩
  have hR : (⟨R.val / 4096 * 4096 + R.val % 4096, by omega⟩ : Fin 16384) = R := Fin.ext (Nat.div_add_mod' _ _)
  have e : shapeCast S16384x2048 (byBatch a w x y) shapeCasts_S4x4096x2048_S16384x2048 (ix2 R j)
      = byBatch a w x y (ix3 ⟨R.val / 4096, by omega⟩ ⟨R.val % 4096, Nat.mod_lt _ (by decide)⟩ j) := by
    pointwise
  rw [e, byBatch_at]
  simp only [hR]
  rfl

end Cert.Reference5Ideal.Outproj

end
-- ==== Proof.Ada.lean ====
/-
  The first layer's modulation rows: what their kernel and their reference leave.
-/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Kernel6Ideal.Ada

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The modulation at row `r`, column `j`: the sigmoid-weighted conditions against the layer's weights, plus its bias. -/
def modulation (x : FVec Ideal S16x2048 .f32) (w : FVec Ideal S2x2048x12288 .f32) (b : FVec Ideal S2x12288 .f32) :
    FVec Ideal S1x16x12288 .f32 := fun y =>
  (∑ k : Fin 2048, x (ix2 (y 1) k) * Ideal.logistic (x (ix2 (y 1) k)) * w (ix3 0 k (y 2))) + b (ix2 0 (y 2))

theorem idxA : ∀ t : Fin cfg0.N, win0_0.index t = ![0, 0]
    ∧ win0_1.index t = ![0, 0, t.val]
    ∧ win0_2.index t = ![0, 0, t.val]
    ∧ win0_3.index t = ![0, 0, t.val] :=
  (by decide +kernel : ∀ t : Fin grid0.N, _)

/-- The conditions, padded to sixteen rows. -/
abbrev padCond (x : FVec Ideal S4x2048 .f32) : FVec Ideal S16x2048 .f32 :=
  pad S16x2048 ![0, 0] ![12, 0] ![0, 0] x (sitofp .f32 (constantI S_ 32 0#32)) pads_S4x2048_S16x2048_0120_000 h_S_

theorem V_v0 (c : Dev nD) : (V m c main_v0 : FVec Ideal S16x2048 .f32) = padCond (m ((c : Thread nD τ).loc main_arg0)) := by
  simp only [V, hostOps0, List.flatten_cons, List.flatten_nil, List.append_nil, List.cons_append,
    List.nil_append, StableHlo.TRef.unary, StableHlo.TRef.binary, StableHlo.TRef.toBuf, StableHlo.TRef.ofBuf, cast_eq]
  after_results_simp <;> rfl

theorem V_v1 (c : Dev nD) : (V m c main_v1 : FVec Ideal S2x1x12288 .f32) = shapeCast S2x1x12288 (m ((c : Thread nD τ).loc main_arg2) : FVec Ideal S2x12288 .f32) shapeCasts_S2x12288_S2x1x12288 := by
  simp only [V, hostOps0, List.flatten_cons, List.flatten_nil, List.append_nil, List.cons_append,
    List.nil_append, StableHlo.TRef.unary, StableHlo.TRef.binary, StableHlo.TRef.toBuf, StableHlo.TRef.ofBuf, cast_eq]
  after_results_simp <;> rfl

theorem pay1_at (x : Vec Ideal S16x2048 .f32) (w : Vec Ideal S1x2048x1024 .f32) (b : Vec Ideal S1x1x1024 .f32) (r : Fin 16) (j : Fin 1024) :
    k0_pay1 (F := Ideal) x w b (ix3 0 r j)
      = (∑ k : Fin 2048, x (ix2 r k) * Ideal.logistic (x (ix2 r k)) * w (ix3 0 k j)) + b (ix3 0 0 j) := by
  pointwise [k0_pay1]

theorem bias_at (b : FVec Ideal S2x12288 .f32) (j : Fin 12288) :
    shapeCast S2x1x12288 b shapeCasts_S2x12288_S2x1x12288 (ix3 0 0 j) = b (ix2 0 j) := by
  pointwise

theorem final (c : Dev nD) : (dats m 0 c).arrAt 3 (cfgs 0).N
    = modulation (padCond (m ((c : Thread nD τ).loc main_arg0))) (m ((c : Thread nD τ).loc main_arg1)) (m ((c : Thread nD τ).loc main_arg2)) := by
  refine (dats m 0 c).arrAt_eq_of_covers 3 _ (by decide +kernel) fun t hf y => ?_
  blk_simp; rw [after0_3]
  frame_out
  obtain ⟨r, j, rfl⟩ : ∃ (r : Fin 16) (j : Fin 1024), y = ix3 0 r j := ⟨y 1, y 2, by idx_vars y; exact congrArg (fun z => ix3 z _ _) (Subsingleton.elim _ _)⟩
  have hN : t.val < 12 := lt_of_lt_of_eq t.isLt (show cfg0.N = 12 from N_0)
  have hb : 1024 * t.val + (j : ℕ) < 12288 := by have := j.isLt; omega
  have hy : ((View.whole main_v2).slice (win0_3.rect t)).emb (ix3 0 r j) = ix3 0 r ⟨1024 * t.val + (j : ℕ), hb⟩ := by
    blk_ext [idxA t]
  have e0 : ∀ k : Fin 2048, iblk m c 0 t (ix2 r k) = padCond (m ((c : Thread nD τ).loc main_arg0)) (ix2 r k) := fun k => by
    have e : V m c (Pipeline.arrRef spec0 0) = _ := V_v0 m c
    unfold iblk
    rw [e]
    refine congrArg (padCond (m ((c : Thread nD τ).loc main_arg0))) ?_
    blk_ext [idxA t]
  have e1 : ∀ k : Fin 2048, iblk m c 1 t (ix3 0 k j) = m ((c : Thread nD τ).loc main_arg1) (ix3 0 k ⟨1024 * t.val + (j : ℕ), hb⟩) := fun k => by
    blk_ext [iblk, V, idxA t]
  have e2 : iblk m c 2 t (ix3 0 0 j) = m ((c : Thread nD τ).loc main_arg2) (ix2 0 ⟨1024 * t.val + (j : ℕ), hb⟩) := by
    have e : V m c (Pipeline.arrRef spec0 2) = _ := V_v1 m c
    unfold iblk
    rw [e]
    refine Eq.trans ?_ (bias_at _ _)
    refine congrArg (shapeCast S2x1x12288 (m ((c : Thread nD τ).loc main_arg2) : FVec Ideal S2x12288 .f32) shapeCasts_S2x12288_S2x1x12288) ?_
    blk_ext [idxA t]
  refine (pay1_at _ _ _ r j).trans ?_
  refine Eq.trans ?_ (congrArg (modulation _ _ _) hy.symm)
  exact congrArg₂ (· + ·) (Finset.sum_congr rfl fun k _ => congrArg₂ (· * ·) (congrArg₂ (· * ·) (e0 k) (congrArg Ideal.logistic (e0 k))) (e1 k)) e2

end Cert.Kernel6Ideal.Ada

namespace Cert.Reference6Ideal.Ada

open Cert.Reference6Ideal Cert.Reference6Ideal.Gen Idealize.ShloMosaic Idealize.ShloMosaic.TcCoe Idealize.SL.Sem

theorem mod_eq (x : FVec Ideal S16x2048 .f32) (w : FVec Ideal S2x2048x12288 .f32) (b : FVec Ideal S2x12288 .f32) :
    broadcastInDim S1x16x12288 ![1, 2] bcast_S16x12288_S1x16x12288_1_2 (addf (Host.dotGeneral dot_S16x2048_S2048x12288_S16x12288_1_0_0_1_n_n none (mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))) (shapeCast S2048x12288 (extractStridedSlice S1x2048x12288 ![0, 0, 0] w slices_S2x2048x12288_S1x2048x12288_0_0_0) shapeCasts_S1x2048x12288_S2048x12288)) (broadcastInDim S16x12288 ![0, 1] bcast_S1x12288_S16x12288_0_1 (broadcastInDim S1x12288 ![1] bcast_S12288_S1x12288_1 (shapeCast S12288 (extractStridedSlice S1x12288 ![0, 0] b slices_S2x12288_S1x12288_0_0) shapeCasts_S1x12288_S12288))))
      = Cert.Kernel6Ideal.Ada.modulation x w b := by
  funext y
  obtain ⟨r, j, rfl⟩ : ∃ (r : Fin 16) (j : Fin 12288), y = ix3 0 r j := ⟨y 1, y 2, by idx_vars y; exact congrArg (fun z => ix3 z _ _) (Subsingleton.elim _ _)⟩
  pointwise [Cert.Kernel6Ideal.Ada.modulation]
  rfl

end Cert.Reference6Ideal.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.ConvValue
public import proofs.«01_k».proof.Proof.ConvRef
public import proofs.«01_k».proof.Proof.Windows
public import proofs.«01_k».proof.Proof.RefSide
public import proofs.«01_k».proof.Proof.Modulation
public import proofs.«01_k».proof.Proof.Finite
public import proofs.«01_k».proof.Proof.MlpValue
public import proofs.«01_k».proof.Proof.MlpRef
public import proofs.«01_k».proof.Proof.MlpFinite
public import proofs.«01_k».proof.Proof.FirstValue
public import proofs.«01_k».proof.Proof.FirstRef
public import proofs.«01_k».proof.Proof.FirstFinite
public import proofs.«01_k».proof.Proof.Outproj
public import proofs.«01_k».proof.Proof.Ada
public import Idealize.ShloMosaic.Lib.Claim
public import Idealize.ShloMosaic.Adequacy
public import Idealize.ShloMosaic.Init

@[expose] public section

noncomputable section

namespace Cert.Proof

open Idealize.ShloMosaic Idealize.SL.Sem

set_option maxRecDepth 16384

theorem kernel_frame : @Cert.quiescent_Kernel Cert.Kernel.Gen.facts := fun m ρ _ => Cert.Kernel.Gen.frame m ρ

theorem ideal_frame : @Cert.quiescent_KernelIdeal Cert.KernelIdeal.Gen.facts := fun m ρ _ => Cert.KernelIdeal.Gen.frame m ρ

theorem ideal_frame_pre : @Cert.quiescent_KernelIdeal_pre_finite_logits Cert.KernelIdeal.Gen.facts Cert.Pre_finite_logits.facts :=
  fun m ρ _ => Cert.KernelIdeal.Gen.frame m ρ

theorem reference_frame : @Cert.quiescent_ReferenceIdeal Cert.ReferenceIdeal.Gen.facts := by
  intro m g _
  exact (θ_run _ _ _).mono (fun r h => ⟨fun c => (h c).2.2.2.2, sem_eq_zero_of_no_sems (by rfl) r.2⟩) (Cert.ReferenceIdeal.Value.run m g)

theorem reference_frame_pre : @Cert.quiescent_ReferenceIdeal_pre_finite_logits Cert.ReferenceIdeal.Gen.facts Cert.Pre_finite_logits.facts :=
  fun m g _ => reference_frame m g trivial

theorem value : @Cert.algebraic_KernelIdeal_ReferenceIdeal_pre_finite_logits Cert.KernelIdeal.Gen.facts Cert.ReferenceIdeal.Gen.facts Cert.Pre_finite_logits.facts := by
  pair_intro
  · run_from Cert.KernelIdeal.Value.run_blocks m g
  · run_from Cert.ReferenceIdeal.Value.run m' g'
    · have h0 : m' ((c.tc : Thread Cert.ReferenceIdeal.nD Cert.ReferenceIdeal.τ).loc Cert.ReferenceIdeal.main_arg0) = _ := (hagree c).1
      have h1 : m' ((c.tc : Thread Cert.ReferenceIdeal.nD Cert.ReferenceIdeal.τ).loc Cert.ReferenceIdeal.main_arg1) = _ := (hagree c).2.1
      rw [Cert.ReferenceIdeal.Attn.res_eq, Cert.ReferenceIdeal.Attn.attnRef_eq, h0, h1]
      exact (Cert.KernelIdeal.Attn.final9 m c fun b h t k => Cert.Pre_finite_logits.real_score _ _ _ _ _ _ _ (hpre c) b h t k).symm
    · exact (Cert.KernelIdeal.Attn.final10 m c).symm
    · exact (Cert.KernelIdeal.Attn.final11 m c).symm
    · exact (Cert.ReferenceIdeal.Attn.mod_apply _ _ _).trans (Cert.KernelIdeal.Attn.final12 m c).symm

section
attribute [local instance] Cert.Kernel2.Gen.facts Cert.Kernel2Ideal.Gen.facts

/-- The two programs of the MLP have one text, so their body tables are equal. -/
theorem bodies_eq : Cert.Kernel2.defs₀ (F := Bits) = Cert.Kernel2Ideal.defs₀ (F := Bits) := by
  funext p ℓ a
  cases p with
  | tc =>
    match ℓ, a with
    | ⟨0, _⟩, (t, s) => rfl
  | scScalar _ => rfl
  | scVector _ _ => rfl

theorem table_eq : Cert.Kernel2.defs (F := Bits) = Cert.Kernel2Ideal.defs (F := Bits) :=
  congrArg (Pipeline.defs (Cert.Kernel2Ideal.pcfgs (F := Bits))) bodies_eq

end

theorem kernel2_frame : @Cert.quiescent_Kernel2 Cert.Kernel2.Gen.facts := by
  intro m ρ _
  have h := Cert.Kernel2Ideal.Mlp.frame (F := Bits) m ρ
  rw [← table_eq] at h
  exact h

theorem ideal2_frame : @Cert.quiescent_Kernel2Ideal Cert.Kernel2Ideal.Gen.facts := fun m ρ _ => Cert.Kernel2Ideal.Mlp.frame m ρ

theorem ideal2_frame_pre : @Cert.quiescent_Kernel2Ideal_pre_finite_layer Cert.Kernel2Ideal.Gen.facts Cert.Pre_finite_layer.facts :=
  fun m ρ _ => Cert.Kernel2Ideal.Mlp.frame m ρ

theorem reference2_frame : @Cert.quiescent_Reference2Ideal Cert.Reference2Ideal.Gen.facts := by
  intro m g _
  exact (θ_run _ _ _).mono (fun r h => ⟨fun c => (h c).2, sem_eq_zero_of_no_sems (by rfl) r.2⟩) (Cert.Reference2Ideal.Value.run m g)

theorem reference2_frame_pre : @Cert.quiescent_Reference2Ideal_pre_finite_layer Cert.Reference2Ideal.Gen.facts Cert.Pre_finite_layer.facts :=
  fun m g _ => reference2_frame m g trivial

/-- The reference of the MLP on a memory's arguments is the kernel's output array. -/
theorem mlp_eq (m : (ℓ : Loc Cert.Kernel2Ideal.nD Cert.Kernel2Ideal.τ Cert.Kernel2Ideal.sig) → Buf (Elt Ideal) ℓ) (c : Dev Cert.Kernel2Ideal.nD) :
    Cert.Reference2Ideal.Mlp.mlpRef (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = Cert.Kernel2Ideal.Mlp.mlpOut m c := by
  funext y
  obtain ⟨R, j, rfl⟩ : ∃ (R : Fin 16384) (j : Fin 2048), y = ix2 R j := ⟨y 0, y 1, by idx_vars y⟩
  exact Cert.Reference2Ideal.Mlp.mlpRef_at _ _ _ _ _ _ R _ rfl j

theorem real_args (m : (ℓ : Loc Cert.Kernel2Ideal.nD Cert.Kernel2Ideal.τ Cert.Kernel2Ideal.sig) → Buf (Elt Ideal) ℓ) (c : Dev Cert.Kernel2Ideal.nD)
    (h : @Cert.Pre_Kernel2Ideal_finite_layer Cert.Pre_finite_layer.facts m) : Cert.Kernel2Ideal.Mlp.RealArgs m c := by
  obtain ⟨hy, hg, hu, hd⟩ := Cert.Pre_finite_layer.real_of_fn _ _ _ _ _ _ (h c)
  refine ⟨fun b k => hy b ⟨k.val, by omega⟩, fun b k => ?_, fun b k => ?_, hg, hu, hd⟩
  · obtain ⟨v, hv⟩ := hy b ⟨2048 + k.val, by omega⟩
    exact ⟨v, Eq.trans (congrArg (fun q => (m ((c.tc : Thread Cert.Kernel2Ideal.nD Cert.Kernel2Ideal.τ).loc Cert.Kernel2Ideal.main_arg1) : FVec Ideal Cert.Kernel2Ideal.S2x4x12288 .f32) (ix3 1 b q))
      (Fin.ext (by show 8192 + k.val = 6144 + (2048 + k.val); omega))) hv⟩
  · obtain ⟨v, hv⟩ := hy b ⟨4096 + k.val, by omega⟩
    exact ⟨v, Eq.trans (congrArg (fun q => (m ((c.tc : Thread Cert.Kernel2Ideal.nD Cert.Kernel2Ideal.τ).loc Cert.Kernel2Ideal.main_arg1) : FVec Ideal Cert.Kernel2Ideal.S2x4x12288 .f32) (ix3 1 b q))
      (Fin.ext (by show 10240 + k.val = 6144 + (4096 + k.val); omega))) hv⟩

theorem value2 : @Cert.algebraic_Kernel2Ideal_Reference2Ideal_pre_finite_layer Cert.Kernel2Ideal.Gen.facts Cert.Reference2Ideal.Gen.facts Cert.Pre_finite_layer.facts := by
  pair_intro
  · run_from Cert.Kernel2Ideal.Mlp.run_main m g
  · run_from Cert.Reference2Ideal.Value.run m' g'
    have h0 : m' ((c.tc : Thread Cert.Reference2Ideal.nD Cert.Reference2Ideal.τ).loc Cert.Reference2Ideal.main_arg0) = _ := (hagree c).1
    have h1 : m' ((c.tc : Thread Cert.Reference2Ideal.nD Cert.Reference2Ideal.τ).loc Cert.Reference2Ideal.main_arg1) = _ := (hagree c).2.1
    have h2 : m' ((c.tc : Thread Cert.Reference2Ideal.nD Cert.Reference2Ideal.τ).loc Cert.Reference2Ideal.main_arg2) = _ := (hagree c).2.2.1
    have h3 : m' ((c.tc : Thread Cert.Reference2Ideal.nD Cert.Reference2Ideal.τ).loc Cert.Reference2Ideal.main_arg3) = _ := (hagree c).2.2.2.1
    have h4 : m' ((c.tc : Thread Cert.Reference2Ideal.nD Cert.Reference2Ideal.τ).loc Cert.Reference2Ideal.main_arg4) = _ := (hagree c).2.2.2.2.1
    have h5 : m' ((c.tc : Thread Cert.Reference2Ideal.nD Cert.Reference2Ideal.τ).loc Cert.Reference2Ideal.main_arg5) = _ := (hagree c).2.2.2.2.2
    rw [Cert.Reference2Ideal.Mlp.res_eq, h0, h1, h2, h3, h4, h5]
    exact (mlp_eq m c).trans (Cert.Kernel2Ideal.Mlp.final m c (real_args m c hpre)).symm

section
attribute [local instance] Cert.Kernel3.Gen.facts Cert.Kernel3Ideal.Gen.facts

/-- The two programs of the first MLP have one text, so their body tables are equal. -/
theorem first_bodies_eq : Cert.Kernel3.defs₀ (F := Bits) = Cert.Kernel3Ideal.defs₀ (F := Bits) := by
  funext p ℓ a
  cases p with
  | tc =>
    match ℓ, a with
    | ⟨0, _⟩, (t, s) => rfl
  | scScalar _ => rfl
  | scVector _ _ => rfl

theorem first_table_eq : Cert.Kernel3.defs (F := Bits) = Cert.Kernel3Ideal.defs (F := Bits) :=
  congrArg (Pipeline.defs (Cert.Kernel3Ideal.pcfgs (F := Bits))) first_bodies_eq

end

theorem kernel3_frame : @Cert.quiescent_Kernel3 Cert.Kernel3.Gen.facts := by
  intro m ρ _
  have h := Cert.Kernel3Ideal.Mlp.frame (F := Bits) m ρ
  rw [← first_table_eq] at h
  exact h

theorem ideal3_frame : @Cert.quiescent_Kernel3Ideal Cert.Kernel3Ideal.Gen.facts := fun m ρ _ => Cert.Kernel3Ideal.Mlp.frame m ρ

theorem ideal3_frame_pre : @Cert.quiescent_Kernel3Ideal_pre_finite_first Cert.Kernel3Ideal.Gen.facts Cert.Pre_finite_first.facts :=
  fun m ρ _ => Cert.Kernel3Ideal.Mlp.frame m ρ

theorem reference3_frame : @Cert.quiescent_Reference3Ideal Cert.Reference3Ideal.Gen.facts := by
  intro m g _
  exact (θ_run _ _ _).mono (fun r h => ⟨fun c => (h c).2, sem_eq_zero_of_no_sems (by rfl) r.2⟩) (Cert.Reference3Ideal.Value.run m g)

theorem reference3_frame_pre : @Cert.quiescent_Reference3Ideal_pre_finite_first Cert.Reference3Ideal.Gen.facts Cert.Pre_finite_first.facts :=
  fun m g _ => reference3_frame m g trivial

/-- The reference of the first MLP on a memory's arguments is the kernel's output array. -/
theorem first_eq (m : (ℓ : Loc Cert.Kernel3Ideal.nD Cert.Kernel3Ideal.τ Cert.Kernel3Ideal.sig) → Buf (Elt Ideal) ℓ) (c : Dev Cert.Kernel3Ideal.nD) :
    Cert.Reference3Ideal.Mlp.mlpRef (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) = Cert.Kernel3Ideal.Mlp.mlpOut m c := by
  funext y
  obtain ⟨R, j, rfl⟩ : ∃ (R : Fin 16384) (j : Fin 2048), y = ix2 R j := ⟨y 0, y 1, by idx_vars y⟩
  exact Cert.Reference3Ideal.Mlp.mlpRef_at _ _ _ _ _ R _ rfl j

theorem first_real (m : (ℓ : Loc Cert.Kernel3Ideal.nD Cert.Kernel3Ideal.τ Cert.Kernel3Ideal.sig) → Buf (Elt Ideal) ℓ) (c : Dev Cert.Kernel3Ideal.nD)
    (h : @Cert.Pre_Kernel3Ideal_finite_first Cert.Pre_finite_first.facts m) : Cert.Kernel3Ideal.Mlp.RealArgs m c := by
  obtain ⟨hy, hg, hu, hd⟩ := Cert.Pre_finite_first.real_of_fn _ _ _ _ _ _ (h c)
  refine ⟨fun b k => hy b ⟨k.val, by omega⟩, fun b k => ?_, fun b k => ?_, hg, hu, hd⟩
  · obtain ⟨v, hv⟩ := hy b ⟨2048 + k.val, by omega⟩
    exact ⟨v, Eq.trans (congrArg (fun q => (m ((c.tc : Thread Cert.Kernel3Ideal.nD Cert.Kernel3Ideal.τ).loc Cert.Kernel3Ideal.main_arg1) : FVec Ideal Cert.Kernel3Ideal.S2x4x12288 .f32) (ix3 0 b q))
      (Fin.ext (by show 8192 + k.val = 6144 + (2048 + k.val); omega))) hv⟩
  · obtain ⟨v, hv⟩ := hy b ⟨4096 + k.val, by omega⟩
    exact ⟨v, Eq.trans (congrArg (fun q => (m ((c.tc : Thread Cert.Kernel3Ideal.nD Cert.Kernel3Ideal.τ).loc Cert.Kernel3Ideal.main_arg1) : FVec Ideal Cert.Kernel3Ideal.S2x4x12288 .f32) (ix3 0 b q))
      (Fin.ext (by show 10240 + k.val = 6144 + (4096 + k.val); omega))) hv⟩

theorem value3 : @Cert.algebraic_Kernel3Ideal_Reference3Ideal_pre_finite_first Cert.Kernel3Ideal.Gen.facts Cert.Reference3Ideal.Gen.facts Cert.Pre_finite_first.facts := by
  pair_intro
  · run_from Cert.Kernel3Ideal.Mlp.run_main m g
  · run_from Cert.Reference3Ideal.Value.run m' g'
    have h0 : m' ((c.tc : Thread Cert.Reference3Ideal.nD Cert.Reference3Ideal.τ).loc Cert.Reference3Ideal.main_arg0) = _ := (hagree c).1
    have h1 : m' ((c.tc : Thread Cert.Reference3Ideal.nD Cert.Reference3Ideal.τ).loc Cert.Reference3Ideal.main_arg1) = _ := (hagree c).2.1
    have h2 : m' ((c.tc : Thread Cert.Reference3Ideal.nD Cert.Reference3Ideal.τ).loc Cert.Reference3Ideal.main_arg2) = _ := (hagree c).2.2.1
    have h3 : m' ((c.tc : Thread Cert.Reference3Ideal.nD Cert.Reference3Ideal.τ).loc Cert.Reference3Ideal.main_arg3) = _ := (hagree c).2.2.2.1
    have h4 : m' ((c.tc : Thread Cert.Reference3Ideal.nD Cert.Reference3Ideal.τ).loc Cert.Reference3Ideal.main_arg4) = _ := (hagree c).2.2.2.2.1
    rw [Cert.Reference3Ideal.Mlp.res_eq, h0, h1, h2, h3, h4]
    exact (first_eq m c).trans (Cert.Kernel3Ideal.Mlp.final m c (first_real m c hpre)).symm

section
attribute [local instance] Cert.Kernel4.Gen.facts Cert.Kernel4Ideal.Gen.facts

/-- The two programs of the gated convolution have one text, so their body tables are equal. -/
theorem conv_bodies_eq : Cert.Kernel4.defs₀ (F := Bits) = Cert.Kernel4Ideal.defs₀ (F := Bits) := by
  funext p ℓ a
  cases p with
  | tc =>
    match ℓ, a with
    | ⟨0, _⟩, (t, s) => rfl
  | scScalar _ => rfl
  | scVector _ _ => rfl

theorem conv_table_eq : Cert.Kernel4.defs (F := Bits) = Cert.Kernel4Ideal.defs (F := Bits) :=
  congrArg (Pipeline.defs (Cert.Kernel4Ideal.pcfgs (F := Bits))) conv_bodies_eq

end

theorem kernel4_frame : @Cert.quiescent_Kernel4 Cert.Kernel4.Gen.facts := by
  intro m ρ _
  have h := Cert.Kernel4Ideal.Conv.frame (F := Bits) m ρ
  rw [← conv_table_eq] at h
  exact h

theorem ideal4_frame : @Cert.quiescent_Kernel4Ideal Cert.Kernel4Ideal.Gen.facts := fun m ρ _ => Cert.Kernel4Ideal.Conv.frame m ρ

theorem reference4_frame : @Cert.quiescent_Reference4Ideal Cert.Reference4Ideal.Gen.facts := by
  intro m g _
  exact (θ_run _ _ _).mono (fun r h => ⟨fun c => (h c).2, sem_eq_zero_of_no_sems (by rfl) r.2⟩) (Cert.Reference4Ideal.Value.run m g)

/-- The reference of the gated convolution on a memory's arguments is the kernel's output array. -/
theorem conv_eq (m : (ℓ : Loc Cert.Kernel4Ideal.nD Cert.Kernel4Ideal.τ Cert.Kernel4Ideal.sig) → Buf (Elt Ideal) ℓ) (c : Dev Cert.Kernel4Ideal.nD) :
    Cert.Reference4Ideal.Conv.convRef (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5)) = Cert.Kernel4Ideal.Conv.convOut m c := by
  funext y
  obtain ⟨R, j, rfl⟩ : ∃ (R : Fin 16384) (j : Fin 2048), y = ix2 R j := ⟨y 0, y 1, by idx_vars y⟩
  exact Cert.Reference4Ideal.Conv.convRef_at _ _ _ _ _ _ R ⟨R.val / 4096, Nat.div_lt_of_lt_mul R.isLt⟩ ⟨R.val % 4096, Nat.mod_lt _ (by decide)⟩
    (by show R.val = 4096 * (R.val / 4096) + R.val % 4096; omega) j

theorem value4 : @Cert.algebraic_Kernel4Ideal_Reference4Ideal Cert.Kernel4Ideal.Gen.facts Cert.Reference4Ideal.Gen.facts := by
  pair_intro
  · run_from Cert.Kernel4Ideal.Conv.run_main m g
  · run_from Cert.Reference4Ideal.Value.run m' g'
    have h0 : m' ((c.tc : Thread Cert.Reference4Ideal.nD Cert.Reference4Ideal.τ).loc Cert.Reference4Ideal.main_arg0) = _ := (hagree c).1
    have h1 : m' ((c.tc : Thread Cert.Reference4Ideal.nD Cert.Reference4Ideal.τ).loc Cert.Reference4Ideal.main_arg1) = _ := (hagree c).2.1
    have h2 : m' ((c.tc : Thread Cert.Reference4Ideal.nD Cert.Reference4Ideal.τ).loc Cert.Reference4Ideal.main_arg2) = _ := (hagree c).2.2.1
    have h3 : m' ((c.tc : Thread Cert.Reference4Ideal.nD Cert.Reference4Ideal.τ).loc Cert.Reference4Ideal.main_arg3) = _ := (hagree c).2.2.2.1
    have h4 : m' ((c.tc : Thread Cert.Reference4Ideal.nD Cert.Reference4Ideal.τ).loc Cert.Reference4Ideal.main_arg4) = _ := (hagree c).2.2.2.2.1
    have h5 : m' ((c.tc : Thread Cert.Reference4Ideal.nD Cert.Reference4Ideal.τ).loc Cert.Reference4Ideal.main_arg5) = _ := (hagree c).2.2.2.2.2
    rw [Cert.Reference4Ideal.Conv.res_eq, h0, h1, h2, h3, h4, h5]
    exact (conv_eq m c).trans (Cert.Kernel4Ideal.Conv.final m c).symm

theorem kernel5_frame : @Cert.quiescent_Kernel5 Cert.Kernel5.Gen.facts := fun m ρ _ => Cert.Kernel5.Gen.frame m ρ

theorem ideal5_frame : @Cert.quiescent_Kernel5Ideal Cert.Kernel5Ideal.Gen.facts := fun m ρ _ => Cert.Kernel5Ideal.Gen.frame m ρ

theorem reference5_frame : @Cert.quiescent_Reference5Ideal Cert.Reference5Ideal.Gen.facts := by
  intro m g _
  exact (θ_run _ _ _).mono (fun r h => ⟨fun c => (h c).2, sem_eq_zero_of_no_sems (by rfl) r.2⟩) (Cert.Reference5Ideal.Value.run m g)

theorem value5 : @Cert.algebraic_Kernel5Ideal_Reference5Ideal Cert.Kernel5Ideal.Gen.facts Cert.Reference5Ideal.Gen.facts := by
  pair_intro
  · run_from Cert.Kernel5Ideal.Value.run_blocks m g
  · run_from Cert.Reference5Ideal.Value.run m' g'
    exact (Cert.Reference5Ideal.Outproj.res_eq _ _ _ _).trans (Cert.Kernel5Ideal.Outproj.final m c).symm

theorem kernel6_frame : @Cert.quiescent_Kernel6 Cert.Kernel6.Gen.facts := fun m ρ _ => Cert.Kernel6.Gen.frame m ρ

theorem ideal6_frame : @Cert.quiescent_Kernel6Ideal Cert.Kernel6Ideal.Gen.facts := fun m ρ _ => Cert.Kernel6Ideal.Gen.frame m ρ

theorem reference6_frame : @Cert.quiescent_Reference6Ideal Cert.Reference6Ideal.Gen.facts := by
  intro m g _
  exact (θ_run _ _ _).mono (fun r h => ⟨fun c => (h c).2, sem_eq_zero_of_no_sems (by rfl) r.2⟩) (Cert.Reference6Ideal.Value.run m g)

theorem value6 : @Cert.algebraic_Kernel6Ideal_Reference6Ideal Cert.Kernel6Ideal.Gen.facts Cert.Reference6Ideal.Gen.facts := by
  pair_intro
  · run_from Cert.Kernel6Ideal.Value.run_blocks m g
  · run_from Cert.Reference6Ideal.Value.run m' g'
    exact (Cert.Reference6Ideal.Ada.mod_eq _ _ _).trans (Cert.Kernel6Ideal.Ada.final m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_logits.facts, Cert.Pre_finite_layer.facts, Cert.Pre_finite_first.facts,
  kernel_frame, ideal_frame, ideal_frame_pre, reference_frame, reference_frame_pre,
  kernel2_frame, ideal2_frame, ideal2_frame_pre, reference2_frame, reference2_frame_pre,
  kernel3_frame, ideal3_frame, ideal3_frame_pre, reference3_frame, reference3_frame_pre,
  kernel4_frame, ideal4_frame, reference4_frame, kernel5_frame, ideal5_frame, reference5_frame, kernel6_frame, ideal6_frame, reference6_frame,
  trivial, value, trivial, value2, trivial, value3, trivial, value4, trivial, value5, trivial, value6⟩

end Cert.Proof

end
